-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_finite [hPre_pool_finite : Cert.Pre_pool_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_pool_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_finite [hPre_pool_finite : Cert.Pre_pool_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_pool_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pool_finite [hKernelIdeal : Cert.KernelIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pool_finite [hReferenceIdeal : Cert.ReferenceIdeal.Facts] [hPre_pool_finite : Cert.Pre_pool_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3)
      ∧ r.2.mem ((c.tc : Thread Cert.Kernel43.nD Cert.Kernel43.τ).loc Cert.Kernel43.main_arg4) = m ((c.tc : Thread Cert.Kernel43.nD Cert.Kernel43.τ).loc Cert.Kernel43.main_arg4)
      ∧ r.2.mem ((c.tc : Thread Cert.Kernel43.nD Cert.Kernel43.τ).loc Cert.Kernel43.main_arg5) = m ((c.tc : Thread Cert.Kernel43.nD Cert.Kernel43.τ).loc Cert.Kernel43.main_arg5))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
      ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
      ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3)
      ∧ r.2.mem ((c.tc : Thread Cert.Reference43Ideal.nD Cert.Reference43Ideal.τ).loc Cert.Reference43Ideal.main_arg4) = m ((c.tc : Thread Cert.Reference43Ideal.nD Cert.Reference43Ideal.τ).loc Cert.Reference43Ideal.main_arg4)
      ∧ r.2.mem ((c.tc : Thread Cert.Reference43Ideal.nD Cert.Reference43Ideal.τ).loc Cert.Reference43Ideal.main_arg5) = m ((c.tc : Thread Cert.Reference43Ideal.nD Cert.Reference43Ideal.τ).loc Cert.Reference43Ideal.main_arg5))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2))
      ∧ r.2.sem = fun _ => 0)

def preserves_Kernel_KernelIdeal : Prop :=
  True

def algebraic_KernelIdeal_ReferenceIdeal_pre_pool_finite [hKernelIdeal : Cert.KernelIdeal.Facts] [hReferenceIdeal : Cert.ReferenceIdeal.Facts] [hPre_pool_finite : Cert.Pre_pool_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v39) = v0 c
          ∧ r.2.mem ((c.tc : Thread Cert.Reference18Ideal.nD Cert.Reference18Ideal.τ).loc Cert.Reference18Ideal.main_v22) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "bias1" .f32 0x3FC48605#32 (((5463681 / 8388608)⁻¹ : ℝ) : EReal)
  ∧ IdealRules.named_const.Statement Cert.Kernel19Ideal.κ "bias2" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "bias1" .f32 0x3FC48605#32 (((5463681 / 8388608)⁻¹ : ℝ) : EReal)
  ∧ IdealRules.named_const.Statement Cert.Kernel20Ideal.κ "bias2" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "bias1" .f32 0x3FC48605#32 (((5463681 / 8388608)⁻¹ : ℝ) : EReal)
  ∧ IdealRules.named_const.Statement Cert.Kernel21Ideal.κ "bias2" .f32 0x42C8E6D3#32 (((2672307 / 268435456)⁻¹ : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v7) = v2 c
          ∧ r.2.mem ((c.tc : Thread Cert.Reference21Ideal.nD Cert.Reference21Ideal.τ).loc Cert.Reference21Ideal.main_v13) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "bias1" .f32 0x3FC48605#32 (((5463681 / 8388608)⁻¹ : ℝ) : EReal)
  ∧ IdealRules.named_const.Statement Cert.Kernel22Ideal.κ "bias2" .f32 0x42C8E6D3#32 (((2672307 / 268435456)⁻¹ : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_v7) = v2 c
          ∧ r.2.mem ((c.tc : Thread Cert.Reference22Ideal.nD Cert.Reference22Ideal.τ).loc Cert.Reference22Ideal.main_v13) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "bias1" .f32 0x3FC48605#32 (((5463681 / 8388608)⁻¹ : ℝ) : EReal)
  ∧ IdealRules.named_const.Statement Cert.Kernel23Ideal.κ "bias2" .f32 0x42C8E6D3#32 (((2672307 / 268435456)⁻¹ : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "bias1" .f32 0x3FC48605#32 (((5463681 / 8388608)⁻¹ : ℝ) : EReal)
  ∧ IdealRules.named_const.Statement Cert.Kernel24Ideal.κ "bias2" .f32 0x42C8E6D3#32 (((2672307 / 268435456)⁻¹ : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "bias1" .f32 0x3FC48605#32 (((5463681 / 8388608)⁻¹ : ℝ) : EReal)
  ∧ IdealRules.named_const.Statement Cert.Kernel25Ideal.κ "bias2" .f32 0x42C8E6D3#32 (((2672307 / 268435456)⁻¹ : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "bias1" .f32 0x3FC48605#32 (((5463681 / 8388608)⁻¹ : ℝ) : EReal)
  ∧ IdealRules.named_const.Statement Cert.Kernel26Ideal.κ "bias2" .f32 0x42C8E6D3#32 (((2672307 / 268435456)⁻¹ : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  IdealRules.named_const.Statement Cert.Kernel27Ideal.κ "bias1" .f32 0x3FC48605#32 (((5463681 / 8388608)⁻¹ : ℝ) : EReal)
  ∧ IdealRules.named_const.Statement Cert.Kernel27Ideal.κ "bias2" .f32 0x42C8E6D3#32 (((2672307 / 268435456)⁻¹ : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  IdealRules.named_const.Statement Cert.Kernel28Ideal.κ "bias1" .f32 0x3FC48605#32 (((5463681 / 8388608)⁻¹ : ℝ) : EReal)
  ∧ IdealRules.named_const.Statement Cert.Kernel28Ideal.κ "bias2" .f32 0x42C8E6D3#32 (((2672307 / 268435456)⁻¹ : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  IdealRules.named_const.Statement Cert.Kernel29Ideal.κ "bias1" .f32 0x3FC48605#32 (((5463681 / 8388608)⁻¹ : ℝ) : EReal)
  ∧ IdealRules.named_const.Statement Cert.Kernel29Ideal.κ "bias2" .f32 0x42C8E6D3#32 (((2672307 / 268435456)⁻¹ : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  IdealRules.named_const.Statement Cert.Kernel30Ideal.κ "bias1" .f32 0x3FC48605#32 (((5463681 / 8388608)⁻¹ : ℝ) : EReal)
  ∧ IdealRules.named_const.Statement Cert.Kernel30Ideal.κ "bias2" .f32 0x42C8E6D3#32 (((2672307 / 268435456)⁻¹ : ℝ) : EReal)

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  IdealRules.named_const.Statement Cert.Kernel31Ideal.κ "bias1" .f32 0x3FC48605#32 (((5463681 / 8388608)⁻¹ : ℝ) : EReal)
  ∧ IdealRules.named_const.Statement Cert.Kernel31Ideal.κ "bias2" .f32 0x42C8E6D3#32 (((2672307 / 268435456)⁻¹ : ℝ) : EReal)

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  IdealRules.named_const.Statement Cert.Kernel32Ideal.κ "bias1" .f32 0x3FC48605#32 (((5463681 / 8388608)⁻¹ : ℝ) : EReal)
  ∧ IdealRules.named_const.Statement Cert.Kernel32Ideal.κ "bias2" .f32 0x42C8E6D3#32 (((2672307 / 268435456)⁻¹ : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  IdealRules.named_const.Statement Cert.Kernel33Ideal.κ "bias1" .f32 0x3FC48605#32 (((5463681 / 8388608)⁻¹ : ℝ) : EReal)
  ∧ IdealRules.named_const.Statement Cert.Kernel33Ideal.κ "bias2" .f32 0x42C8E6D3#32 (((2672307 / 268435456)⁻¹ : ℝ) : EReal)

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v4) = v0 c
          ∧ r.2.mem ((c.tc : Thread Cert.Reference33Ideal.nD Cert.Reference33Ideal.τ).loc Cert.Reference33Ideal.main_v28) = v1 c
          ∧ r.2.mem ((c.tc : Thread Cert.Reference33Ideal.nD Cert.Reference33Ideal.τ).loc Cert.Reference33Ideal.main_v9) = v2 c
          ∧ r.2.mem ((c.tc : Thread Cert.Reference33Ideal.nD Cert.Reference33Ideal.τ).loc Cert.Reference33Ideal.main_v15) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  IdealRules.named_const.Statement Cert.Kernel34Ideal.κ "bias1" .f32 0x3FC48605#32 (((5463681 / 8388608)⁻¹ : ℝ) : EReal)
  ∧ IdealRules.named_const.Statement Cert.Kernel34Ideal.κ "bias2" .f32 0x42C8E6D3#32 (((2672307 / 268435456)⁻¹ : ℝ) : EReal)

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_v28) = v1 c
          ∧ r.2.mem ((c.tc : Thread Cert.Reference34Ideal.nD Cert.Reference34Ideal.τ).loc Cert.Reference34Ideal.main_v9) = v2 c
          ∧ r.2.mem ((c.tc : Thread Cert.Reference34Ideal.nD Cert.Reference34Ideal.τ).loc Cert.Reference34Ideal.main_v15) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)) (v4 : (c : Dev Cert.Kernel35Ideal.nD) → Buf (Elt Ideal) ((c.tc : Thread Cert.Kernel35Ideal.nD Cert.Kernel35Ideal.τ).loc Cert.Kernel35Ideal.main_v0_4)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_v0_4) = v4 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_v1) = v1 c
          ∧ r.2.mem ((c.tc : Thread Cert.Reference35Ideal.nD Cert.Reference35Ideal.τ).loc Cert.Reference35Ideal.main_v2) = v2 c
          ∧ r.2.mem ((c.tc : Thread Cert.Reference35Ideal.nD Cert.Reference35Ideal.τ).loc Cert.Reference35Ideal.main_v3) = v3 c
          ∧ r.2.mem ((c.tc : Thread Cert.Reference35Ideal.nD Cert.Reference35Ideal.τ).loc Cert.Reference35Ideal.main_v4) = v4 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v3) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v3) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v3) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v5) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v7) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v3) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v9) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)
      ∧ m' ((c.tc : Thread Cert.Reference43Ideal.nD Cert.Reference43Ideal.τ).loc Cert.Reference43Ideal.main_arg4) = m ((c.tc : Thread Cert.Kernel43Ideal.nD Cert.Kernel43Ideal.τ).loc Cert.Kernel43Ideal.main_arg4)
      ∧ m' ((c.tc : Thread Cert.Reference43Ideal.nD Cert.Reference43Ideal.τ).loc Cert.Reference43Ideal.main_arg5) = m ((c.tc : Thread Cert.Kernel43Ideal.nD Cert.Kernel43Ideal.τ).loc Cert.Kernel43Ideal.main_arg5)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
          ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4)
          ∧ r.2.mem ((c.tc : Thread Cert.Kernel43Ideal.nD Cert.Kernel43Ideal.τ).loc Cert.Kernel43Ideal.main_arg5) = m ((c.tc : Thread Cert.Kernel43Ideal.nD Cert.Kernel43Ideal.τ).loc Cert.Kernel43Ideal.main_arg5))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v40) = v0 c
          ∧ r.2.mem ((c.tc : Thread Cert.Reference43Ideal.nD Cert.Reference43Ideal.τ).loc Cert.Reference43Ideal.main_v23) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3)
          ∧ r.2.mem ((c.tc : Thread Cert.Reference43Ideal.nD Cert.Reference43Ideal.τ).loc Cert.Reference43Ideal.main_arg4) = m' ((c.tc : Thread Cert.Reference43Ideal.nD Cert.Reference43Ideal.τ).loc Cert.Reference43Ideal.main_arg4)
          ∧ r.2.mem ((c.tc : Thread Cert.Reference43Ideal.nD Cert.Reference43Ideal.τ).loc Cert.Reference43Ideal.main_arg5) = m' ((c.tc : Thread Cert.Reference43Ideal.nD Cert.Reference43Ideal.τ).loc Cert.Reference43Ideal.main_arg5))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v12) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)) (v2 : (c : Dev Cert.Kernel45Ideal.nD) → Buf (Elt Ideal) ((c.tc : Thread Cert.Kernel45Ideal.nD Cert.Kernel45Ideal.τ).loc Cert.Kernel45Ideal.main_v0_2)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_v0_2) = v2 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v49) = v0 c
          ∧ r.2.mem ((c.tc : Thread Cert.Reference45Ideal.nD Cert.Reference45Ideal.τ).loc Cert.Reference45Ideal.main_v48) = v1 c
          ∧ r.2.mem ((c.tc : Thread Cert.Reference45Ideal.nD Cert.Reference45Ideal.τ).loc Cert.Reference45Ideal.main_v32) = v2 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v20) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)) →
    ∃ (v0 : (c : Dev Cert.Kernel47Ideal.nD) → Buf (Elt Ideal) ((c.tc : Thread Cert.Kernel47Ideal.nD Cert.Kernel47Ideal.τ).loc Cert.Kernel47Ideal.main_v0)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v39) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hPre_pool_finite : Cert.Pre_pool_finite.Facts),
    quiescent_Kernel (hKernel := hKernel)
    ∧ quiescent_KernelIdeal (hKernelIdeal := hKernelIdeal)
    ∧ quiescent_KernelIdeal_pre_pool_finite (hKernelIdeal := hKernelIdeal) (hPre_pool_finite := hPre_pool_finite)
    ∧ quiescent_ReferenceIdeal (hReferenceIdeal := hReferenceIdeal)
    ∧ quiescent_ReferenceIdeal_pre_pool_finite (hReferenceIdeal := hReferenceIdeal) (hPre_pool_finite := hPre_pool_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ preserves_Kernel_KernelIdeal
    ∧ algebraic_KernelIdeal_ReferenceIdeal_pre_pool_finite (hKernelIdeal := hKernelIdeal) (hReferenceIdeal := hReferenceIdeal) (hPre_pool_finite := hPre_pool_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
-- ==== Pre_pool_finite.lean ====
abbrev S4096x1280 : Shape := ⟨2, ![4096, 1280]⟩
abbrev S4x128x128 : Shape := ⟨3, ![4, 128, 128]⟩
abbrev S1x512 : Shape := ⟨2, ![1, 512]⟩
abbrev S4096x1024 : Shape := ⟨2, ![4096, 1024]⟩
abbrev S_ : Shape := ⟨0, ![]⟩

class Facts : Prop where
  bcast_S_S4096x1280 : S_.BroadcastsInDim S4096x1280 (![] : Fin 0 → Fin S4096x1280.rank)
  bcast_S_S4x128x128 : S_.BroadcastsInDim S4x128x128 (![] : Fin 0 → Fin S4x128x128.rank)
  bcast_S_S1x512 : S_.BroadcastsInDim S1x512 (![] : Fin 0 → Fin S1x512.rank)
  bcast_S_S4096x1024 : S_.BroadcastsInDim S4096x1024 (![] : Fin 0 → Fin S4096x1024.rank)

variable [Facts]

def fn {F : FTy → Type} [FloatOps F] (main_arg0 : FVec F S4096x1280 .f32) (main_arg1 : FVec F S4x128x128 .f32) (main_arg2 : FVec F S1x512 .f32) (main_arg3 : FVec F S4096x1024 .f32) (main_arg4 : FVec F S4096x1280 .f32) : IVec S4096x1280 1 × IVec S4x128x128 1 × IVec S1x512 1 × IVec S4096x1024 1 :=
  let main_v0 : FVec F S4096x1280 .f32 := Host.absf main_arg0
  let main_cst : FVec F S_ .f32 := constant S_ .f32 0x7F800000#32
  let main_v1 : FVec F S4096x1280 .f32 := broadcastInDim S4096x1280 ![] bcast_S_S4096x1280 main_cst
  let main_v2 : IVec S4096x1280 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x1280 : Shape := ⟨2, ![4096, 1280]⟩
abbrev S4x128x128 : Shape := ⟨3, ![4, 128, 128]⟩
abbrev S1x512 : Shape := ⟨2, ![1, 512]⟩
abbrev S4096x1024 : Shape := ⟨2, ![4096, 1024]⟩
abbrev S4096x128 : Shape := ⟨2, ![4096, 128]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S4096x1280, .f32⟩
  | .hbm, ⟨1, _⟩ => ⟨S4x128x128, .f32⟩
  | .hbm, ⟨2, _⟩ => ⟨S1x512, .f32⟩
  | .hbm, ⟨3, _⟩ => ⟨S4096x1024, .f32⟩
  | .hbm, ⟨4, _⟩ => ⟨S4096x1280, .f32⟩
  | .hbm, ⟨5, _⟩ => ⟨S4096x1280, .f32⟩
  | .hbm, ⟨6, _⟩ => ⟨S4x128x128, .f32⟩
  | .hbm, ⟨7, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S1x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x1280 : Shape := ⟨2, ![4096, 1280]⟩
abbrev S4x128x128 : Shape := ⟨3, ![4, 128, 128]⟩
abbrev S1x512 : Shape := ⟨2, ![1, 512]⟩
abbrev S4096x1024 : Shape := ⟨2, ![4096, 1024]⟩
abbrev S4096x512 : Shape := ⟨2, ![4096, 512]⟩
abbrev S4096x4x128 : Shape := ⟨3, ![4096, 4, 128]⟩
abbrev S_ : Shape := ⟨0, ![]⟩
abbrev S1x4x128 : Shape := ⟨3, ![1, 4, 128]⟩
abbrev S4097x4x128 : Shape := ⟨3, ![4097, 4, 128]⟩
abbrev S4096 : Shape := ⟨1, ![4096]⟩
abbrev S4096x1x128 : Shape := ⟨3, ![4096, 1, 128]⟩
abbrev S4096x128 : Shape := ⟨2, ![4096, 128]⟩
abbrev S1x128 : Shape := ⟨2, ![1, 128]⟩
abbrev S4095x1x128 : Shape := ⟨3, ![4095, 1, 128]⟩
abbrev S4095x128 : Shape := ⟨2, ![4095, 128]⟩
abbrev S4096x1 : Shape := ⟨2, ![4096, 1]⟩
abbrev S3x128 : Shape := ⟨2, ![3, 128]⟩
abbrev S4093x1x128 : Shape := ⟨3, ![4093, 1, 128]⟩
abbrev S4093x128 : Shape := ⟨2, ![4093, 128]⟩
abbrev S7x128 : Shape := ⟨2, ![7, 128]⟩
abbrev S4089x1x128 : Shape := ⟨3, ![4089, 1, 128]⟩
abbrev S4089x128 : Shape := ⟨2, ![4089, 128]⟩
abbrev S15x128 : Shape := ⟨2, ![15, 128]⟩
abbrev S4081x1x128 : Shape := ⟨3, ![4081, 1, 128]⟩
abbrev S4081x128 : Shape := ⟨2, ![4081, 128]⟩
abbrev S4x128x4096 : Shape := ⟨3, ![4, 128, 4096]⟩
abbrev S512 : Shape := ⟨1, ![512]⟩
abbrev S4x4096x128 : Shape := ⟨3, ![4, 4096, 128]⟩
abbrev S4096x768 : Shape := ⟨2, ![4096, 768]⟩

abbrev nBuf : Space → Nat
  | .hbm => 180
  | .vmem => 0
  | .smem => 0
  | _ => 0

abbrev hbmTy0_0 (i : Nat) : BufTy := match i % 128 with
  | 0 => ⟨S4096x1280, .f32⟩
  | 1 => ⟨S4x128x128, .f32⟩
  | 2 => ⟨S1x512, .f32⟩
  | 3 => ⟨S4096x1024, .f32⟩
  | 4 => ⟨S4096x1280, .f32⟩
  | 5 => ⟨S4096x512, .f32⟩
  | 6 => ⟨S4096x4x128, .f32⟩
  | 7 => ⟨S_, .f32⟩
  | 8 => ⟨S1x4x128, .f32⟩
  | 9 => ⟨S_, .f32⟩
  | 10 => ⟨S_, .f32⟩
  | 11 => ⟨S4096x4x128, .f32⟩
  | 12 => ⟨S4097x4x128, .f32⟩
  | 13 => ⟨S_, .f32⟩
  | 14 => ⟨S1x4x128, .f32⟩
  | 15 => ⟨S4096, .i32⟩
  | 16 => ⟨S_, .i32⟩
  | 17 => ⟨S4096, .i32⟩
  | 18 => ⟨S4096, .i32⟩
  | 19 => ⟨S4096x1x128, .f32⟩
  | 20 => ⟨S4096x128, .f32⟩
  | 21 => ⟨S_, .f32⟩
  | 22 => ⟨S1x128, .f32⟩
  | 23 => ⟨S4095x1x128, .f32⟩
  | 24 => ⟨S4095x128, .f32⟩
  | 25 => ⟨S4096x128, .f32⟩
  | 26 => ⟨S_, .f32⟩
  | 27 => ⟨S1x128, .f32⟩
  | 28 => ⟨S_, .i32⟩
  | 29 => ⟨S4096, .i32⟩
  | 30 => ⟨S4096, .i32⟩
  | 31 => ⟨S4096, .f32⟩
  | 32 => ⟨S4096x1, .f32⟩
  | 33 => ⟨S4096x128, .f32⟩
  | 34 => ⟨S4096x128, .f32⟩
  | 35 => ⟨S4096x128, .f32⟩
  | 36 => ⟨S4096x1x128, .f32⟩
  | 37 => ⟨S4096x128, .f32⟩
  | 38 => ⟨S_, .f32⟩
  | 39 => ⟨S3x128, .f32⟩
  | 40 => ⟨S4093x1x128, .f32⟩
  | 41 => ⟨S4093x128, .f32⟩
  | 42 => ⟨S4096x128, .f32⟩
  | 43 => ⟨S_, .f32⟩
  | 44 => ⟨S3x128, .f32⟩
  | 45 => ⟨S_, .i32⟩
  | 46 => ⟨S4096, .i32⟩
  | 47 => ⟨S4096, .i32⟩
  | 48 => ⟨S4096, .f32⟩
  | 49 => ⟨S4096x1, .f32⟩
  | 50 => ⟨S4096x128, .f32⟩
  | 51 => ⟨S4096x128, .f32⟩
  | 52 => ⟨S4096x128, .f32⟩
  | 53 => ⟨S4096x1x128, .f32⟩
  | 54 => ⟨S4096x128, .f32⟩
  | 55 => ⟨S_, .f32⟩
  | 56 => ⟨S7x128, .f32⟩
  | 57 => ⟨S4089x1x128, .f32⟩
  | 58 => ⟨S4089x128, .f32⟩
  | 59 => ⟨S4096x128, .f32⟩
  | 60 => ⟨S_, .f32⟩
  | 61 => ⟨S7x128, .f32⟩
  | 62 => ⟨S_, .i32⟩
  | 63 => ⟨S4096, .i32⟩
  | 64 => ⟨S4096, .i32⟩
  | 65 => ⟨S4096, .f32⟩
  | 66 => ⟨S4096x1, .f32⟩
  | 67 => ⟨S4096x128, .f32⟩
  | 68 => ⟨S4096x128, .f32⟩
  | 69 => ⟨S4096x128, .f32⟩
  | 70 => ⟨S4096x1x128, .f32⟩
  | 71 => ⟨S4096x128, .f32⟩
  | 72 => ⟨S_, .f32⟩
  | 73 => ⟨S15x128, .f32⟩
  | 74 => ⟨S4081x1x128, .f32⟩
  | 75 => ⟨S4081x128, .f32⟩
  | 76 => ⟨S4096x128, .f32⟩
  | 77 => ⟨S_, .f32⟩
  | 78 => ⟨S15x128, .f32⟩
  | 79 => ⟨S_, .i32⟩
  | 80 => ⟨S4096, .i32⟩
  | 81 => ⟨S4096, .i32⟩
  | 82 => ⟨S4096, .f32⟩
  | 83 => ⟨S4096x1, .f32⟩
  | 84 => ⟨S4096x128, .f32⟩
  | 85 => ⟨S4096x128, .f32⟩
  | 86 => ⟨S4096x128, .f32⟩
  | 87 => ⟨S4096x1x128, .f32⟩
  | 88 => ⟨S4096x1x128, .f32⟩
  | 89 => ⟨S4096x1x128, .f32⟩
  | 90 => ⟨S4096x1x128, .f32⟩
  | 91 => ⟨S4096x4x128, .f32⟩
  | 92 => ⟨S4096x4x128, .f32⟩
  | 93 => ⟨S4x128x4096, .f32⟩
  | 94 => ⟨S4096x4x128, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S4096x512, .f32⟩
  | 104 => ⟨S4096x512, .f32⟩
  | 105 => ⟨S4096x4x128, .f32⟩
  | 106 => ⟨S4x128x4096, .f32⟩
  | 107 => ⟨S4x4096x128, .f32⟩
  | 108 => ⟨S4096x4x128, .f32⟩
  | 109 => ⟨S4x128x128, .f32⟩
  | 110 => ⟨S4x128x128, .f32⟩
  | 111 => ⟨S4096x4x128, .f32⟩
  | 112 => ⟨S4096x1x128, .f32⟩
  | 113 => ⟨S4096x128, .f32⟩
  | 114 => ⟨S4096x1x128, .f32⟩
  | 115 => ⟨S4096x128, .f32⟩
  | 116 => ⟨S4096x1x128, .f32⟩
  | 117 => ⟨S4096x128, .f32⟩
  | 118 => ⟨S4096x1x128, .f32⟩
  | 119 => ⟨S4096x128, .f32⟩
  | 120 => ⟨S4096x128, .f32⟩
  | 121 => ⟨S4096x128, .f32⟩
  | 122 => ⟨S4096x128, .f32⟩
  | 123 => ⟨S15x128, .f32⟩
  | 124 => ⟨S4081x128, .f32⟩
  | 125 => ⟨S4081x1x128, .f32⟩
  | 126 => ⟨S_, .f32⟩
  | 127 => ⟨S4097x4x128, .f32⟩
  | _ => ⟨S4096x1280, .f32⟩

abbrev hbmTy0_1 (i : Nat) : BufTy := match i % 128 with
  | 0 => ⟨S4096x1x128, .f32⟩
  | 1 => ⟨S_, .f32⟩
  | 2 => ⟨S4097x4x128, .f32⟩
  | 3 => ⟨S4097x4x128, .f32⟩
  | 4 => ⟨S4096x128, .f32⟩
  | 5 => ⟨S4096x128, .f32⟩
  | 6 => ⟨S4096x128, .f32⟩
  | 7 => ⟨S7x128, .f32⟩
  | 8 => ⟨S4089x128, .f32⟩
  | 9 => ⟨S4089x1x128, .f32⟩
  | 10 => ⟨S_, .f32⟩
  | 11 => ⟨S4097x4x128, .f32⟩
  | 12 => ⟨S4097x4x128, .f32⟩
  | 13 => ⟨S4096x1x128, .f32⟩
  | 14 => ⟨S_, .f32⟩
  | 15 => ⟨S4097x4x128, .f32⟩
  | 16 => ⟨S4097x4x128, .f32⟩
  | 17 => ⟨S4096x128, .f32⟩
  | 18 => ⟨S4096x128, .f32⟩
  | 19 => ⟨S4096x128, .f32⟩
  | 20 => ⟨S3x128, .f32⟩
  | 21 => ⟨S4093x128, .f32⟩
  | 22 => ⟨S4093x1x128, .f32⟩
  | 23 => ⟨S_, .f32⟩
  | 24 => ⟨S4097x4x128, .f32⟩
  | 25 => ⟨S4097x4x128, .f32⟩
  | 26 => ⟨S4096x1x128, .f32⟩
  | 27 => ⟨S_, .f32⟩
  | 28 => ⟨S4097x4x128, .f32⟩
  | 29 => ⟨S4097x4x128, .f32⟩
  | 30 => ⟨S4096x128, .f32⟩
  | 31 => ⟨S4096x128, .f32⟩
  | 32 => ⟨S4096x128, .f32⟩
  | 33 => ⟨S1x128, .f32⟩
  | 34 => ⟨S4095x128, .f32⟩
  | 35 => ⟨S4095x1x128, .f32⟩
  | 36 => ⟨S_, .f32⟩
  | 37 => ⟨S4097x4x128, .f32⟩
  | 38 => ⟨S4097x4x128, .f32⟩
  | 39 => ⟨S4096x1x128, .f32⟩
  | 40 => ⟨S_, .f32⟩
  | 41 => ⟨S4097x4x128, .f32⟩
  | 42 => ⟨S4097x4x128, .f32⟩
  | 43 => ⟨S1x4x128, .f32⟩
  | 44 => ⟨S4096x4x128, .f32⟩
  | 45 => ⟨S_, .f32⟩
  | 46 => ⟨S_, .f32⟩
  | 47 => ⟨S4096x4x128, .f32⟩
  | 48 => ⟨S4096x4x128, .f32⟩
  | 49 => ⟨S4096x512, .f32⟩
  | 50 => ⟨S4096x768, .f32⟩
  | 51 => ⟨S4096x1280, .f32⟩
  | _ => ⟨S4096x1280, .f32⟩

abbrev hbmTy (i : Nat) : BufTy := match i / 128 with
  | 0 => hbmTy0_0 i
  | 1 => hbmTy0_1 i
  | _ => ⟨S4096x1280, .f32⟩

abbrev bufTy : (tb : Table) → Fin (tcTables nBuf tb) → BufTy
  | .hbm, ⟨i, _⟩ => hbmTy i
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_14 : Ref sig .tc := ⟨.hbm, 126, rfl⟩
abbrev main_v103 : Ref sig .tc := ⟨.hbm, 127, rfl⟩
abbrev main_v104 : Ref sig .tc := ⟨.hbm, 128, rfl⟩
abbrev main_cst_15 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_16 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_17 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_18 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_19 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_20 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_21 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_call1_call0_cst : Ref sig .tc := ⟨.hbm, 173, rfl⟩
abbrev main_call1_call0_v0 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩

abbrev nD : Nat := 1
abbrev τ : Topo := Topo.v7x

variable {F : FTy → Type} [FloatOps F]
-- ==== Kernel3.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2816 : Shape := ⟨2, ![4096, 2816]⟩
abbrev S5632x1024 : Shape := ⟨2, ![5632, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S5632x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S5632x1024 : Shape := ⟨2, ![5632, 1024]⟩
abbrev S_ : Shape := ⟨0, ![]⟩
abbrev S4096x1024 : Shape := ⟨2, ![4096, 1024]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S5632x1024, .bf16⟩
  | .hbm, ⟨2, _⟩ => ⟨S_, .f32⟩
  | .hbm, ⟨3, _⟩ => ⟨S4096x1024, .f32⟩
  | .hbm, ⟨4, _⟩ => ⟨S2816x1024, .bf16⟩
  | .hbm, ⟨5, _⟩ => ⟨S2816x1024, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference8Ideal.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩
abbrev S2816x1024 : Shape := ⟨2, ![2816, 1024]⟩
abbrev S1024x2816 : Shape := ⟨2, ![1024, 2816]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S2816x1024, .bf16⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel9.lean ====
abbrev S4096x2816 : Shape := ⟨2, ![4096, 2816]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .bf16⟩
  | .hbm, ⟨14, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S4096x1024 : Shape := ⟨2, ![4096, 1024]⟩
abbrev S6176x1024 : Shape := ⟨2, ![6176, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S6176x1024 : Shape := ⟨2, ![6176, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S2048x1024, .bf16⟩
  | .hbm, ⟨3, _⟩ => ⟨S4096x1024, .f32⟩
  | .hbm, ⟨4, _⟩ => ⟨S2048x1024, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S6176x1024 : Shape := ⟨2, ![6176, 1024]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S6176x1024 : Shape := ⟨2, ![6176, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6176x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x2048 : Shape := ⟨2, ![4096, 2048]⟩
abbrev S6176x1024 : Shape := ⟨2, ![6176, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S6176x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S6176x1024 : Shape := ⟨2, ![6176, 1024]⟩
abbrev S_ : Shape := ⟨0, ![]⟩
abbrev S4096x1024 : Shape := ⟨2, ![4096, 1024]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6176x1024, .bf16⟩
  | .hbm, ⟨2, _⟩ => ⟨S_, .f32⟩
  | .hbm, ⟨3, _⟩ => ⟨S4096x1024, .f32⟩
  | .hbm, ⟨4, _⟩ => ⟨S2048x1024, .bf16⟩
  | .hbm, ⟨5, _⟩ => ⟨S2048x1024, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x4096 : Shape := ⟨2, ![4096, 4096]⟩
abbrev S6176x1024 : Shape := ⟨2, ![6176, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S6176x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x4096 : Shape := ⟨2, ![4096, 4096]⟩
abbrev S6176x1024 : Shape := ⟨2, ![6176, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S6176x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel17.lean ====
abbrev S4096x4096 : Shape := ⟨2, ![4096, 4096]⟩
abbrev S4096x1024 : Shape := ⟨2, ![4096, 1024]⟩
abbrev S6176x1024 : Shape := ⟨2, ![6176, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S6176x1024, .bf16⟩
  | .hbm, ⟨3, _⟩ => ⟨S6176x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x4096 : Shape := ⟨2, ![4096, 4096]⟩
abbrev S4096x1024 : Shape := ⟨2, ![4096, 1024]⟩
abbrev S6176x1024 : Shape := ⟨2, ![6176, 1024]⟩
abbrev S_ : Shape := ⟨0, ![]⟩
abbrev S1024x4096 : Shape := ⟨2, ![1024, 4096]⟩
abbrev S2048x1024 : Shape := ⟨2, ![2048, 1024]⟩
abbrev S32x1024 : Shape := ⟨2, ![32, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S6176x1024, .bf16⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | .hbm, ⟨13, _⟩ => ⟨S2048x1024, .bf16⟩
  | .hbm, ⟨14, _⟩ => ⟨S32x1024, .bf16⟩
  | .hbm, ⟨15, _⟩ => ⟨S6176x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel18.lean ====
abbrev S4096x1280 : Shape := ⟨2, ![4096, 1280]⟩
abbrev S1280x1024 : Shape := ⟨2, ![1280, 1024]⟩
abbrev S4096x1024 : Shape := ⟨2, ![4096, 1024]⟩
abbrev S1x1024 : Shape := ⟨2, ![1, 1024]⟩
abbrev S1024x1280 : Shape := ⟨2, ![1024, 1280]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1280, .f32⟩
  | .hbm, ⟨1, _⟩ => ⟨S1280x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1280, .f32⟩
  | .local _ .vmem, ⟨1, _⟩ => ⟨S1024x1280, .f32⟩
  | .local _ .vmem, ⟨2, _⟩ => ⟨S1280x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference18Ideal.lean ====
abbrev S4096x1280 : Shape := ⟨2, ![4096, 1280]⟩
abbrev S1280x1024 : Shape := ⟨2, ![1280, 1024]⟩
abbrev S4096x1024 : Shape := ⟨2, ![4096, 1024]⟩
abbrev S1x1024 : Shape := ⟨2, ![1, 1024]⟩
abbrev S_ : Shape := ⟨0, ![]⟩
abbrev S1024x1280 : Shape := ⟨2, ![1024, 1280]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S1280x1024, .f32⟩
  | .hbm, ⟨8, _⟩ => ⟨S1024x1280, .f32⟩
  | .hbm, ⟨9, _⟩ => ⟨S4096x1280, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel19.lean ====
abbrev S8x772x1024 : Shape := ⟨3, ![8, 772, 1024]⟩
abbrev S1x772x1024 : Shape := ⟨3, ![1, 772, 1024]⟩
abbrev S772x1024 : Shape := ⟨2, ![772, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x772x1024, .bf16⟩
  | .hbm, ⟨1, _⟩ => ⟨S1x772x1024, .f32⟩
  | .hbm, ⟨2, _⟩ => ⟨S1x772x1024, .f32⟩
  | .hbm, ⟨3, _⟩ => ⟨S1x772x1024, .f32⟩
  | .hbm, ⟨4, _⟩ => ⟨S1x772x1024, .f32⟩
  | .hbm, ⟨5, _⟩ => ⟨S1x772x1024, .f32⟩
  | .hbm, ⟨6, _⟩ => ⟨S1x772x1024, .f32⟩
  | .hbm, ⟨7, _⟩ => ⟨S1x772x1024, .f32⟩
  | .local _ .vmem, ⟨0, _⟩ => ⟨S8x772x1024, .bf16⟩
  | .local _ .vmem, ⟨1, _⟩ => ⟨S1x772x1024, .f32⟩
  | .local _ .vmem, ⟨2, _⟩ => ⟨S1x772x1024, .f32⟩
  | .local _ .vmem, ⟨3, _⟩ => ⟨S1x772x1024, .f32⟩
  | .local _ .vmem, ⟨4, _⟩ => ⟨S1x772x1024, .f32⟩
  | .local _ .vmem, ⟨5, _⟩ => ⟨S1x772x1024, .f32⟩
  | .local _ .vmem, ⟨6, _⟩ => ⟨S1x772x1024, .f32⟩
  | .local _ .vmem, ⟨7, _⟩ => ⟨S1x772x1024, .f32⟩
  | _, _ => ⟨S8x772x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x772x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x772x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x772x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x772x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x772x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x772x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x772x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x772x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel19Ideal.lean ====
abbrev S8x772x1024 : Shape := ⟨3, ![8, 772, 1024]⟩
abbrev S1x772x1024 : Shape := ⟨3, ![1, 772, 1024]⟩
abbrev S772x1024 : Shape := ⟨2, ![772, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x772x1024, .bf16⟩
  | .hbm, ⟨1, _⟩ => ⟨S1x772x1024, .f32⟩
  | .hbm, ⟨2, _⟩ => ⟨S1x772x1024, .f32⟩
  | .hbm, ⟨3, _⟩ => ⟨S1x772x1024, .f32⟩
  | .hbm, ⟨4, _⟩ => ⟨S1x772x1024, .f32⟩
  | .hbm, ⟨5, _⟩ => ⟨S1x772x1024, .f32⟩
  | .hbm, ⟨6, _⟩ => ⟨S1x772x1024, .f32⟩
  | .hbm, ⟨7, _⟩ => ⟨S1x772x1024, .f32⟩
  | .local _ .vmem, ⟨0, _⟩ => ⟨S8x772x1024, .bf16⟩
  | .local _ .vmem, ⟨1, _⟩ => ⟨S1x772x1024, .f32⟩
  | .local _ .vmem, ⟨2, _⟩ => ⟨S1x772x1024, .f32⟩
  | .local _ .vmem, ⟨3, _⟩ => ⟨S1x772x1024, .f32⟩
  | .local _ .vmem, ⟨4, _⟩ => ⟨S1x772x1024, .f32⟩
  | .local _ .vmem, ⟨5, _⟩ => ⟨S1x772x1024, .f32⟩
  | .local _ .vmem, ⟨6, _⟩ => ⟨S1x772x1024, .f32⟩
  | .local _ .vmem, ⟨7, _⟩ => ⟨S1x772x1024, .f32⟩
  | _, _ => ⟨S8x772x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x772x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x772x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x772x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x772x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x772x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x772x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x772x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x772x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S8x772x1024 : Shape := ⟨3, ![8, 772, 1024]⟩
abbrev S1x772x1024 : Shape := ⟨3, ![1, 772, 1024]⟩
abbrev S_ : Shape := ⟨0, ![]⟩
abbrev S772x1024 : Shape := ⟨2, ![772, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x772x1024, .bf16⟩
  | .hbm, ⟨1, _⟩ => ⟨S1x772x1024, .f32⟩
  | .hbm, ⟨2, _⟩ => ⟨S1x772x1024, .f32⟩
  | .hbm, ⟨3, _⟩ => ⟨S1x772x1024, .f32⟩
  | .hbm, ⟨4, _⟩ => ⟨S8x772x1024, .f32⟩
  | .hbm, ⟨5, _⟩ => ⟨S_, .f32⟩
  | .hbm, ⟨6, _⟩ => ⟨S772x1024, .f32⟩
  | .hbm, ⟨7, _⟩ => ⟨S1x772x1024, .f32⟩
  | .hbm, ⟨8, _⟩ => ⟨S_, .f32⟩
  | .hbm, ⟨9, _⟩ => ⟨S1x772x1024, .f32⟩
  | .hbm, ⟨10, _⟩ => ⟨S1x772x1024, .f32⟩
  | .hbm, ⟨11, _⟩ => ⟨S_, .f32⟩
  | .hbm, ⟨12, _⟩ => ⟨S1x772x1024, .f32⟩
  | .hbm, ⟨13, _⟩ => ⟨S1x772x1024, .f32⟩
  | .hbm, ⟨14, _⟩ => ⟨S1x772x1024, .f32⟩
  | .hbm, ⟨15, _⟩ => ⟨S_, .f32⟩
  | .hbm, ⟨16, _⟩ => ⟨S1x772x1024, .f32⟩
  | .hbm, ⟨17, _⟩ => ⟨S1x772x1024, .f32⟩
  | .hbm, ⟨18, _⟩ => ⟨S1x772x1024, .f32⟩
  | .hbm, ⟨19, _⟩ => ⟨S_, .f32⟩
  | .hbm, ⟨20, _⟩ => ⟨S1x772x1024, .f32⟩
  | .hbm, ⟨21, _⟩ => ⟨S1x772x1024, .f32⟩
  | .hbm, ⟨22, _⟩ => ⟨S1x772x1024, .f32⟩
  | .hbm, ⟨23, _⟩ => ⟨S_, .f32⟩
  | .hbm, ⟨24, _⟩ => ⟨S1x772x1024, .f32⟩
  | .hbm, ⟨25, _⟩ => ⟨S1x772x1024, .f32⟩
  | .hbm, ⟨26, _⟩ => ⟨S_, .f32⟩
  | .hbm, ⟨27, _⟩ => ⟨S1x772x1024, .f32⟩
  | .hbm, ⟨28, _⟩ => ⟨S1x772x1024, .f32⟩
  | .hbm, ⟨29, _⟩ => ⟨S1x772x1024, .f32⟩
  | .hbm, ⟨30, _⟩ => ⟨S_, .f32⟩
  | .hbm, ⟨31, _⟩ => ⟨S1x772x1024, .f32⟩
  | .hbm, ⟨32, _⟩ => ⟨S1x772x1024, .f32⟩
  | .hbm, ⟨33, _⟩ => ⟨S1x772x1024, .f32⟩
  | .hbm, ⟨34, _⟩ => ⟨S_, .f32⟩
  | .hbm, ⟨35, _⟩ => ⟨S1x772x1024, .f32⟩
  | .hbm, ⟨36, _⟩ => ⟨S1x772x1024, .f32⟩
  | .hbm, ⟨37, _⟩ => ⟨S1x772x1024, .f32⟩
  | .hbm, ⟨38, _⟩ => ⟨S_, .f32⟩
  | .hbm, ⟨39, _⟩ => ⟨S1x772x1024, .f32⟩
  | .hbm, ⟨40, _⟩ => ⟨S1x772x1024, .f32⟩
  | _, _ => ⟨S8x772x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel20.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel20Ideal.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference20Ideal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel21.lean ====
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x160x1024, .bf16⟩
  | .hbm, ⟨1, _⟩ => ⟨S1x160x1024, .f32⟩
  | .hbm, ⟨2, _⟩ => ⟨S1x160x1024, .f32⟩
  | .hbm, ⟨3, _⟩ => ⟨S1x160x1024, .f32⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S1x160x1024, .f32⟩
  | .local _ .vmem, ⟨0, _⟩ => ⟨S8x160x1024, .bf16⟩
  | .local _ .vmem, ⟨1, _⟩ => ⟨S1x160x1024, .f32⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | _, _ => ⟨S8x160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel21Ideal.lean ====
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x160x1024, .bf16⟩
  | .hbm, ⟨1, _⟩ => ⟨S1x160x1024, .f32⟩
  | .hbm, ⟨2, _⟩ => ⟨S1x160x1024, .f32⟩
  | .hbm, ⟨3, _⟩ => ⟨S1x160x1024, .f32⟩
  | .hbm, ⟨4, _⟩ => ⟨S1x160x1024, .f32⟩
  | .hbm, ⟨5, _⟩ => ⟨S1x160x1024, .f32⟩
  | .hbm, ⟨6, _⟩ => ⟨S1x160x1024, .f32⟩
  | .hbm, ⟨7, _⟩ => ⟨S1x160x1024, .f32⟩
  | .local _ .vmem, ⟨0, _⟩ => ⟨S8x160x1024, .bf16⟩
  | .local _ .vmem, ⟨1, _⟩ => ⟨S1x160x1024, .f32⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | _, _ => ⟨S8x160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x160x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference21Ideal.lean ====
abbrev S8x160x1024 : Shape := ⟨3, ![8, 160, 1024]⟩
abbrev S1x160x1024 : Shape := ⟨3, ![1, 160, 1024]⟩
abbrev S_ : Shape := ⟨0, ![]⟩
abbrev S160x1024 : Shape := ⟨2, ![160, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x160x1024, .bf16⟩
  | .hbm, ⟨1, _⟩ => ⟨S1x160x1024, .f32⟩
  | .hbm, ⟨2, _⟩ => ⟨S1x160x1024, .f32⟩
  | .hbm, ⟨3, _⟩ => ⟨S1x160x1024, .f32⟩
  | .hbm, ⟨4, _⟩ => ⟨S8x160x1024, .f32⟩
  | .hbm, ⟨5, _⟩ => ⟨S_, .f32⟩
  | .hbm, ⟨6, _⟩ => ⟨S160x1024, .f32⟩
  | .hbm, ⟨7, _⟩ => ⟨S1x160x1024, .f32⟩
  | .hbm, ⟨8, _⟩ => ⟨S_, .f32⟩
  | .hbm, ⟨9, _⟩ => ⟨S1x160x1024, .f32⟩
  | .hbm, ⟨10, _⟩ => ⟨S1x160x1024, .f32⟩
  | .hbm, ⟨11, _⟩ => ⟨S_, .f32⟩
  | .hbm, ⟨12, _⟩ => ⟨S1x160x1024, .f32⟩
  | .hbm, ⟨13, _⟩ => ⟨S1x160x1024, .f32⟩
  | .hbm, ⟨14, _⟩ => ⟨S1x160x1024, .f32⟩
  | .hbm, ⟨15, _⟩ => ⟨S_, .f32⟩
  | .hbm, ⟨16, _⟩ => ⟨S1x160x1024, .f32⟩
  | .hbm, ⟨17, _⟩ => ⟨S1x160x1024, .f32⟩
  | .hbm, ⟨18, _⟩ => ⟨S1x160x1024, .f32⟩
  | .hbm, ⟨19, _⟩ => ⟨S_, .f32⟩
  | .hbm, ⟨20, _⟩ => ⟨S1x160x1024, .f32⟩
  | .hbm, ⟨21, _⟩ => ⟨S1x160x1024, .f32⟩
  | .hbm, ⟨22, _⟩ => ⟨S1x160x1024, .f32⟩
  | .hbm, ⟨23, _⟩ => ⟨S_, .f32⟩
  | .hbm, ⟨24, _⟩ => ⟨S1x160x1024, .f32⟩
  | .hbm, ⟨25, _⟩ => ⟨S1x160x1024, .f32⟩
  | .hbm, ⟨26, _⟩ => ⟨S_, .f32⟩
  | .hbm, ⟨27, _⟩ => ⟨S1x160x1024, .f32⟩
  | .hbm, ⟨28, _⟩ => ⟨S1x160x1024, .f32⟩
  | .hbm, ⟨29, _⟩ => ⟨S1x160x1024, .f32⟩
  | .hbm, ⟨30, _⟩ => ⟨S_, .f32⟩
  | .hbm, ⟨31, _⟩ => ⟨S1x160x1024, .f32⟩
  | .hbm, ⟨32, _⟩ => ⟨S1x160x1024, .f32⟩
  | .hbm, ⟨33, _⟩ => ⟨S1x160x1024, .f32⟩
  | .hbm, ⟨34, _⟩ => ⟨S_, .f32⟩
  | .hbm, ⟨35, _⟩ => ⟨S1x160x1024, .f32⟩
  | .hbm, ⟨36, _⟩ => ⟨S1x160x1024, .f32⟩
  | .hbm, ⟨37, _⟩ => ⟨S1x160x1024, .f32⟩
  | .hbm, ⟨38, _⟩ => ⟨S_, .f32⟩
  | .hbm, ⟨39, _⟩ => ⟨S1x160x1024, .f32⟩
  | .hbm, ⟨40, _⟩ => ⟨S1x160x1024, .f32⟩
  | _, _ => ⟨S8x160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel22.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel22Ideal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference22Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel23.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .f32⟩
  | .local _ .vmem, ⟨1, _⟩ => ⟨S8x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel23Ideal.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .f32⟩
  | .local _ .vmem, ⟨1, _⟩ => ⟨S8x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference23Ideal.lean ====
abbrev S8x512x128 : Shape := ⟨3, ![8, 512, 128]⟩
abbrev S1x512x128 : Shape := ⟨3, ![1, 512, 128]⟩
abbrev S_ : Shape := ⟨0, ![]⟩
abbrev S512x128 : Shape := ⟨2, ![512, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S_, .f32⟩
  | .hbm, ⟨5, _⟩ => ⟨S512x128, .f32⟩
  | .hbm, ⟨6, _⟩ => ⟨S1x512x128, .f32⟩
  | .hbm, ⟨7, _⟩ => ⟨S_, .f32⟩
  | .hbm, ⟨8, _⟩ => ⟨S1x512x128, .f32⟩
  | .hbm, ⟨9, _⟩ => ⟨S1x512x128, .f32⟩
  | .hbm, ⟨10, _⟩ => ⟨S_, .f32⟩
  | .hbm, ⟨11, _⟩ => ⟨S1x512x128, .f32⟩
  | .hbm, ⟨12, _⟩ => ⟨S1x512x128, .f32⟩
  | .hbm, ⟨13, _⟩ => ⟨S1x512x128, .f32⟩
  | .hbm, ⟨14, _⟩ => ⟨S_, .f32⟩
  | .hbm, ⟨15, _⟩ => ⟨S1x512x128, .f32⟩
  | .hbm, ⟨16, _⟩ => ⟨S1x512x128, .f32⟩
  | .hbm, ⟨17, _⟩ => ⟨S1x512x128, .f32⟩
  | .hbm, ⟨18, _⟩ => ⟨S_, .f32⟩
  | .hbm, ⟨19, _⟩ => ⟨S1x512x128, .f32⟩
  | .hbm, ⟨20, _⟩ => ⟨S1x512x128, .f32⟩
  | .hbm, ⟨21, _⟩ => ⟨S1x512x128, .f32⟩
  | .hbm, ⟨22, _⟩ => ⟨S_, .f32⟩
  | .hbm, ⟨23, _⟩ => ⟨S1x512x128, .f32⟩
  | .hbm, ⟨24, _⟩ => ⟨S1x512x128, .f32⟩
  | .hbm, ⟨25, _⟩ => ⟨S_, .f32⟩
  | .hbm, ⟨26, _⟩ => ⟨S1x512x128, .f32⟩
  | .hbm, ⟨27, _⟩ => ⟨S1x512x128, .f32⟩
  | .hbm, ⟨28, _⟩ => ⟨S1x512x128, .f32⟩
  | .hbm, ⟨29, _⟩ => ⟨S_, .f32⟩
  | .hbm, ⟨30, _⟩ => ⟨S1x512x128, .f32⟩
  | .hbm, ⟨31, _⟩ => ⟨S1x512x128, .f32⟩
  | .hbm, ⟨32, _⟩ => ⟨S1x512x128, .f32⟩
  | .hbm, ⟨33, _⟩ => ⟨S_, .f32⟩
  | .hbm, ⟨34, _⟩ => ⟨S1x512x128, .f32⟩
  | .hbm, ⟨35, _⟩ => ⟨S1x512x128, .f32⟩
  | .hbm, ⟨36, _⟩ => ⟨S1x512x128, .f32⟩
  | .hbm, ⟨37, _⟩ => ⟨S_, .f32⟩
  | .hbm, ⟨38, _⟩ => ⟨S1x512x128, .f32⟩
  | .hbm, ⟨39, _⟩ => ⟨S1x512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x4x512 : Shape := ⟨3, ![8, 4, 512]⟩
abbrev S1x4x512 : Shape := ⟨3, ![1, 4, 512]⟩
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S1x4x512, .f32⟩
  | .hbm, ⟨5, _⟩ => ⟨S1x4x512, .f32⟩
  | .hbm, ⟨6, _⟩ => ⟨S1x4x512, .f32⟩
  | .hbm, ⟨7, _⟩ => ⟨S1x4x512, .f32⟩
  | .local _ .vmem, ⟨0, _⟩ => ⟨S8x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel24Ideal.lean ====
abbrev S8x4x512 : Shape := ⟨3, ![8, 4, 512]⟩
abbrev S1x4x512 : Shape := ⟨3, ![1, 4, 512]⟩
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S1x4x512, .f32⟩
  | .hbm, ⟨5, _⟩ => ⟨S1x4x512, .f32⟩
  | .hbm, ⟨6, _⟩ => ⟨S1x4x512, .f32⟩
  | .hbm, ⟨7, _⟩ => ⟨S1x4x512, .f32⟩
  | .local _ .vmem, ⟨0, _⟩ => ⟨S8x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | _, _ => ⟨S8x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference24Ideal.lean ====
abbrev S8x4x512 : Shape := ⟨3, ![8, 4, 512]⟩
abbrev S1x4x512 : Shape := ⟨3, ![1, 4, 512]⟩
abbrev S_ : Shape := ⟨0, ![]⟩
abbrev S4x512 : Shape := ⟨2, ![4, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x4x512, .f32⟩
  | .hbm, ⟨1, _⟩ => ⟨S1x4x512, .f32⟩
  | .hbm, ⟨2, _⟩ => ⟨S1x4x512, .f32⟩
  | .hbm, ⟨3, _⟩ => ⟨S1x4x512, .f32⟩
  | .hbm, ⟨4, _⟩ => ⟨S_, .f32⟩
  | .hbm, ⟨5, _⟩ => ⟨S4x512, .f32⟩
  | .hbm, ⟨6, _⟩ => ⟨S1x4x512, .f32⟩
  | .hbm, ⟨7, _⟩ => ⟨S_, .f32⟩
  | .hbm, ⟨8, _⟩ => ⟨S1x4x512, .f32⟩
  | .hbm, ⟨9, _⟩ => ⟨S1x4x512, .f32⟩
  | .hbm, ⟨10, _⟩ => ⟨S_, .f32⟩
  | .hbm, ⟨11, _⟩ => ⟨S1x4x512, .f32⟩
  | .hbm, ⟨12, _⟩ => ⟨S1x4x512, .f32⟩
  | .hbm, ⟨13, _⟩ => ⟨S1x4x512, .f32⟩
  | .hbm, ⟨14, _⟩ => ⟨S_, .f32⟩
  | .hbm, ⟨15, _⟩ => ⟨S1x4x512, .f32⟩
  | .hbm, ⟨16, _⟩ => ⟨S1x4x512, .f32⟩
  | .hbm, ⟨17, _⟩ => ⟨S1x4x512, .f32⟩
  | .hbm, ⟨18, _⟩ => ⟨S_, .f32⟩
  | .hbm, ⟨19, _⟩ => ⟨S1x4x512, .f32⟩
  | .hbm, ⟨20, _⟩ => ⟨S1x4x512, .f32⟩
  | .hbm, ⟨21, _⟩ => ⟨S1x4x512, .f32⟩
  | .hbm, ⟨22, _⟩ => ⟨S_, .f32⟩
  | .hbm, ⟨23, _⟩ => ⟨S1x4x512, .f32⟩
  | .hbm, ⟨24, _⟩ => ⟨S1x4x512, .f32⟩
  | .hbm, ⟨25, _⟩ => ⟨S_, .f32⟩
  | .hbm, ⟨26, _⟩ => ⟨S1x4x512, .f32⟩
  | .hbm, ⟨27, _⟩ => ⟨S1x4x512, .f32⟩
  | .hbm, ⟨28, _⟩ => ⟨S1x4x512, .f32⟩
  | .hbm, ⟨29, _⟩ => ⟨S_, .f32⟩
  | .hbm, ⟨30, _⟩ => ⟨S1x4x512, .f32⟩
  | .hbm, ⟨31, _⟩ => ⟨S1x4x512, .f32⟩
  | .hbm, ⟨32, _⟩ => ⟨S1x4x512, .f32⟩
  | .hbm, ⟨33, _⟩ => ⟨S_, .f32⟩
  | .hbm, ⟨34, _⟩ => ⟨S1x4x512, .f32⟩
  | .hbm, ⟨35, _⟩ => ⟨S1x4x512, .f32⟩
  | .hbm, ⟨36, _⟩ => ⟨S1x4x512, .f32⟩
  | .hbm, ⟨37, _⟩ => ⟨S_, .f32⟩
  | .hbm, ⟨38, _⟩ => ⟨S1x4x512, .f32⟩
  | .hbm, ⟨39, _⟩ => ⟨S1x4x512, .f32⟩
  | _, _ => ⟨S8x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x1x512 : Shape := ⟨3, ![8, 1, 512]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x1x512, .f32⟩
  | .hbm, ⟨1, _⟩ => ⟨S1x1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .local _ .vmem, ⟨0, _⟩ => ⟨S8x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel25Ideal.lean ====
abbrev S8x1x512 : Shape := ⟨3, ![8, 1, 512]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x1x512, .f32⟩
  | .hbm, ⟨1, _⟩ => ⟨S1x1x512, .f32⟩
  | .hbm, ⟨2, _⟩ => ⟨S1x1x512, .f32⟩
  | .hbm, ⟨3, _⟩ => ⟨S1x1x512, .f32⟩
  | .hbm, ⟨4, _⟩ => ⟨S1x1x512, .f32⟩
  | .hbm, ⟨5, _⟩ => ⟨S1x1x512, .f32⟩
  | .hbm, ⟨6, _⟩ => ⟨S1x1x512, .f32⟩
  | .hbm, ⟨7, _⟩ => ⟨S1x1x512, .f32⟩
  | .local _ .vmem, ⟨0, _⟩ => ⟨S8x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference25Ideal.lean ====
abbrev S8x1x512 : Shape := ⟨3, ![8, 1, 512]⟩
abbrev S1x1x512 : Shape := ⟨3, ![1, 1, 512]⟩
abbrev S_ : Shape := ⟨0, ![]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x1x512, .f32⟩
  | .hbm, ⟨1, _⟩ => ⟨S1x1x512, .f32⟩
  | .hbm, ⟨2, _⟩ => ⟨S1x1x512, .f32⟩
  | .hbm, ⟨3, _⟩ => ⟨S1x1x512, .f32⟩
  | .hbm, ⟨4, _⟩ => ⟨S_, .f32⟩
  | .hbm, ⟨5, _⟩ => ⟨S1x512, .f32⟩
  | .hbm, ⟨6, _⟩ => ⟨S1x1x512, .f32⟩
  | .hbm, ⟨7, _⟩ => ⟨S_, .f32⟩
  | .hbm, ⟨8, _⟩ => ⟨S1x1x512, .f32⟩
  | .hbm, ⟨9, _⟩ => ⟨S1x1x512, .f32⟩
  | .hbm, ⟨10, _⟩ => ⟨S_, .f32⟩
  | .hbm, ⟨11, _⟩ => ⟨S1x1x512, .f32⟩
  | .hbm, ⟨12, _⟩ => ⟨S1x1x512, .f32⟩
  | .hbm, ⟨13, _⟩ => ⟨S1x1x512, .f32⟩
  | .hbm, ⟨14, _⟩ => ⟨S_, .f32⟩
  | .hbm, ⟨15, _⟩ => ⟨S1x1x512, .f32⟩
  | .hbm, ⟨16, _⟩ => ⟨S1x1x512, .f32⟩
  | .hbm, ⟨17, _⟩ => ⟨S1x1x512, .f32⟩
  | .hbm, ⟨18, _⟩ => ⟨S_, .f32⟩
  | .hbm, ⟨19, _⟩ => ⟨S1x1x512, .f32⟩
  | .hbm, ⟨20, _⟩ => ⟨S1x1x512, .f32⟩
  | .hbm, ⟨21, _⟩ => ⟨S1x1x512, .f32⟩
  | .hbm, ⟨22, _⟩ => ⟨S_, .f32⟩
  | .hbm, ⟨23, _⟩ => ⟨S1x1x512, .f32⟩
  | .hbm, ⟨24, _⟩ => ⟨S1x1x512, .f32⟩
  | .hbm, ⟨25, _⟩ => ⟨S_, .f32⟩
  | .hbm, ⟨26, _⟩ => ⟨S1x1x512, .f32⟩
  | .hbm, ⟨27, _⟩ => ⟨S1x1x512, .f32⟩
  | .hbm, ⟨28, _⟩ => ⟨S1x1x512, .f32⟩
  | .hbm, ⟨29, _⟩ => ⟨S_, .f32⟩
  | .hbm, ⟨30, _⟩ => ⟨S1x1x512, .f32⟩
  | .hbm, ⟨31, _⟩ => ⟨S1x1x512, .f32⟩
  | .hbm, ⟨32, _⟩ => ⟨S1x1x512, .f32⟩
  | .hbm, ⟨33, _⟩ => ⟨S_, .f32⟩
  | .hbm, ⟨34, _⟩ => ⟨S1x1x512, .f32⟩
  | .hbm, ⟨35, _⟩ => ⟨S1x1x512, .f32⟩
  | .hbm, ⟨36, _⟩ => ⟨S1x1x512, .f32⟩
  | .hbm, ⟨37, _⟩ => ⟨S_, .f32⟩
  | .hbm, ⟨38, _⟩ => ⟨S1x1x512, .f32⟩
  | .hbm, ⟨39, _⟩ => ⟨S1x1x512, .f32⟩
  | _, _ => ⟨S8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S8x1x256 : Shape := ⟨3, ![8, 1, 256]⟩
abbrev S1x1x256 : Shape := ⟨3, ![1, 1, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1x256, .f32⟩
  | .hbm, ⟨1, _⟩ => ⟨S1x1x256, .f32⟩
  | .hbm, ⟨2, _⟩ => ⟨S1x1x256, .f32⟩
  | .hbm, ⟨3, _⟩ => ⟨S1x1x256, .f32⟩
  | .hbm, ⟨4, _⟩ => ⟨S1x1x256, .f32⟩
  | .hbm, ⟨5, _⟩ => ⟨S1x1x256, .f32⟩
  | .hbm, ⟨6, _⟩ => ⟨S1x1x256, .f32⟩
  | .hbm, ⟨7, _⟩ => ⟨S1x1x256, .f32⟩
  | .local _ .vmem, ⟨0, _⟩ => ⟨S8x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel26Ideal.lean ====
abbrev S8x1x256 : Shape := ⟨3, ![8, 1, 256]⟩
abbrev S1x1x256 : Shape := ⟨3, ![1, 1, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1x256, .f32⟩
  | .hbm, ⟨1, _⟩ => ⟨S1x1x256, .f32⟩
  | .hbm, ⟨2, _⟩ => ⟨S1x1x256, .f32⟩
  | .hbm, ⟨3, _⟩ => ⟨S1x1x256, .f32⟩
  | .hbm, ⟨4, _⟩ => ⟨S1x1x256, .f32⟩
  | .hbm, ⟨5, _⟩ => ⟨S1x1x256, .f32⟩
  | .hbm, ⟨6, _⟩ => ⟨S1x1x256, .f32⟩
  | .hbm, ⟨7, _⟩ => ⟨S1x1x256, .f32⟩
  | .local _ .vmem, ⟨0, _⟩ => ⟨S8x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | _, _ => ⟨S8x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference26Ideal.lean ====
abbrev S8x1x256 : Shape := ⟨3, ![8, 1, 256]⟩
abbrev S1x1x256 : Shape := ⟨3, ![1, 1, 256]⟩
abbrev S_ : Shape := ⟨0, ![]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x1x256, .f32⟩
  | .hbm, ⟨1, _⟩ => ⟨S1x1x256, .f32⟩
  | .hbm, ⟨2, _⟩ => ⟨S1x1x256, .f32⟩
  | .hbm, ⟨3, _⟩ => ⟨S1x1x256, .f32⟩
  | .hbm, ⟨4, _⟩ => ⟨S_, .f32⟩
  | .hbm, ⟨5, _⟩ => ⟨S1x256, .f32⟩
  | .hbm, ⟨6, _⟩ => ⟨S1x1x256, .f32⟩
  | .hbm, ⟨7, _⟩ => ⟨S_, .f32⟩
  | .hbm, ⟨8, _⟩ => ⟨S1x1x256, .f32⟩
  | .hbm, ⟨9, _⟩ => ⟨S1x1x256, .f32⟩
  | .hbm, ⟨10, _⟩ => ⟨S_, .f32⟩
  | .hbm, ⟨11, _⟩ => ⟨S1x1x256, .f32⟩
  | .hbm, ⟨12, _⟩ => ⟨S1x1x256, .f32⟩
  | .hbm, ⟨13, _⟩ => ⟨S1x1x256, .f32⟩
  | .hbm, ⟨14, _⟩ => ⟨S_, .f32⟩
  | .hbm, ⟨15, _⟩ => ⟨S1x1x256, .f32⟩
  | .hbm, ⟨16, _⟩ => ⟨S1x1x256, .f32⟩
  | .hbm, ⟨17, _⟩ => ⟨S1x1x256, .f32⟩
  | .hbm, ⟨18, _⟩ => ⟨S_, .f32⟩
  | .hbm, ⟨19, _⟩ => ⟨S1x1x256, .f32⟩
  | .hbm, ⟨20, _⟩ => ⟨S1x1x256, .f32⟩
  | .hbm, ⟨21, _⟩ => ⟨S1x1x256, .f32⟩
  | .hbm, ⟨22, _⟩ => ⟨S_, .f32⟩
  | .hbm, ⟨23, _⟩ => ⟨S1x1x256, .f32⟩
  | .hbm, ⟨24, _⟩ => ⟨S1x1x256, .f32⟩
  | .hbm, ⟨25, _⟩ => ⟨S_, .f32⟩
  | .hbm, ⟨26, _⟩ => ⟨S1x1x256, .f32⟩
  | .hbm, ⟨27, _⟩ => ⟨S1x1x256, .f32⟩
  | .hbm, ⟨28, _⟩ => ⟨S1x1x256, .f32⟩
  | .hbm, ⟨29, _⟩ => ⟨S_, .f32⟩
  | .hbm, ⟨30, _⟩ => ⟨S1x1x256, .f32⟩
  | .hbm, ⟨31, _⟩ => ⟨S1x1x256, .f32⟩
  | .hbm, ⟨32, _⟩ => ⟨S1x1x256, .f32⟩
  | .hbm, ⟨33, _⟩ => ⟨S_, .f32⟩
  | .hbm, ⟨34, _⟩ => ⟨S1x1x256, .f32⟩
  | .hbm, ⟨35, _⟩ => ⟨S1x1x256, .f32⟩
  | .hbm, ⟨36, _⟩ => ⟨S1x1x256, .f32⟩
  | .hbm, ⟨37, _⟩ => ⟨S_, .f32⟩
  | .hbm, ⟨38, _⟩ => ⟨S1x1x256, .f32⟩
  | .hbm, ⟨39, _⟩ => ⟨S1x1x256, .f32⟩
  | _, _ => ⟨S8x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8x2x1024 : Shape := ⟨3, ![8, 2, 1024]⟩
abbrev S1x2x1024 : Shape := ⟨3, ![1, 2, 1024]⟩
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S8x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel27Ideal.lean ====
abbrev S8x2x1024 : Shape := ⟨3, ![8, 2, 1024]⟩
abbrev S1x2x1024 : Shape := ⟨3, ![1, 2, 1024]⟩
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S8x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S8x2x1024 : Shape := ⟨3, ![8, 2, 1024]⟩
abbrev S1x2x1024 : Shape := ⟨3, ![1, 2, 1024]⟩
abbrev S_ : Shape := ⟨0, ![]⟩
abbrev S2x1024 : Shape := ⟨2, ![2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S_, .f32⟩
  | .hbm, ⟨5, _⟩ => ⟨S2x1024, .f32⟩
  | .hbm, ⟨6, _⟩ => ⟨S1x2x1024, .f32⟩
  | .hbm, ⟨7, _⟩ => ⟨S_, .f32⟩
  | .hbm, ⟨8, _⟩ => ⟨S1x2x1024, .f32⟩
  | .hbm, ⟨9, _⟩ => ⟨S1x2x1024, .f32⟩
  | .hbm, ⟨10, _⟩ => ⟨S_, .f32⟩
  | .hbm, ⟨11, _⟩ => ⟨S1x2x1024, .f32⟩
  | .hbm, ⟨12, _⟩ => ⟨S1x2x1024, .f32⟩
  | .hbm, ⟨13, _⟩ => ⟨S1x2x1024, .f32⟩
  | .hbm, ⟨14, _⟩ => ⟨S_, .f32⟩
  | .hbm, ⟨15, _⟩ => ⟨S1x2x1024, .f32⟩
  | .hbm, ⟨16, _⟩ => ⟨S1x2x1024, .f32⟩
  | .hbm, ⟨17, _⟩ => ⟨S1x2x1024, .f32⟩
  | .hbm, ⟨18, _⟩ => ⟨S_, .f32⟩
  | .hbm, ⟨19, _⟩ => ⟨S1x2x1024, .f32⟩
  | .hbm, ⟨20, _⟩ => ⟨S1x2x1024, .f32⟩
  | .hbm, ⟨21, _⟩ => ⟨S1x2x1024, .f32⟩
  | .hbm, ⟨22, _⟩ => ⟨S_, .f32⟩
  | .hbm, ⟨23, _⟩ => ⟨S1x2x1024, .f32⟩
  | .hbm, ⟨24, _⟩ => ⟨S1x2x1024, .f32⟩
  | .hbm, ⟨25, _⟩ => ⟨S_, .f32⟩
  | .hbm, ⟨26, _⟩ => ⟨S1x2x1024, .f32⟩
  | .hbm, ⟨27, _⟩ => ⟨S1x2x1024, .f32⟩
  | .hbm, ⟨28, _⟩ => ⟨S1x2x1024, .f32⟩
  | .hbm, ⟨29, _⟩ => ⟨S_, .f32⟩
  | .hbm, ⟨30, _⟩ => ⟨S1x2x1024, .f32⟩
  | .hbm, ⟨31, _⟩ => ⟨S1x2x1024, .f32⟩
  | .hbm, ⟨32, _⟩ => ⟨S1x2x1024, .f32⟩
  | .hbm, ⟨33, _⟩ => ⟨S_, .f32⟩
  | .hbm, ⟨34, _⟩ => ⟨S1x2x1024, .f32⟩
  | .hbm, ⟨35, _⟩ => ⟨S1x2x1024, .f32⟩
  | .hbm, ⟨36, _⟩ => ⟨S1x2x1024, .f32⟩
  | .hbm, ⟨37, _⟩ => ⟨S_, .f32⟩
  | .hbm, ⟨38, _⟩ => ⟨S1x2x1024, .f32⟩
  | .hbm, ⟨39, _⟩ => ⟨S1x2x1024, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x1x1024 : Shape := ⟨3, ![8, 1, 1024]⟩
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S8x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel28Ideal.lean ====
abbrev S8x1x1024 : Shape := ⟨3, ![8, 1, 1024]⟩
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S8x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference28Ideal.lean ====
abbrev S8x1x1024 : Shape := ⟨3, ![8, 1, 1024]⟩
abbrev S1x1x1024 : Shape := ⟨3, ![1, 1, 1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S_, .f32⟩
  | .hbm, ⟨5, _⟩ => ⟨S1x1024, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S_, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S_, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S_, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x1x1024, .f32⟩
  | .hbm, ⟨33, _⟩ => ⟨S_, .f32⟩
  | .hbm, ⟨34, _⟩ => ⟨S1x1x1024, .f32⟩
  | .hbm, ⟨35, _⟩ => ⟨S1x1x1024, .f32⟩
  | .hbm, ⟨36, _⟩ => ⟨S1x1x1024, .f32⟩
  | .hbm, ⟨37, _⟩ => ⟨S_, .f32⟩
  | .hbm, ⟨38, _⟩ => ⟨S1x1x1024, .f32⟩
  | .hbm, ⟨39, _⟩ => ⟨S1x1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x6x704 : Shape := ⟨3, ![8, 6, 704]⟩
abbrev S1x6x704 : Shape := ⟨3, ![1, 6, 704]⟩
abbrev S6x704 : Shape := ⟨2, ![6, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S1x6x704, .f32⟩
  | .hbm, ⟨5, _⟩ => ⟨S1x6x704, .f32⟩
  | .hbm, ⟨6, _⟩ => ⟨S1x6x704, .f32⟩
  | .hbm, ⟨7, _⟩ => ⟨S1x6x704, .f32⟩
  | .local _ .vmem, ⟨0, _⟩ => ⟨S8x6x704, .f32⟩
  | .local _ .vmem, ⟨1, _⟩ => ⟨S1x6x704, .f32⟩
  | .local _ .vmem, ⟨2, _⟩ => ⟨S1x6x704, .f32⟩
  | .local _ .vmem, ⟨3, _⟩ => ⟨S1x6x704, .f32⟩
  | .local _ .vmem, ⟨4, _⟩ => ⟨S1x6x704, .f32⟩
  | .local _ .vmem, ⟨5, _⟩ => ⟨S1x6x704, .f32⟩
  | .local _ .vmem, ⟨6, _⟩ => ⟨S1x6x704, .f32⟩
  | .local _ .vmem, ⟨7, _⟩ => ⟨S1x6x704, .f32⟩
  | _, _ => ⟨S8x6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel29Ideal.lean ====
abbrev S8x6x704 : Shape := ⟨3, ![8, 6, 704]⟩
abbrev S1x6x704 : Shape := ⟨3, ![1, 6, 704]⟩
abbrev S6x704 : Shape := ⟨2, ![6, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S1x6x704, .f32⟩
  | .hbm, ⟨5, _⟩ => ⟨S1x6x704, .f32⟩
  | .hbm, ⟨6, _⟩ => ⟨S1x6x704, .f32⟩
  | .hbm, ⟨7, _⟩ => ⟨S1x6x704, .f32⟩
  | .local _ .vmem, ⟨0, _⟩ => ⟨S8x6x704, .f32⟩
  | .local _ .vmem, ⟨1, _⟩ => ⟨S1x6x704, .f32⟩
  | .local _ .vmem, ⟨2, _⟩ => ⟨S1x6x704, .f32⟩
  | .local _ .vmem, ⟨3, _⟩ => ⟨S1x6x704, .f32⟩
  | .local _ .vmem, ⟨4, _⟩ => ⟨S1x6x704, .f32⟩
  | .local _ .vmem, ⟨5, _⟩ => ⟨S1x6x704, .f32⟩
  | .local _ .vmem, ⟨6, _⟩ => ⟨S1x6x704, .f32⟩
  | .local _ .vmem, ⟨7, _⟩ => ⟨S1x6x704, .f32⟩
  | _, _ => ⟨S8x6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x6x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference29Ideal.lean ====
abbrev S8x6x704 : Shape := ⟨3, ![8, 6, 704]⟩
abbrev S1x6x704 : Shape := ⟨3, ![1, 6, 704]⟩
abbrev S_ : Shape := ⟨0, ![]⟩
abbrev S6x704 : Shape := ⟨2, ![6, 704]⟩

abbrev nBuf : Space → Nat
  | .hbm => 40
  | .vmem => 0
  | .smem => 0
  | _ => 0

abbrev bufTy : (tb : Table) → Fin (tcTables nBuf tb) → BufTy
  | .hbm, ⟨0, _⟩ => ⟨S8x6x704, .f32⟩
  | .hbm, ⟨1, _⟩ => ⟨S1x6x704, .f32⟩
  | .hbm, ⟨2, _⟩ => ⟨S1x6x704, .f32⟩
  | .hbm, ⟨3, _⟩ => ⟨S1x6x704, .f32⟩
  | .hbm, ⟨4, _⟩ => ⟨S_, .f32⟩
  | .hbm, ⟨5, _⟩ => ⟨S6x704, .f32⟩
  | .hbm, ⟨6, _⟩ => ⟨S1x6x704, .f32⟩
  | .hbm, ⟨7, _⟩ => ⟨S_, .f32⟩
  | .hbm, ⟨8, _⟩ => ⟨S1x6x704, .f32⟩
  | .hbm, ⟨9, _⟩ => ⟨S1x6x704, .f32⟩
  | .hbm, ⟨10, _⟩ => ⟨S_, .f32⟩
  | .hbm, ⟨11, _⟩ => ⟨S1x6x704, .f32⟩
  | .hbm, ⟨12, _⟩ => ⟨S1x6x704, .f32⟩
  | .hbm, ⟨13, _⟩ => ⟨S1x6x704, .f32⟩
  | .hbm, ⟨14, _⟩ => ⟨S_, .f32⟩
  | .hbm, ⟨15, _⟩ => ⟨S1x6x704, .f32⟩
  | .hbm, ⟨16, _⟩ => ⟨S1x6x704, .f32⟩
  | .hbm, ⟨17, _⟩ => ⟨S1x6x704, .f32⟩
  | .hbm, ⟨18, _⟩ => ⟨S_, .f32⟩
  | .hbm, ⟨19, _⟩ => ⟨S1x6x704, .f32⟩
  | .hbm, ⟨20, _⟩ => ⟨S1x6x704, .f32⟩
  | .hbm, ⟨21, _⟩ => ⟨S1x6x704, .f32⟩
  | .hbm, ⟨22, _⟩ => ⟨S_, .f32⟩
  | .hbm, ⟨23, _⟩ => ⟨S1x6x704, .f32⟩
  | .hbm, ⟨24, _⟩ => ⟨S1x6x704, .f32⟩
  | .hbm, ⟨25, _⟩ => ⟨S_, .f32⟩
  | .hbm, ⟨26, _⟩ => ⟨S1x6x704, .f32⟩
  | .hbm, ⟨27, _⟩ => ⟨S1x6x704, .f32⟩
  | .hbm, ⟨28, _⟩ => ⟨S1x6x704, .f32⟩
  | .hbm, ⟨29, _⟩ => ⟨S_, .f32⟩
  | .hbm, ⟨30, _⟩ => ⟨S1x6x704, .f32⟩
  | .hbm, ⟨31, _⟩ => ⟨S1x6x704, .f32⟩
  | .hbm, ⟨32, _⟩ => ⟨S1x6x704, .f32⟩
  | .hbm, ⟨33, _⟩ => ⟨S_, .f32⟩
  | .hbm, ⟨34, _⟩ => ⟨S1x6x704, .f32⟩
  | .hbm, ⟨35, _⟩ => ⟨S1x6x704, .f32⟩
  | .hbm, ⟨36, _⟩ => ⟨S1x6x704, .f32⟩
  | .hbm, ⟨37, _⟩ => ⟨S_, .f32⟩
  | .hbm, ⟨38, _⟩ => ⟨S1x6x704, .f32⟩
  | .hbm, ⟨39, _⟩ => ⟨S1x6x704, .f32⟩
  | _, _ => ⟨S8x6x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S8x2x5632 : Shape := ⟨3, ![8, 2, 5632]⟩
abbrev S1x2x5632 : Shape := ⟨3, ![1, 2, 5632]⟩
abbrev S2x5632 : Shape := ⟨2, ![2, 5632]⟩

abbrev nBuf : Space → Nat
  | .hbm => 8
  | .vmem => 8
  | .smem => 0
  | _ => 0

abbrev bufTy : (tb : Table) → Fin (tcTables nBuf tb) → BufTy
  | .hbm, ⟨0, _⟩ => ⟨S8x2x5632, .f32⟩
  | .hbm, ⟨1, _⟩ => ⟨S1x2x5632, .f32⟩
  | .hbm, ⟨2, _⟩ => ⟨S1x2x5632, .f32⟩
  | .hbm, ⟨3, _⟩ => ⟨S1x2x5632, .f32⟩
  | .hbm, ⟨4, _⟩ => ⟨S1x2x5632, .f32⟩
  | .hbm, ⟨5, _⟩ => ⟨S1x2x5632, .f32⟩
  | .hbm, ⟨6, _⟩ => ⟨S1x2x5632, .f32⟩
  | .hbm, ⟨7, _⟩ => ⟨S1x2x5632, .f32⟩
  | .local _ .vmem, ⟨0, _⟩ => ⟨S8x2x5632, .f32⟩
  | .local _ .vmem, ⟨1, _⟩ => ⟨S1x2x5632, .f32⟩
  | .local _ .vmem, ⟨2, _⟩ => ⟨S1x2x5632, .f32⟩
  | .local _ .vmem, ⟨3, _⟩ => ⟨S1x2x5632, .f32⟩
  | .local _ .vmem, ⟨4, _⟩ => ⟨S1x2x5632, .f32⟩
  | .local _ .vmem, ⟨5, _⟩ => ⟨S1x2x5632, .f32⟩
  | .local _ .vmem, ⟨6, _⟩ => ⟨S1x2x5632, .f32⟩
  | .local _ .vmem, ⟨7, _⟩ => ⟨S1x2x5632, .f32⟩
  | _, _ => ⟨S8x2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel30Ideal.lean ====
abbrev S8x2x5632 : Shape := ⟨3, ![8, 2, 5632]⟩
abbrev S1x2x5632 : Shape := ⟨3, ![1, 2, 5632]⟩
abbrev S2x5632 : Shape := ⟨2, ![2, 5632]⟩

abbrev nBuf : Space → Nat
  | .hbm => 8
  | .vmem => 8
  | .smem => 0
  | _ => 0

abbrev bufTy : (tb : Table) → Fin (tcTables nBuf tb) → BufTy
  | .hbm, ⟨0, _⟩ => ⟨S8x2x5632, .f32⟩
  | .hbm, ⟨1, _⟩ => ⟨S1x2x5632, .f32⟩
  | .hbm, ⟨2, _⟩ => ⟨S1x2x5632, .f32⟩
  | .hbm, ⟨3, _⟩ => ⟨S1x2x5632, .f32⟩
  | .hbm, ⟨4, _⟩ => ⟨S1x2x5632, .f32⟩
  | .hbm, ⟨5, _⟩ => ⟨S1x2x5632, .f32⟩
  | .hbm, ⟨6, _⟩ => ⟨S1x2x5632, .f32⟩
  | .hbm, ⟨7, _⟩ => ⟨S1x2x5632, .f32⟩
  | .local _ .vmem, ⟨0, _⟩ => ⟨S8x2x5632, .f32⟩
  | .local _ .vmem, ⟨1, _⟩ => ⟨S1x2x5632, .f32⟩
  | .local _ .vmem, ⟨2, _⟩ => ⟨S1x2x5632, .f32⟩
  | .local _ .vmem, ⟨3, _⟩ => ⟨S1x2x5632, .f32⟩
  | .local _ .vmem, ⟨4, _⟩ => ⟨S1x2x5632, .f32⟩
  | .local _ .vmem, ⟨5, _⟩ => ⟨S1x2x5632, .f32⟩
  | .local _ .vmem, ⟨6, _⟩ => ⟨S1x2x5632, .f32⟩
  | .local _ .vmem, ⟨7, _⟩ => ⟨S1x2x5632, .f32⟩
  | _, _ => ⟨S8x2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference30Ideal.lean ====
abbrev S8x2x5632 : Shape := ⟨3, ![8, 2, 5632]⟩
abbrev S1x2x5632 : Shape := ⟨3, ![1, 2, 5632]⟩
abbrev S_ : Shape := ⟨0, ![]⟩
abbrev S2x5632 : Shape := ⟨2, ![2, 5632]⟩

abbrev nBuf : Space → Nat
  | .hbm => 40
  | .vmem => 0
  | .smem => 0
  | _ => 0

abbrev bufTy : (tb : Table) → Fin (tcTables nBuf tb) → BufTy
  | .hbm, ⟨0, _⟩ => ⟨S8x2x5632, .f32⟩
  | .hbm, ⟨1, _⟩ => ⟨S1x2x5632, .f32⟩
  | .hbm, ⟨2, _⟩ => ⟨S1x2x5632, .f32⟩
  | .hbm, ⟨3, _⟩ => ⟨S1x2x5632, .f32⟩
  | .hbm, ⟨4, _⟩ => ⟨S_, .f32⟩
  | .hbm, ⟨5, _⟩ => ⟨S2x5632, .f32⟩
  | .hbm, ⟨6, _⟩ => ⟨S1x2x5632, .f32⟩
  | .hbm, ⟨7, _⟩ => ⟨S_, .f32⟩
  | .hbm, ⟨8, _⟩ => ⟨S1x2x5632, .f32⟩
  | .hbm, ⟨9, _⟩ => ⟨S1x2x5632, .f32⟩
  | .hbm, ⟨10, _⟩ => ⟨S_, .f32⟩
  | .hbm, ⟨11, _⟩ => ⟨S1x2x5632, .f32⟩
  | .hbm, ⟨12, _⟩ => ⟨S1x2x5632, .f32⟩
  | .hbm, ⟨13, _⟩ => ⟨S1x2x5632, .f32⟩
  | .hbm, ⟨14, _⟩ => ⟨S_, .f32⟩
  | .hbm, ⟨15, _⟩ => ⟨S1x2x5632, .f32⟩
  | .hbm, ⟨16, _⟩ => ⟨S1x2x5632, .f32⟩
  | .hbm, ⟨17, _⟩ => ⟨S1x2x5632, .f32⟩
  | .hbm, ⟨18, _⟩ => ⟨S_, .f32⟩
  | .hbm, ⟨19, _⟩ => ⟨S1x2x5632, .f32⟩
  | .hbm, ⟨20, _⟩ => ⟨S1x2x5632, .f32⟩
  | .hbm, ⟨21, _⟩ => ⟨S1x2x5632, .f32⟩
  | .hbm, ⟨22, _⟩ => ⟨S_, .f32⟩
  | .hbm, ⟨23, _⟩ => ⟨S1x2x5632, .f32⟩
  | .hbm, ⟨24, _⟩ => ⟨S1x2x5632, .f32⟩
  | .hbm, ⟨25, _⟩ => ⟨S_, .f32⟩
  | .hbm, ⟨26, _⟩ => ⟨S1x2x5632, .f32⟩
  | .hbm, ⟨27, _⟩ => ⟨S1x2x5632, .f32⟩
  | .hbm, ⟨28, _⟩ => ⟨S1x2x5632, .f32⟩
  | .hbm, ⟨29, _⟩ => ⟨S_, .f32⟩
  | .hbm, ⟨30, _⟩ => ⟨S1x2x5632, .f32⟩
  | .hbm, ⟨31, _⟩ => ⟨S1x2x5632, .f32⟩
  | .hbm, ⟨32, _⟩ => ⟨S1x2x5632, .f32⟩
  | .hbm, ⟨33, _⟩ => ⟨S_, .f32⟩
  | .hbm, ⟨34, _⟩ => ⟨S1x2x5632, .f32⟩
  | .hbm, ⟨35, _⟩ => ⟨S1x2x5632, .f32⟩
  | .hbm, ⟨36, _⟩ => ⟨S1x2x5632, .f32⟩
  | .hbm, ⟨37, _⟩ => ⟨S_, .f32⟩
  | .hbm, ⟨38, _⟩ => ⟨S1x2x5632, .f32⟩
  | .hbm, ⟨39, _⟩ => ⟨S1x2x5632, .f32⟩
  | _, _ => ⟨S8x2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S1x1x8 : Shape := ⟨3, ![1, 1, 8]⟩
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x1x8, .f32⟩
  | .hbm, ⟨1, _⟩ => ⟨S1x1x8, .f32⟩
  | .hbm, ⟨2, _⟩ => ⟨S1x1x8, .f32⟩
  | .hbm, ⟨3, _⟩ => ⟨S1x1x8, .f32⟩
  | .hbm, ⟨4, _⟩ => ⟨S1x1x8, .f32⟩
  | .hbm, ⟨5, _⟩ => ⟨S1x1x8, .f32⟩
  | .hbm, ⟨6, _⟩ => ⟨S1x1x8, .f32⟩
  | .hbm, ⟨7, _⟩ => ⟨S1x1x8, .f32⟩
  | .local _ .vmem, ⟨0, _⟩ => ⟨S1x1x8, .f32⟩
  | .local _ .vmem, ⟨1, _⟩ => ⟨S1x1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | _, _ => ⟨S1x1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel31Ideal.lean ====
abbrev S1x1x8 : Shape := ⟨3, ![1, 1, 8]⟩
abbrev S1x8 : Shape := ⟨2, ![1, 8]⟩

abbrev nBuf : Space → Nat
  | .hbm => 8
  | .vmem => 8
  | .smem => 0
  | _ => 0

abbrev bufTy : (tb : Table) → Fin (tcTables nBuf tb) → BufTy
  | .hbm, ⟨0, _⟩ => ⟨S1x1x8, .f32⟩
  | .hbm, ⟨1, _⟩ => ⟨S1x1x8, .f32⟩
  | .hbm, ⟨2, _⟩ => ⟨S1x1x8, .f32⟩
  | .hbm, ⟨3, _⟩ => ⟨S1x1x8, .f32⟩
  | .hbm, ⟨4, _⟩ => ⟨S1x1x8, .f32⟩
  | .hbm, ⟨5, _⟩ => ⟨S1x1x8, .f32⟩
  | .hbm, ⟨6, _⟩ => ⟨S1x1x8, .f32⟩
  | .hbm, ⟨7, _⟩ => ⟨S1x1x8, .f32⟩
  | .local _ .vmem, ⟨0, _⟩ => ⟨S1x1x8, .f32⟩
  | .local _ .vmem, ⟨1, _⟩ => ⟨S1x1x8, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .f32⟩
  | _, _ => ⟨S1x1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference31Ideal.lean ====
abbrev S1x1x8 : Shape := ⟨3, ![1, 1, 8]⟩
abbrev S_ : Shape := ⟨0, ![]⟩
abbrev S1x8 : Shape := ⟨2, ![1, 8]⟩

abbrev nBuf : Space → Nat
  | .hbm => 40
  | .vmem => 0
  | .smem => 0
  | _ => 0

abbrev bufTy : (tb : Table) → Fin (tcTables nBuf tb) → BufTy
  | .hbm, ⟨0, _⟩ => ⟨S1x1x8, .f32⟩
  | .hbm, ⟨1, _⟩ => ⟨S1x1x8, .f32⟩
  | .hbm, ⟨2, _⟩ => ⟨S1x1x8, .f32⟩
  | .hbm, ⟨3, _⟩ => ⟨S1x1x8, .f32⟩
  | .hbm, ⟨4, _⟩ => ⟨S_, .f32⟩
  | .hbm, ⟨5, _⟩ => ⟨S1x8, .f32⟩
  | .hbm, ⟨6, _⟩ => ⟨S1x1x8, .f32⟩
  | .hbm, ⟨7, _⟩ => ⟨S_, .f32⟩
  | .hbm, ⟨8, _⟩ => ⟨S1x1x8, .f32⟩
  | .hbm, ⟨9, _⟩ => ⟨S1x1x8, .f32⟩
  | .hbm, ⟨10, _⟩ => ⟨S_, .f32⟩
  | .hbm, ⟨11, _⟩ => ⟨S1x1x8, .f32⟩
  | .hbm, ⟨12, _⟩ => ⟨S1x1x8, .f32⟩
  | .hbm, ⟨13, _⟩ => ⟨S1x1x8, .f32⟩
  | .hbm, ⟨14, _⟩ => ⟨S_, .f32⟩
  | .hbm, ⟨15, _⟩ => ⟨S1x1x8, .f32⟩
  | .hbm, ⟨16, _⟩ => ⟨S1x1x8, .f32⟩
  | .hbm, ⟨17, _⟩ => ⟨S1x1x8, .f32⟩
  | .hbm, ⟨18, _⟩ => ⟨S_, .f32⟩
  | .hbm, ⟨19, _⟩ => ⟨S1x1x8, .f32⟩
  | .hbm, ⟨20, _⟩ => ⟨S1x1x8, .f32⟩
  | .hbm, ⟨21, _⟩ => ⟨S1x1x8, .f32⟩
  | .hbm, ⟨22, _⟩ => ⟨S_, .f32⟩
  | .hbm, ⟨23, _⟩ => ⟨S1x1x8, .f32⟩
  | .hbm, ⟨24, _⟩ => ⟨S1x1x8, .f32⟩
  | .hbm, ⟨25, _⟩ => ⟨S_, .f32⟩
  | .hbm, ⟨26, _⟩ => ⟨S1x1x8, .f32⟩
  | .hbm, ⟨27, _⟩ => ⟨S1x1x8, .f32⟩
  | .hbm, ⟨28, _⟩ => ⟨S1x1x8, .f32⟩
  | .hbm, ⟨29, _⟩ => ⟨S_, .f32⟩
  | .hbm, ⟨30, _⟩ => ⟨S1x1x8, .f32⟩
  | .hbm, ⟨31, _⟩ => ⟨S1x1x8, .f32⟩
  | .hbm, ⟨32, _⟩ => ⟨S1x1x8, .f32⟩
  | .hbm, ⟨33, _⟩ => ⟨S_, .f32⟩
  | .hbm, ⟨34, _⟩ => ⟨S1x1x8, .f32⟩
  | .hbm, ⟨35, _⟩ => ⟨S1x1x8, .f32⟩
  | .hbm, ⟨36, _⟩ => ⟨S1x1x8, .f32⟩
  | .hbm, ⟨37, _⟩ => ⟨S_, .f32⟩
  | .hbm, ⟨38, _⟩ => ⟨S1x1x8, .f32⟩
  | .hbm, ⟨39, _⟩ => ⟨S1x1x8, .f32⟩
  | _, _ => ⟨S1x1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel32.lean ====
abbrev S1x1x32 : Shape := ⟨3, ![1, 1, 32]⟩
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x1x32, .f32⟩
  | .hbm, ⟨1, _⟩ => ⟨S1x1x32, .f32⟩
  | .hbm, ⟨2, _⟩ => ⟨S1x1x32, .f32⟩
  | .hbm, ⟨3, _⟩ => ⟨S1x1x32, .f32⟩
  | .hbm, ⟨4, _⟩ => ⟨S1x1x32, .f32⟩
  | .hbm, ⟨5, _⟩ => ⟨S1x1x32, .f32⟩
  | .hbm, ⟨6, _⟩ => ⟨S1x1x32, .f32⟩
  | .hbm, ⟨7, _⟩ => ⟨S1x1x32, .f32⟩
  | .local _ .vmem, ⟨0, _⟩ => ⟨S1x1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | _, _ => ⟨S1x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel32Ideal.lean ====
abbrev S1x1x32 : Shape := ⟨3, ![1, 1, 32]⟩
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x1x32, .f32⟩
  | .hbm, ⟨1, _⟩ => ⟨S1x1x32, .f32⟩
  | .hbm, ⟨2, _⟩ => ⟨S1x1x32, .f32⟩
  | .hbm, ⟨3, _⟩ => ⟨S1x1x32, .f32⟩
  | .hbm, ⟨4, _⟩ => ⟨S1x1x32, .f32⟩
  | .hbm, ⟨5, _⟩ => ⟨S1x1x32, .f32⟩
  | .hbm, ⟨6, _⟩ => ⟨S1x1x32, .f32⟩
  | .hbm, ⟨7, _⟩ => ⟨S1x1x32, .f32⟩
  | .local _ .vmem, ⟨0, _⟩ => ⟨S1x1x32, .f32⟩
  | .local _ .vmem, ⟨1, _⟩ => ⟨S1x1x32, .f32⟩
  | .local _ .vmem, ⟨2, _⟩ => ⟨S1x1x32, .f32⟩
  | .local _ .vmem, ⟨3, _⟩ => ⟨S1x1x32, .f32⟩
  | .local _ .vmem, ⟨4, _⟩ => ⟨S1x1x32, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | _, _ => ⟨S1x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference32Ideal.lean ====
abbrev S1x1x32 : Shape := ⟨3, ![1, 1, 32]⟩
abbrev S_ : Shape := ⟨0, ![]⟩
abbrev S1x32 : Shape := ⟨2, ![1, 32]⟩

abbrev nBuf : Space → Nat
  | .hbm => 40
  | .vmem => 0
  | .smem => 0
  | _ => 0

abbrev bufTy : (tb : Table) → Fin (tcTables nBuf tb) → BufTy
  | .hbm, ⟨0, _⟩ => ⟨S1x1x32, .f32⟩
  | .hbm, ⟨1, _⟩ => ⟨S1x1x32, .f32⟩
  | .hbm, ⟨2, _⟩ => ⟨S1x1x32, .f32⟩
  | .hbm, ⟨3, _⟩ => ⟨S1x1x32, .f32⟩
  | .hbm, ⟨4, _⟩ => ⟨S_, .f32⟩
  | .hbm, ⟨5, _⟩ => ⟨S1x32, .f32⟩
  | .hbm, ⟨6, _⟩ => ⟨S1x1x32, .f32⟩
  | .hbm, ⟨7, _⟩ => ⟨S_, .f32⟩
  | .hbm, ⟨8, _⟩ => ⟨S1x1x32, .f32⟩
  | .hbm, ⟨9, _⟩ => ⟨S1x1x32, .f32⟩
  | .hbm, ⟨10, _⟩ => ⟨S_, .f32⟩
  | .hbm, ⟨11, _⟩ => ⟨S1x1x32, .f32⟩
  | .hbm, ⟨12, _⟩ => ⟨S1x1x32, .f32⟩
  | .hbm, ⟨13, _⟩ => ⟨S1x1x32, .f32⟩
  | .hbm, ⟨14, _⟩ => ⟨S_, .f32⟩
  | .hbm, ⟨15, _⟩ => ⟨S1x1x32, .f32⟩
  | .hbm, ⟨16, _⟩ => ⟨S1x1x32, .f32⟩
  | .hbm, ⟨17, _⟩ => ⟨S1x1x32, .f32⟩
  | .hbm, ⟨18, _⟩ => ⟨S_, .f32⟩
  | .hbm, ⟨19, _⟩ => ⟨S1x1x32, .f32⟩
  | .hbm, ⟨20, _⟩ => ⟨S1x1x32, .f32⟩
  | .hbm, ⟨21, _⟩ => ⟨S1x1x32, .f32⟩
  | .hbm, ⟨22, _⟩ => ⟨S_, .f32⟩
  | .hbm, ⟨23, _⟩ => ⟨S1x1x32, .f32⟩
  | .hbm, ⟨24, _⟩ => ⟨S1x1x32, .f32⟩
  | .hbm, ⟨25, _⟩ => ⟨S_, .f32⟩
  | .hbm, ⟨26, _⟩ => ⟨S1x1x32, .f32⟩
  | .hbm, ⟨27, _⟩ => ⟨S1x1x32, .f32⟩
  | .hbm, ⟨28, _⟩ => ⟨S1x1x32, .f32⟩
  | .hbm, ⟨29, _⟩ => ⟨S_, .f32⟩
  | .hbm, ⟨30, _⟩ => ⟨S1x1x32, .f32⟩
  | .hbm, ⟨31, _⟩ => ⟨S1x1x32, .f32⟩
  | .hbm, ⟨32, _⟩ => ⟨S1x1x32, .f32⟩
  | .hbm, ⟨33, _⟩ => ⟨S_, .f32⟩
  | .hbm, ⟨34, _⟩ => ⟨S1x1x32, .f32⟩
  | .hbm, ⟨35, _⟩ => ⟨S1x1x32, .f32⟩
  | .hbm, ⟨36, _⟩ => ⟨S1x1x32, .f32⟩
  | .hbm, ⟨37, _⟩ => ⟨S_, .f32⟩
  | .hbm, ⟨38, _⟩ => ⟨S1x1x32, .f32⟩
  | .hbm, ⟨39, _⟩ => ⟨S1x1x32, .f32⟩
  | _, _ => ⟨S1x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel33.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel33Ideal.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "bias1" => some (((5463681 / 8388608)⁻¹ : ℝ) : EReal)
  | "bias2" => some (((2672307 / 268435456)⁻¹ : ℝ) : EReal)
  | _ => none

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference33Ideal.lean ====
abbrev S8x704x1024 : Shape := ⟨3, ![8, 704, 1024]⟩
abbrev S2x704x1024 : Shape := ⟨3, ![2, 704, 1024]⟩
abbrev S8x1x704x1024 : Shape := ⟨4, ![8, 1, 704, 1024]⟩
abbrev S8x2x704x1024 : Shape := ⟨4, ![8, 2, 704, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x1x704x1024, .bf16⟩
  | .hbm, ⟨6, _⟩ => ⟨S8x1x704x1024, .bf16⟩
  | .hbm, ⟨7, _⟩ => ⟨S8x2x704x1024, .bf16⟩
  | .hbm, ⟨8, _⟩ => ⟨S8x2x704x1024, .f32⟩
  | .hbm, ⟨9, _⟩ => ⟨S_, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S2x704x1024, .f32⟩
  | .hbm, ⟨18, _⟩ => ⟨S_, .f32⟩
  | .hbm, ⟨19, _⟩ => ⟨S2x704x1024, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S2x704x1024, .f32⟩
  | .hbm, ⟨33, _⟩ => ⟨S_, .f32⟩
  | .hbm, ⟨34, _⟩ => ⟨S2x704x1024, .f32⟩
  | .hbm, ⟨35, _⟩ => ⟨S2x704x1024, .f32⟩
  | .hbm, ⟨36, _⟩ => ⟨S2x704x1024, .f32⟩
  | .hbm, ⟨37, _⟩ => ⟨S_, .f32⟩
  | .hbm, ⟨38, _⟩ => ⟨S2x704x1024, .f32⟩
  | .hbm, ⟨39, _⟩ => ⟨S2x704x1024, .f32⟩
  | .hbm, ⟨40, _⟩ => ⟨S2x704x1024, .f32⟩
  | .hbm, ⟨41, _⟩ => ⟨S_, .f32⟩
  | .hbm, ⟨42, _⟩ => ⟨S2x704x1024, .f32⟩
  | .hbm, ⟨43, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel34.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel34Ideal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== Reference34Ideal.lean ====
abbrev S8x352x1024 : Shape := ⟨3, ![8, 352, 1024]⟩
abbrev S2x352x1024 : Shape := ⟨3, ![2, 352, 1024]⟩
abbrev S8x1x352x1024 : Shape := ⟨4, ![8, 1, 352, 1024]⟩
abbrev S8x2x352x1024 : Shape := ⟨4, ![8, 2, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x1x352x1024, .bf16⟩
  | .hbm, ⟨6, _⟩ => ⟨S8x1x352x1024, .bf16⟩
  | .hbm, ⟨7, _⟩ => ⟨S8x2x352x1024, .bf16⟩
  | .hbm, ⟨8, _⟩ => ⟨S8x2x352x1024, .f32⟩
  | .hbm, ⟨9, _⟩ => ⟨S_, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S2x352x1024, .f32⟩
  | .hbm, ⟨18, _⟩ => ⟨S_, .f32⟩
  | .hbm, ⟨19, _⟩ => ⟨S2x352x1024, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S2x352x1024, .f32⟩
  | .hbm, ⟨33, _⟩ => ⟨S_, .f32⟩
  | .hbm, ⟨34, _⟩ => ⟨S2x352x1024, .f32⟩
  | .hbm, ⟨35, _⟩ => ⟨S2x352x1024, .f32⟩
  | .hbm, ⟨36, _⟩ => ⟨S2x352x1024, .f32⟩
  | .hbm, ⟨37, _⟩ => ⟨S_, .f32⟩
  | .hbm, ⟨38, _⟩ => ⟨S2x352x1024, .f32⟩
  | .hbm, ⟨39, _⟩ => ⟨S2x352x1024, .f32⟩
  | .hbm, ⟨40, _⟩ => ⟨S2x352x1024, .f32⟩
  | .hbm, ⟨41, _⟩ => ⟨S_, .f32⟩
  | .hbm, ⟨42, _⟩ => ⟨S2x352x1024, .f32⟩
  | .hbm, ⟨43, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel35.lean ====
abbrev S8x8x128 : Shape := ⟨3, ![8, 8, 128]⟩
abbrev S8x1x128 : Shape := ⟨3, ![8, 1, 128]⟩
abbrev S8x128 : Shape := ⟨2, ![8, 128]⟩
abbrev S1x128 : Shape := ⟨2, ![1, 128]⟩
abbrev S1x8x128 : Shape := ⟨3, ![1, 8, 128]⟩
abbrev S1x1x128 : Shape := ⟨3, ![1, 1, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x8x128, .f32⟩
  | .hbm, ⟨1, _⟩ => ⟨S8x1x128, .f32⟩
  | .hbm, ⟨2, _⟩ => ⟨S8x1x128, .f32⟩
  | .hbm, ⟨3, _⟩ => ⟨S8x8x128, .f32⟩
  | .hbm, ⟨4, _⟩ => ⟨S8x1x128, .f32⟩
  | .hbm, ⟨5, _⟩ => ⟨S8x128, .f32⟩
  | .hbm, ⟨6, _⟩ => ⟨S1x128, .f32⟩
  | .hbm, ⟨7, _⟩ => ⟨S1x128, .f32⟩
  | .hbm, ⟨8, _⟩ => ⟨S8x128, .f32⟩
  | .hbm, ⟨9, _⟩ => ⟨S1x128, .f32⟩
  | .local _ .vmem, ⟨0, _⟩ => ⟨S8x8x128, .f32⟩
  | .local _ .vmem, ⟨1, _⟩ => ⟨S8x1x128, .f32⟩
  | .local _ .vmem, ⟨2, _⟩ => ⟨S8x1x128, .f32⟩
  | .local _ .vmem, ⟨3, _⟩ => ⟨S8x8x128, .f32⟩
  | .local _ .vmem, ⟨4, _⟩ => ⟨S8x1x128, .f32⟩
  | .local _ .vmem, ⟨5, _⟩ => ⟨S8x128, .f32⟩
  | .local _ .vmem, ⟨6, _⟩ => ⟨S1x128, .f32⟩
  | .local _ .vmem, ⟨7, _⟩ => ⟨S1x128, .f32⟩
  | .local _ .vmem, ⟨8, _⟩ => ⟨S8x128, .f32⟩
  | .local _ .vmem, ⟨9, _⟩ => ⟨S1x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference35Ideal.lean ====
abbrev S8x8x128 : Shape := ⟨3, ![8, 8, 128]⟩
abbrev S8x1x128 : Shape := ⟨3, ![8, 1, 128]⟩
abbrev S_ : Shape := ⟨0, ![]⟩
abbrev S8x128 : Shape := ⟨2, ![8, 128]⟩
abbrev S1x128 : Shape := ⟨2, ![1, 128]⟩

abbrev nBuf : Space → Nat
  | .hbm => 15
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x1x128, .f32⟩
  | .hbm, ⟨2, _⟩ => ⟨S8x1x128, .f32⟩
  | .hbm, ⟨3, _⟩ => ⟨S8x8x128, .f32⟩
  | .hbm, ⟨4, _⟩ => ⟨S8x1x128, .f32⟩
  | .hbm, ⟨5, _⟩ => ⟨S_, .f32⟩
  | .hbm, ⟨6, _⟩ => ⟨S8x128, .f32⟩
  | .hbm, ⟨7, _⟩ => ⟨S_, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S_, .f32⟩
  | .hbm, ⟨12, _⟩ => ⟨S8x128, .f32⟩
  | .hbm, ⟨13, _⟩ => ⟨S_, .f32⟩
  | .hbm, ⟨14, _⟩ => ⟨S1x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Kernel36.lean ====
abbrev S4096x1024 : Shape := ⟨2, ![4096, 1024]⟩
abbrev S1280x1024 : Shape := ⟨2, ![1280, 1024]⟩
abbrev S4096x1280 : Shape := ⟨2, ![4096, 1280]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1280x1024, .bf16⟩
  | .hbm, ⟨2, _⟩ => ⟨S4096x1280, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .f32⟩
  | .local _ .vmem, ⟨4, _⟩ => ⟨S1024x1280, .f32⟩
  | .local _ .vmem, ⟨5, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S4096x1024 : Shape := ⟨2, ![4096, 1024]⟩
abbrev S1280x1024 : Shape := ⟨2, ![1280, 1024]⟩
abbrev S1024x1280 : Shape := ⟨2, ![1024, 1280]⟩
abbrev S4096x1280 : Shape := ⟨2, ![4096, 1280]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1280x1024, .bf16⟩
  | .hbm, ⟨2, _⟩ => ⟨S4096x1024, .f32⟩
  | .hbm, ⟨3, _⟩ => ⟨S1280x1024, .f32⟩
  | .hbm, ⟨4, _⟩ => ⟨S1024x1280, .f32⟩
  | .hbm, ⟨5, _⟩ => ⟨S4096x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel37.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference37Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel38.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference38Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel39.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference39Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel40.lean ====
abbrev S4096x1280 : Shape := ⟨2, ![4096, 1280]⟩
abbrev S4096x1024 : Shape := ⟨2, ![4096, 1024]⟩
abbrev S1280x1024 : Shape := ⟨2, ![1280, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1280, .f32⟩
  | .hbm, ⟨1, _⟩ => ⟨S4096x1024, .bf16⟩
  | .hbm, ⟨2, _⟩ => ⟨S1280x1024, .bf16⟩
  | .local _ .vmem, ⟨0, _⟩ => ⟨S1024x1280, .f32⟩
  | .local _ .vmem, ⟨1, _⟩ => ⟨S1024x1280, .f32⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference40Ideal.lean ====
abbrev S4096x1280 : Shape := ⟨2, ![4096, 1280]⟩
abbrev S4096x1024 : Shape := ⟨2, ![4096, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 11
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S4096x1024, .bf16⟩
  | .hbm, ⟨2, _⟩ => ⟨S_, .f32⟩
  | .hbm, ⟨3, _⟩ => ⟨S1280x1024, .f32⟩
  | .hbm, ⟨4, _⟩ => ⟨S4096x1024, .f32⟩
  | .hbm, ⟨5, _⟩ => ⟨S1024x1280, .f32⟩
  | .hbm, ⟨6, _⟩ => ⟨S4096x1280, .f32⟩
  | .hbm, ⟨7, _⟩ => ⟨S1280x1024, .f32⟩
  | .hbm, ⟨8, _⟩ => ⟨S1024x1280, .f32⟩
  | .hbm, ⟨9, _⟩ => ⟨S1280x1024, .f32⟩
  | .hbm, ⟨10, _⟩ => ⟨S1280x1024, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel41.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference41Ideal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel42.lean ====
abbrev S4096x32 : Shape := ⟨2, ![4096, 32]⟩
abbrev S4096x1024 : Shape := ⟨2, ![4096, 1024]⟩
abbrev S6176x1024 : Shape := ⟨2, ![6176, 1024]⟩
abbrev S1024x32 : Shape := ⟨2, ![1024, 32]⟩
abbrev S1024x1024 : Shape := ⟨2, ![1024, 1024]⟩
abbrev S32x1024 : Shape := ⟨2, ![32, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x32, .f32⟩
  | .hbm, ⟨1, _⟩ => ⟨S4096x1024, .bf16⟩
  | .hbm, ⟨2, _⟩ => ⟨S6176x1024, .bf16⟩
  | .hbm, ⟨3, _⟩ => ⟨S6176x1024, .bf16⟩
  | .local _ .vmem, ⟨0, _⟩ => ⟨S1024x32, .f32⟩
  | .local _ .vmem, ⟨1, _⟩ => ⟨S1024x32, .f32⟩
  | .local _ .vmem, ⟨2, _⟩ => ⟨S1024x1024, .bf16⟩
  | .local _ .vmem, ⟨3, _⟩ => ⟨S1024x1024, .bf16⟩
  | .local _ .vmem, ⟨4, _⟩ => ⟨S32x1024, .bf16⟩
  | .local _ .vmem, ⟨5, _⟩ => ⟨S32x1024, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c192_i32 : BitVec 32 := 192#32
  let v0 : BitVec 32 := Scalar.addi c192_i32 arg0
  let c0_i32 : BitVec 32 := 0#32
  ![v0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference42Ideal.lean ====
abbrev S4096x32 : Shape := ⟨2, ![4096, 32]⟩
abbrev S4096x1024 : Shape := ⟨2, ![4096, 1024]⟩
abbrev S6176x1024 : Shape := ⟨2, ![6176, 1024]⟩
abbrev S_ : Shape := ⟨0, ![]⟩
abbrev S32x1024 : Shape := ⟨2, ![32, 1024]⟩
abbrev S1024x32 : Shape := ⟨2, ![1024, 32]⟩
abbrev S6144x1024 : Shape := ⟨2, ![6144, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x1024, .bf16⟩
  | .hbm, ⟨2, _⟩ => ⟨S6176x1024, .bf16⟩
  | .hbm, ⟨3, _⟩ => ⟨S_, .f32⟩
  | .hbm, ⟨4, _⟩ => ⟨S32x1024, .f32⟩
  | .hbm, ⟨5, _⟩ => ⟨S4096x1024, .f32⟩
  | .hbm, ⟨6, _⟩ => ⟨S1024x32, .f32⟩
  | .hbm, ⟨7, _⟩ => ⟨S4096x32, .f32⟩
  | .hbm, ⟨8, _⟩ => ⟨S32x1024, .f32⟩
  | .hbm, ⟨9, _⟩ => ⟨S1024x32, .f32⟩
  | .hbm, ⟨10, _⟩ => ⟨S32x1024, .f32⟩
  | .hbm, ⟨11, _⟩ => ⟨S32x1024, .bf16⟩
  | .hbm, ⟨12, _⟩ => ⟨S6144x1024, .bf16⟩
  | .hbm, ⟨13, _⟩ => ⟨S6176x1024, .bf16⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel43.lean ====
abbrev S4096x128 : Shape := ⟨2, ![4096, 128]⟩
abbrev S128x1024 : Shape := ⟨2, ![128, 1024]⟩
abbrev S4096x1024 : Shape := ⟨2, ![4096, 1024]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S128x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_11 : BitVec 32 := 0#32
  let v17 : BitVec 1 := Scalar.cmpi .eq arg1 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference43Ideal.lean ====
abbrev S4096x128 : Shape := ⟨2, ![4096, 128]⟩
abbrev S128x1024 : Shape := ⟨2, ![128, 1024]⟩
abbrev S4096x1024 : Shape := ⟨2, ![4096, 1024]⟩
abbrev S1x1024 : Shape := ⟨2, ![1, 1024]⟩
abbrev S_ : Shape := ⟨0, ![]⟩
abbrev S1024x128 : Shape := ⟨2, ![1024, 128]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S128x1024, .f32⟩
  | .hbm, ⟨9, _⟩ => ⟨S1024x128, .f32⟩
  | .hbm, ⟨10, _⟩ => ⟨S4096x128, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel44.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference44Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel45.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference45Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel46.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference46Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel47.lean ====
abbrev S4096x4096 : Shape := ⟨2, ![4096, 4096]⟩
abbrev S4x4096 : Shape := ⟨2, ![4, 4096]⟩
abbrev S1x4096 : Shape := ⟨2, ![1, 4096]⟩
abbrev S4096x128 : Shape := ⟨2, ![4096, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S4096x4096, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference47Ideal.lean ====
abbrev S4096x4096 : Shape := ⟨2, ![4096, 4096]⟩
abbrev S4x4096 : Shape := ⟨2, ![4, 4096]⟩
abbrev S1x4096 : Shape := ⟨2, ![1, 4096]⟩
abbrev S_ : Shape := ⟨0, ![]⟩
abbrev S3x4096 : Shape := ⟨2, ![3, 4096]⟩
abbrev S4099x4096 : Shape := ⟨2, ![4099, 4096]⟩
abbrev S4096 : Shape := ⟨1, ![4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S_, .f32⟩
  | .hbm, ⟨4, _⟩ => ⟨S3x4096, .f32⟩
  | .hbm, ⟨5, _⟩ => ⟨S4099x4096, .f32⟩
  | .hbm, ⟨6, _⟩ => ⟨S1x4096, .f32⟩
  | .hbm, ⟨7, _⟩ => ⟨S4096, .f32⟩
  | .hbm, ⟨8, _⟩ => ⟨S4096x4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096, .f32⟩
  | .hbm, ⟨24, _⟩ => ⟨S4096x4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Proof.Pool.Sums.lean ====
/- Window sums of a sequence, two ways.

   The multi-scale pool averages the last `w` entries of a column. The reference takes the running sum of the
   column and subtracts it from itself `w` places later; its gradient runs the same sums from the end. The kernel
   adds the column to itself shifted by 1, 2, 4, 8 places. This module proves, of sequences alone, that both are
   the window sum. Doubling needs no finiteness; a difference of running sums is a window sum only when the
   entries are finite. -/
import Mathlib.Data.EReal.Operations
import Mathlib.Algebra.BigOperators.Intervals
import Mathlib.Tactic.Ring

open Finset

namespace Cert.Pool

/-- The sum of the `w` entries ending at `t`; entries before the start count nothing. -/
noncomputable def back (f : ℕ → EReal) (w t : ℕ) : EReal := ∑ j ∈ range w, if j ≤ t then f (t - j) else 0

/-- The sum of the `w` entries starting at `t`. -/
noncomputable def ahead (f : ℕ → EReal) (w t : ℕ) : EReal := ∑ j ∈ range w, f (t + j)

theorem back_one (f : ℕ → EReal) (t : ℕ) : back f 1 t = f t := by simp [back]

theorem ahead_one (f : ℕ → EReal) (t : ℕ) : ahead f 1 t = f t := by simp [ahead]

/-- Twice the window: the window, and the window `w` places earlier. -/
theorem back_add (f : ℕ → EReal) (w v t : ℕ) :
    back f (w + v) t = back f w t + if w ≤ t then back f v (t - w) else 0 := by
  unfold back
  rw [sum_range_add]
  congr 1
  split_ifs with h
  · refine sum_congr rfl fun j _ => ?_
    by_cases hj : w + j ≤ t
    · rw [if_pos hj, if_pos (by omega), Nat.sub_sub]
    · rw [if_neg hj, if_neg (by omega)]
  · exact sum_eq_zero fun j _ => if_neg (by omega)

/-- Twice the window: the window, and the window `w` places later. -/
theorem ahead_add (f : ℕ → EReal) (w v t : ℕ) : ahead f (w + v) t = ahead f w t + ahead f v (t + w) := by
  unfold ahead
  rw [sum_range_add]
  exact congrArg _ (sum_congr rfl fun j _ => by rw [Nat.add_assoc])

/-- A window past the end of the sequence is empty. -/
theorem ahead_eq_zero (f : ℕ → EReal) (n w t : ℕ) (hf : ∀ i, n ≤ i → f i = 0) (h : n ≤ t) : ahead f w t = 0 :=
  sum_eq_zero fun j _ => hf _ (by omega)

/-- Reals inside extended reals: a sum of embedded reals is the embedded sum. -/
theorem coe_sum {ι : Type*} (s : Finset ι) (x : ι → ℝ) : ((∑ i ∈ s, x i : ℝ) : EReal) = ∑ i ∈ s, (x i : EReal) := by
  classical
  induction s using Finset.induction_on with
  | empty => simp
  | insert a s ha ih => rw [sum_insert ha, sum_insert ha, EReal.coe_add, ih]

/-- The running sum less the running sum `w` places earlier is the window sum, of finite entries. -/
theorem prefix_sub (x : ℕ → ℝ) (w t : ℕ) :
    (∑ i ∈ range (t + 1), (x i : EReal)) - ∑ i ∈ range (t + 1 - w), (x i : EReal) = back (fun i => (x i : EReal)) w t := by
  have hb : back (fun i => (x i : EReal)) w t = ((∑ j ∈ range w, if j ≤ t then x (t - j) else 0 : ℝ) : EReal) := by
    rw [coe_sum]
    exact sum_congr rfl fun j _ => by split_ifs <;> simp
  rw [hb, ← coe_sum, ← coe_sum, ← EReal.coe_sub, EReal.coe_eq_coe_iff]
  clear hb
  induction w with
  | zero => simp
  | succ w ih =>
    rw [sum_range_succ _ w, ← ih]
    split_ifs with h
    · have e : t + 1 - w = (t - w) + 1 := by omega
      have e' : t + 1 - (w + 1) = t - w := by omega
      rw [e, e', sum_range_succ _ (t - w)]
      ring
    · have e : t + 1 - w = 0 := by omega
      have e' : t + 1 - (w + 1) = 0 := by omega
      rw [e, e']
      simp

/-- The sum to the end of the entries less the entries `w` places later is the window sum, of finite entries. -/
theorem suffix_sub (x : ℕ → ℝ) (n : ℕ) (hx : ∀ i, n ≤ i → x i = 0) (w t : ℕ) :
    ∑ k ∈ range n, ((x (t + k) : EReal) + -(x (t + k + w) : EReal)) = ahead (fun i => (x i : EReal)) w t := by
  unfold ahead
  have h : ∀ k, (x (t + k) : EReal) + -(x (t + k + w) : EReal) = ((x (t + k) - x (t + k + w) : ℝ) : EReal) := fun k => by
    rw [sub_eq_add_neg, EReal.coe_add, EReal.coe_neg]
  rw [sum_congr rfl fun k _ => h k, ← coe_sum, ← coe_sum, EReal.coe_eq_coe_iff, sum_sub_distrib]
  have hpad : ∑ k ∈ range n, x (t + k) = ∑ k ∈ range (w + n), x (t + k) := by
    rw [Nat.add_comm w n, sum_range_add]
    rw [sum_eq_zero fun j _ => hx (t + (n + j)) (by omega), add_zero]
  rw [hpad, sum_range_add]
  have e : ∀ k, t + (w + k) = t + k + w := fun k => by omega
  simp only [e]
  ring

end Cert.Pool
-- ==== Proof.Pool.Scan.lean ====
/- The reference's running sum and its transpose, the running sum from the end, are folds over a window of the
   whole length; here each is a plain sum over the rows up to, or from, the row in hand. -/
import proofs.«01_k».proof.Proof.Gen.ReferenceIdeal.Read
import proofs.«01_k».proof.Proof.Pool.Sums
import Idealize.ShloMosaic.Lib.Pipeline.ValueKit
set_option maxRecDepth 16384
noncomputable section
open Idealize.ShloMosaic
namespace Cert.Pool

/-! The reference's running sums, read as plain sums. -/

theorem foldl_add_sum {α : Type} (L : List α) (f : α → EReal) : ∀ z : EReal, L.foldl (fun r n => r + f n) z = z + (L.map f).sum := by
  induction L with
  | nil => intro z; simp
  | cons a L ih => intro z; rw [List.foldl_cons, ih, List.map_cons, List.sum_cons, add_assoc]

/-- A window of `4096` rows and one entry on the other axes has one index per row. -/
def rowEquiv : Fin 4096 ≃ (⟨3, ![4096, 1, 1]⟩ : Shape).Idx where
  toFun n := ix3 n (0 : Fin 1) (0 : Fin 1)
  invFun i := i 0
  left_inv n := rfl
  right_inv i := by
    funext a
    match a with
    | ⟨0, _⟩ => rfl
    | ⟨1, _⟩ => exact Subsingleton.elim (α := Fin 1) _ _
    | ⟨2, _⟩ => exact Subsingleton.elim (α := Fin 1) _ _

/-- Row `n` of one column of a rank-three array, zero past the end. -/
def ser (x : (⟨3, ![4096, 4, 128]⟩ : Shape).Idx → EReal) (g : Fin 4) (c : Fin 128) (n : ℕ) : EReal :=
  if h : n < 4096 then x (ix3 ⟨n, h⟩ g c) else 0

/-- A window sum over `4096` rows as a sum over the rows of the window. -/
theorem window_sum (lo hi : Fin 3 → ℕ) (x : FVec Ideal (⟨3, ![4096, 4, 128]⟩ : Shape) .f32) (init : FVec Ideal (⟨0, ![]⟩ : Shape) .f32)
    (h : (⟨3, ![4096, 4, 128]⟩ : Shape).ReduceWindows ![4096, 1, 1] ![1, 1, 1] lo hi ⟨3, ![4096, 4, 128]⟩) (hu : 0 < (⟨0, ![]⟩ : Shape).numel)
    (hz : init (Shape.Idx.first hu) = 0) (l : ℕ) (h0 : lo 0 = l) (h1 : lo 1 = 0) (h2 : lo 2 = 0) (t : Fin 4096) (g : Fin 4) (c : Fin 128) :
    Host.reduceWindowAdd ![4096, 1, 1] ![1, 1, 1] lo hi x init h hu (ix3 t g c)
      = ∑ n ∈ Finset.range 4096, if l ≤ t.val + n then ser x g c (t.val + n - l) else 0 := by
  unfold Host.reduceWindowAdd
  rw [Ideal.hostReduceWindowAdd_def]
  unfold Ideal.hostReduceWindowAdd Host.reduceWindow
  simp only []
  rw [foldl_add_sum, hz, zero_add, ← List.ofFn_eq_map, List.sum_ofFn,
    ← Fin.sum_univ_eq_sum_range (fun n => if l ≤ t.val + n then ser x g c (t.val + n - l) else 0)]
  rw [← Equiv.sum_comp (rowEquiv.trans (Shape.rowMajor ⟨3, ![4096, 1, 1]⟩))]
  refine Finset.sum_congr rfl fun n _ => ?_
  have e : (Shape.rowMajor ⟨3, ![4096, 1, 1]⟩).symm ((rowEquiv.trans (Shape.rowMajor ⟨3, ![4096, 1, 1]⟩)) n) = ix3 n (0 : Fin 1) (0 : Fin 1) := by
    rw [Equiv.trans_apply, Equiv.symm_apply_apply]; rfl
  have e0 := congrArg Fin.val (congrFun e 0)
  have e1 := congrArg Fin.val (congrFun e 1)
  have e2 := congrArg Fin.val (congrFun e 2)
  change _ = n.val at e0
  change _ = 0 at e1
  change _ = 0 at e2
  have hn := n.isLt
  have ht := t.isLt
  split
  · next hin =>
    have q := hin 0
    change lo 0 ≤ t.val * 1 + ((Shape.rowMajor ⟨3, ![4096, 1, 1]⟩).symm ((rowEquiv.trans (Shape.rowMajor ⟨3, ![4096, 1, 1]⟩)) n) 0).val ∧ t.val * 1 + ((Shape.rowMajor ⟨3, ![4096, 1, 1]⟩).symm ((rowEquiv.trans (Shape.rowMajor ⟨3, ![4096, 1, 1]⟩)) n) 0).val - lo 0 < 4096 at q
    rw [h0, e0] at q
    rw [if_pos (by omega)]
    unfold ser
    rw [dif_pos (by omega)]
    refine congrArg x (funext fun a => Fin.ext ?_)
    match a with
    | ⟨0, _⟩ => show t.val * 1 + ((Shape.rowMajor ⟨3, ![4096, 1, 1]⟩).symm ((rowEquiv.trans (Shape.rowMajor ⟨3, ![4096, 1, 1]⟩)) n) 0).val - lo 0 = t.val + n.val - l; rw [h0, e0]; omega
    | ⟨1, _⟩ => show g.val * 1 + ((Shape.rowMajor ⟨3, ![4096, 1, 1]⟩).symm ((rowEquiv.trans (Shape.rowMajor ⟨3, ![4096, 1, 1]⟩)) n) 1).val - lo 1 = g.val; rw [h1, e1]; omega
    | ⟨2, _⟩ => show c.val * 1 + ((Shape.rowMajor ⟨3, ![4096, 1, 1]⟩).symm ((rowEquiv.trans (Shape.rowMajor ⟨3, ![4096, 1, 1]⟩)) n) 2).val - lo 2 = c.val; rw [h2, e2]; omega
  · next hin =>
    split
    · next hl =>
      unfold ser
      rw [dif_neg]
      intro hlt
      refine hin fun a => ?_
      match a with
      | ⟨0, _⟩ => show lo 0 ≤ t.val * 1 + ((Shape.rowMajor ⟨3, ![4096, 1, 1]⟩).symm ((rowEquiv.trans (Shape.rowMajor ⟨3, ![4096, 1, 1]⟩)) n) 0).val ∧ t.val * 1 + ((Shape.rowMajor ⟨3, ![4096, 1, 1]⟩).symm ((rowEquiv.trans (Shape.rowMajor ⟨3, ![4096, 1, 1]⟩)) n) 0).val - lo 0 < 4096; rw [h0, e0]; omega
      | ⟨1, _⟩ => show lo 1 ≤ g.val * 1 + ((Shape.rowMajor ⟨3, ![4096, 1, 1]⟩).symm ((rowEquiv.trans (Shape.rowMajor ⟨3, ![4096, 1, 1]⟩)) n) 1).val ∧ g.val * 1 + ((Shape.rowMajor ⟨3, ![4096, 1, 1]⟩).symm ((rowEquiv.trans (Shape.rowMajor ⟨3, ![4096, 1, 1]⟩)) n) 1).val - lo 1 < 4; rw [h1, e1]; have := g.isLt; omega
      | ⟨2, _⟩ => show lo 2 ≤ c.val * 1 + ((Shape.rowMajor ⟨3, ![4096, 1, 1]⟩).symm ((rowEquiv.trans (Shape.rowMajor ⟨3, ![4096, 1, 1]⟩)) n) 2).val ∧ c.val * 1 + ((Shape.rowMajor ⟨3, ![4096, 1, 1]⟩).symm ((rowEquiv.trans (Shape.rowMajor ⟨3, ![4096, 1, 1]⟩)) n) 2).val - lo 2 < 128; rw [h2, e2]; have := c.isLt; omega
    · rfl

/-- The running sum from the first row. -/
theorem cumsum_at (x : FVec Ideal (⟨3, ![4096, 4, 128]⟩ : Shape) .f32) (init : FVec Ideal (⟨0, ![]⟩ : Shape) .f32)
    (h : (⟨3, ![4096, 4, 128]⟩ : Shape).ReduceWindows ![4096, 1, 1] ![1, 1, 1] ![4095, 0, 0] ![0, 0, 0] ⟨3, ![4096, 4, 128]⟩) (hu : 0 < (⟨0, ![]⟩ : Shape).numel)
    (hz : init (Shape.Idx.first hu) = 0) (t : Fin 4096) (g : Fin 4) (c : Fin 128) :
    Host.reduceWindowAdd ![4096, 1, 1] ![1, 1, 1] ![4095, 0, 0] ![0, 0, 0] x init h hu (ix3 t g c) = ∑ n ∈ Finset.range (t.val + 1), ser x g c n := by
  rw [window_sum _ _ x init h hu hz 4095 rfl rfl rfl t g c]
  have ht := t.isLt
  have key := Finset.sum_range_add (fun n => if 4095 ≤ t.val + n then ser x g c (t.val + n - 4095) else 0) (4095 - t.val) (t.val + 1)
  rw [show 4095 - t.val + (t.val + 1) = 4096 by omega] at key
  refine key.trans ?_
  rw [Finset.sum_eq_zero fun n hn => if_neg (by have := Finset.mem_range.1 hn; omega), zero_add]
  refine Finset.sum_congr rfl fun n hn => ?_
  rw [if_pos (by omega)]
  exact congrArg _ (by omega)

/-- The running sum from the last row. -/
theorem revsum_at (x : FVec Ideal (⟨3, ![4096, 4, 128]⟩ : Shape) .f32) (init : FVec Ideal (⟨0, ![]⟩ : Shape) .f32)
    (h : (⟨3, ![4096, 4, 128]⟩ : Shape).ReduceWindows ![4096, 1, 1] ![1, 1, 1] ![0, 0, 0] ![4095, 0, 0] ⟨3, ![4096, 4, 128]⟩) (hu : 0 < (⟨0, ![]⟩ : Shape).numel)
    (hz : init (Shape.Idx.first hu) = 0) (t : Fin 4096) (g : Fin 4) (c : Fin 128) :
    Host.reduceWindowAdd ![4096, 1, 1] ![1, 1, 1] ![0, 0, 0] ![4095, 0, 0] x init h hu (ix3 t g c) = ∑ n ∈ Finset.range 4096, ser x g c (t.val + n) := by
  rw [window_sum _ _ x init h hu hz 0 rfl rfl rfl t g c]
  exact Finset.sum_congr rfl fun n _ => if_pos (Nat.zero_le _)

end Cert.Pool
-- ==== Proof.Finite.lean ====
/- Arrays whose entries are real numbers, and the comparison by which a precondition says so. -/
import Idealize.ShloMosaic.Lib.Pointwise
import Idealize.ShloMosaic.PureOps.Ideal.Laws
noncomputable section
open Idealize.ShloMosaic
namespace Cert

/-- Every entry is a real number. -/
def AllReal {s : Shape} (x : s.Idx → EReal) : Prop := ∀ i, ∃ r : ℝ, x i = (r : EReal)

/-- An extended real whose absolute value is below `+∞` is a real number. -/
theorem real_of_abs_lt {x : EReal} (h : max x (-x) < ⊤) : ∃ r : ℝ, x = (r : EReal) := by
  induction x using EReal.rec with
  | bot => simp at h
  | top => simp at h
  | coe r => exact ⟨r, rfl⟩

/-- The precondition's comparison: where `|x| < ∞` is all ones, every entry is a real number. -/
theorem real_of_cmp {s : Shape} (x : FVec Ideal s .f32) (b : (⟨0, ![]⟩ : Shape).BroadcastsInDim s (![] : Fin 0 → Fin s.rank))
    (h : cmpf .olt (Host.absf x) (broadcastInDim s ![] b (constant (F := Ideal) ⟨0, ![]⟩ .f32 0x7F800000#32)) = fun _ => 1#1) : AllReal x := by
  intro i
  have hi := congrFun h i
  have ht : (broadcastInDim s ![] b (constant (F := Ideal) ⟨0, ![]⟩ .f32 0x7F800000#32)) i = (⊤ : EReal) := by
    show Ideal.ofBits .f32 0x7F800000#32 = ⊤
    simp [Ideal.ofBits, Ideal.ieee]
  refine real_of_abs_lt ?_
  change Ideal.cmp .olt (max (x i) (-(x i))) _ = 1#1 at hi
  rw [ht] at hi
  by_contra hn
  revert hi
  simp [Ideal.cmp, hn]
end Cert
-- ==== Proof.Pool.Kernel.lean ====
/- The stores of the pool's gradient kernel, read at an index.

   At grid point `g` the kernel has the 128 columns of group `g`. `win g = 2 ^ (g + 1)` is the group's window and
   `cnt g t = min (t + 1) (win g)` the number of entries it holds at row `t`. The forward shifts give the window
   sums ending at a row, the backward shifts those starting at it; both by doubling (`Proof.Pool.Sums`). -/
import proofs.«01_k».proof.Proof.Gen.KernelIdeal.Skeleton
import proofs.«01_k».proof.Proof.Pool.Sums
import Idealize.ShloMosaic.Lib.Pointwise
import Idealize.ShloMosaic.Lib.KernelVsHost
import Idealize.ShloMosaic.Lib.WordCmp

set_option maxRecDepth 16384

noncomputable section

open Idealize.ShloMosaic Idealize.ShloMosaic.TcCoe Idealize.SL.Sem
open Cert.KernelIdeal Cert.KernelIdeal.Gen

namespace Cert.Pool

/-- The window of group `g`. -/
def win (g : ℕ) : ℕ := 2 ^ (g + 1)

/-- The entries in the window of group `g` ending at row `t`, as a number. -/
def cnt (g t : ℕ) : ℝ := ((min (t + 1) (win g) : ℕ) : ℝ)

theorem cnt_ne_zero (g t : ℕ) : cnt g t ≠ 0 := by
  unfold cnt
  have : 0 < min (t + 1) (win g) := lt_min (Nat.succ_pos t) (Nat.two_pow_pos _)
  exact_mod_cast this.ne'

/-- Column `c` of a block as a sequence, zero past its end. -/
def col (y : FVec Ideal S4096x128 .f32) (c : Fin 128) : ℕ → EReal :=
  fun i => if h : i < 4096 then y (ix2 ⟨i, h⟩ c) else 0

theorem col_of_le (y : FVec Ideal S4096x128 .f32) (c : Fin 128) (i : ℕ) (h : 4096 ≤ i) : col y c i = 0 :=
  dif_neg (by omega)

theorem col_val (y : FVec Ideal S4096x128 .f32) (c : Fin 128) (t : Fin 4096) : col y c t = y (ix2 t c) := dif_pos t.isLt

/-! ## One shift -/

theorem rot_at (n : BitVec 32) (y : FVec Ideal S4096x128 .f32) (h : S4096x128.Rotates 0 none) (t t' : Fin 4096) (c : Fin 128)
    (ht : t'.val = (t.val + 4096 - n.toNat % 4096) % 4096) :
    dynamicRotate 0 n none y h (ix2 t c) = y (ix2 t' c) :=
  dynamicRotate_apply 0 n y h _ _ fun b => by
    match b with
    | ⟨0, _⟩ => exact ht
    | ⟨1, _⟩ => rfl

/-- Rows from `n` on take the row `n` before; the first `n` rows take zero. -/
theorem dn_at (n : ℕ) (hn : n < 4096) (y : FVec Ideal S4096x128 .f32) (h : S4096x128.Rotates 0 none)
    (hi : S4096x128.Iotas .tc 32 [0]) (t : Fin 4096) (c : Fin 128) :
    select (cmpi .sge (iota .tc S4096x128 32 [0] hi) (broadcast S4096x128 (BitVec.ofNat 32 n)))
        (dynamicRotate 0 (BitVec.ofNat 32 n) none y h) (broadcast S4096x128 (Scalar.ofBits (F := Ideal) .f32 0x00000000#32)) (ix2 t c)
      = if n ≤ t.val then col y c (t.val - n) else 0 := by
  have hm : cmpi .sge (iota .tc S4096x128 32 [0] hi) (broadcast S4096x128 (BitVec.ofNat 32 n)) (ix2 t c) = if n ≤ t.val then 1#1 else 0#1 := by
    have ht := t.isLt
    pointwise
    word_cmp
    by_cases h : n ≤ t.val <;> simp [h]
  have hz : broadcast S4096x128 (Scalar.ofBits (F := Ideal) .f32 0x00000000#32) (ix2 t c) = (0 : EReal) := Ideal.ofBits_zero_f32
  show Scalar.select (cmpi .sge (iota .tc S4096x128 32 [0] hi) (broadcast S4096x128 (BitVec.ofNat 32 n)) (ix2 t c)) (dynamicRotate 0 (BitVec.ofNat 32 n) none y h (ix2 t c)) (broadcast S4096x128 (Scalar.ofBits (F := Ideal) .f32 0x00000000#32) (ix2 t c)) = _
  rw [hm, hz]
  have hN : (BitVec.ofNat 32 n).toNat = n := by rw [BitVec.toNat_ofNat]; omega
  split_ifs with hle
  · have h1 : t.val - n < 4096 := by omega
    rw [rot_at _ y h t ⟨t.val - n, h1⟩ c (by rw [hN]; show t.val - n = _; omega)]
    unfold col
    rw [dif_pos h1]
    rfl
  · rfl

/-- Rows take the row `n` after; the last `n` rows take zero. -/
theorem up_at (n k : ℕ) (hn : n + k = 4096) (h0 : 0 < n) (y : FVec Ideal S4096x128 .f32) (h : S4096x128.Rotates 0 none)
    (hi : S4096x128.Iotas .tc 32 [0]) (t : Fin 4096) (c : Fin 128) :
    select (cmpi .slt (iota .tc S4096x128 32 [0] hi) (broadcast S4096x128 (BitVec.ofNat 32 k)))
        (dynamicRotate 0 (BitVec.ofNat 32 k) none y h) (broadcast S4096x128 (Scalar.ofBits (F := Ideal) .f32 0x00000000#32)) (ix2 t c)
      = col y c (t.val + n) := by
  have ht := t.isLt
  have hm : cmpi .slt (iota .tc S4096x128 32 [0] hi) (broadcast S4096x128 (BitVec.ofNat 32 k)) (ix2 t c) = if t.val < k then 1#1 else 0#1 := by
    pointwise
    word_cmp
    by_cases h : t.val < k <;> simp [h]
  have hz : broadcast S4096x128 (Scalar.ofBits (F := Ideal) .f32 0x00000000#32) (ix2 t c) = (0 : EReal) := Ideal.ofBits_zero_f32
  show Scalar.select (cmpi .slt (iota .tc S4096x128 32 [0] hi) (broadcast S4096x128 (BitVec.ofNat 32 k)) (ix2 t c)) (dynamicRotate 0 (BitVec.ofNat 32 k) none y h (ix2 t c)) (broadcast S4096x128 (Scalar.ofBits (F := Ideal) .f32 0x00000000#32) (ix2 t c)) = _
  rw [hm, hz]
  have hN : (BitVec.ofNat 32 k).toNat = k := by rw [BitVec.toNat_ofNat]; omega
  split_ifs with hle
  · have h1 : t.val + n < 4096 := by omega
    rw [rot_at _ y h t ⟨t.val + n, h1⟩ c (by rw [hN]; show t.val + n = _; omega)]
    unfold col
    rw [dif_pos h1]
    rfl
  · rw [col_of_le y c _ (by omega)]
    rfl

/-! ## Doubling -/

/-- A block of window sums ending at each row, added to itself shifted by the window, has twice the window. -/
theorem dn_step (f : Fin 128 → ℕ → EReal) (w : ℕ) (hw : w < 4096) (y : FVec Ideal S4096x128 .f32) (h : S4096x128.Rotates 0 none)
    (hi : S4096x128.Iotas .tc 32 [0]) (hy : ∀ (t : Fin 4096) (c : Fin 128), y (ix2 t c) = back (f c) w t) (t : Fin 4096) (c : Fin 128) :
    addf y (select (cmpi .sge (iota .tc S4096x128 32 [0] hi) (broadcast S4096x128 (BitVec.ofNat 32 w)))
        (dynamicRotate 0 (BitVec.ofNat 32 w) none y h) (broadcast S4096x128 (Scalar.ofBits (F := Ideal) .f32 0x00000000#32))) (ix2 t c)
      = back (f c) (w + w) t := by
  have ht := t.isLt
  rw [back_add]
  refine congrArg₂ (· + ·) (hy t c) ((dn_at w hw y h hi t c).trans ?_)
  split_ifs with hle
  · have h1 : t.val - w < 4096 := by omega
    exact (dif_pos h1).trans (hy ⟨_, h1⟩ c)
  · rfl

/-- A block of window sums starting at each row, added to itself shifted by the window, has twice the window. -/
theorem up_step (f : Fin 128 → ℕ → EReal) (hf : ∀ c i, 4096 ≤ i → f c i = 0) (w k : ℕ) (hn : w + k = 4096) (hw : 0 < w)
    (y : FVec Ideal S4096x128 .f32) (h : S4096x128.Rotates 0 none)
    (hi : S4096x128.Iotas .tc 32 [0]) (hy : ∀ (t : Fin 4096) (c : Fin 128), y (ix2 t c) = ahead (f c) w t) (t : Fin 4096) (c : Fin 128) :
    addf y (select (cmpi .slt (iota .tc S4096x128 32 [0] hi) (broadcast S4096x128 (BitVec.ofNat 32 k)))
        (dynamicRotate 0 (BitVec.ofNat 32 k) none y h) (broadcast S4096x128 (Scalar.ofBits (F := Ideal) .f32 0x00000000#32))) (ix2 t c)
      = ahead (f c) (w + w) t := by
  have ht := t.isLt
  rw [ahead_add]
  refine congrArg₂ (· + ·) (hy t c) ((up_at w k hn hw y h hi t c).trans ?_)
  by_cases h1 : t.val + w < 4096
  · exact (dif_pos h1).trans (hy ⟨_, h1⟩ c)
  · rw [col_of_le y c _ (by omega), ahead_eq_zero (f c) 4096 w _ (hf c) (by omega)]

/-- The group's window is one of four: the kernel picks it by the grid point. -/
theorem pick_at (W : ℕ → ℕ → EReal) (g : Fin 4) (y2 y4 y8 y16 : FVec Ideal S4096x128 .f32) (t : Fin 4096) (c : Fin 128)
    (h2 : y2 (ix2 t c) = W 2 t) (h4 : y4 (ix2 t c) = W 4 t) (h8 : y8 (ix2 t c) = W 8 t) (h16 : y16 (ix2 t c) = W 16 t) :
    (Scalar.select (Scalar.cmpi .eq (BitVec.ofNat 32 g.val) 0#32) y2
      (Scalar.select (Scalar.cmpi .eq (BitVec.ofNat 32 g.val) 1#32) y4
        (Scalar.select (Scalar.cmpi .eq (BitVec.ofNat 32 g.val) 2#32) y8 y16)) : FVec Ideal S4096x128 .f32) (ix2 t c)
      = W (win g.val) t := by
  match g with
  | ⟨0, _⟩ => exact h2
  | ⟨1, _⟩ => exact h4
  | ⟨2, _⟩ => exact h8
  | ⟨3, _⟩ => exact h16

/-! ## The payloads -/

/-- The count of a row as the kernel computes it in 32-bit words. -/
theorem count_word : ∀ (g : Fin 4) (t : Fin 4096),
    (IntOp.minsi (IntOp.addi (BitVec.ofNat 32 t.val) 1#32) (Scalar.shli 2#32 (BitVec.ofNat 32 g.val))).toInt
      = ((min (t.val + 1) (win g) : ℕ) : ℤ) := by
  decide +kernel

/-- The count of a row. -/
theorem pay2_at (i : grid0.Coords) (g : Fin 4) (hg : (i 0).val = g.val) (t : Fin 4096) (c : Fin 128) :
    k0_pay2 (F := Ideal) i (ix2 t c) = (cnt g t : EReal) := by
  have ht := t.isLt
  have hgl := g.isLt
  pointwise [k0_pay2]
  rw [hg]
  have e : (IntOp.minsi (IntOp.addi (BitVec.ofNat 32 t.val) 1#32) (Scalar.shli 2#32 (BitVec.ofNat 32 g.val))).toInt
      = ((min (t.val + 1) (win g) : ℕ) : ℤ) := count_word g t
  show (((IntOp.minsi (IntOp.addi (BitVec.ofNat 32 t.val) 1#32) (Scalar.shli 2#32 (BitVec.ofNat 32 g.val))).toInt : ℝ) : EReal) = _
  rw [e]
  rfl

/-- The pooled input: the window's mean less the entry. -/
theorem pay3_at (i : grid0.Coords) (g : Fin 4) (hg : (i 0).val = g.val) (u : FVec Ideal S4096x128 .f32) (t : Fin 4096) (c : Fin 128) :
    k0_pay3 (F := Ideal) i u (ix2 t c) = Ideal.div (back (col u c) (win g) t) (cnt g t : EReal) - u (ix2 t c) := by
  have h1 : ∀ (t : Fin 4096) (c : Fin 128), u (ix2 t c) = back (col u c) 1 t := fun t c => by rw [back_one, col_val]
  have h2 := dn_step (col u) 1 (by omega) u rotates_S4096x128_d0 iota_S4096x128_d0_w32 h1
  have h4 := dn_step (col u) 2 (by omega) _ rotates_S4096x128_d0 iota_S4096x128_d0_w32 h2
  have h8 := dn_step (col u) 4 (by omega) _ rotates_S4096x128_d0 iota_S4096x128_d0_w32 h4
  have h16 := dn_step (col u) 8 (by omega) _ rotates_S4096x128_d0 iota_S4096x128_d0_w32 h8
  have hp := pick_at (back (col u c)) g _ _ _ _ t c (h2 t c) (h4 t c) (h8 t c) (h16 t c)
  rw [← show BitVec.ofNat 32 (i 0).val = BitVec.ofNat 32 g.val by rw [hg]] at hp
  exact congrArg₂ (· - ·) (congrArg₂ Ideal.div hp (pay2_at i g hg t c)) rfl

/-- The gradient of the pooled input before the mean: the scaled cotangent times the weight's transpose. -/
theorem pay9_at (w : FVec Ideal S1x128x128 .f32) (d : FVec Ideal S4096x128 .f32) (sc : FVec Ideal S1x128 .f32) (t : Fin 4096) (c : Fin 128) :
    k0_pay9 (F := Ideal) w d sc (ix2 t c) = ∑ k : Fin 128, d (ix2 t k) * sc (ix2 0 k) * w (ix3 0 c k) := by
  pointwise [k0_pay9, k0_pay7, k0_pay5]

/-- The weight's gradient. -/
theorem pay8_at (pm : FVec Ideal S4096x128 .f32) (d : FVec Ideal S4096x128 .f32) (sc : FVec Ideal S1x128 .f32) (a b : Fin 128) :
    k0_pay8 (F := Ideal) pm d sc (ix3 0 a b) = ∑ t : Fin 4096, pm (ix2 t a) * (d (ix2 t b) * sc (ix2 0 b)) := by
  pointwise [k0_pay8, k0_pay7, k0_pay4]

/-- The scale's gradient. -/
theorem pay6_at (pm : FVec Ideal S4096x128 .f32) (w : FVec Ideal S1x128x128 .f32) (d : FVec Ideal S4096x128 .f32) (b : Fin 128) :
    k0_pay6 (F := Ideal) pm w d (ix2 0 b) = ∑ t : Fin 4096, (∑ k : Fin 128, pm (ix2 t k) * w (ix3 0 k b)) * d (ix2 t b) := by
  pointwise [k0_pay6, k0_pay4, k0_pay5]

/-- A column of the gradient of the pooled input, each entry over its count, zero past the end. -/
def share (g : Fin 4) (w : FVec Ideal S1x128x128 .f32) (d : FVec Ideal S4096x128 .f32) (sc : FVec Ideal S1x128 .f32) (c : Fin 128) : ℕ → EReal :=
  fun t => if h : t < 4096 then Ideal.div (∑ k : Fin 128, d (ix2 ⟨t, h⟩ k) * sc (ix2 0 k) * w (ix3 0 c k)) (cnt g t : EReal) else 0

theorem share_of_le (g : Fin 4) (w : FVec Ideal S1x128x128 .f32) (d : FVec Ideal S4096x128 .f32) (sc : FVec Ideal S1x128 .f32) (c : Fin 128)
    (t : ℕ) (h : 4096 ≤ t) : share g w d sc c t = 0 := dif_neg (by omega)

/-- The input's gradient: the window of the shares that starts at the row, less the gradient itself. -/
theorem pay1_at (i : grid0.Coords) (g : Fin 4) (hg : (i 0).val = g.val) (w : FVec Ideal S1x128x128 .f32) (d : FVec Ideal S4096x128 .f32)
    (sc : FVec Ideal S1x128 .f32) (t : Fin 4096) (c : Fin 128) :
    k0_pay1 (F := Ideal) (BitVec.ofNat 32 (i 0).val) (iota .tc S4096x128 32 [0] iota_S4096x128_d0_w32) (k0_pay9 w d sc)
        (k0_pay10 (iota .tc S4096x128 32 [0] iota_S4096x128_d0_w32) (k0_pay2 i) w d sc)
        (k0_pay11 (iota .tc S4096x128 32 [0] iota_S4096x128_d0_w32) (k0_pay2 i) w d sc)
        (k0_pay12 (iota .tc S4096x128 32 [0] iota_S4096x128_d0_w32)) 4092#32 (ix2 t c)
      = ahead (share g w d sc c) (win g) t - ∑ k : Fin 128, d (ix2 t k) * sc (ix2 0 k) * w (ix3 0 c k) := by
  have hz : ∀ c i, 4096 ≤ i → share g w d sc c i = 0 := share_of_le g w d sc
  have h1 : ∀ (t : Fin 4096) (c : Fin 128), divf (k0_pay9 (F := Ideal) w d sc) (k0_pay2 i) (ix2 t c) = ahead (share g w d sc c) 1 t := fun t c => by
    rw [ahead_one]
    unfold share
    rw [dif_pos t.isLt]
    exact congrArg₂ Ideal.div (pay9_at w d sc t c) (pay2_at i g hg t c)
  have h2 := up_step (share g w d sc) hz 1 4095 rfl (by omega) _ rotates_S4096x128_d0 iota_S4096x128_d0_w32 h1
  have h4 := up_step (share g w d sc) hz 2 4094 rfl (by omega) _ rotates_S4096x128_d0 iota_S4096x128_d0_w32 h2
  have h8 := up_step (share g w d sc) hz 4 4092 rfl (by omega) _ rotates_S4096x128_d0 iota_S4096x128_d0_w32 h4
  have h16 := up_step (share g w d sc) hz 8 4088 rfl (by omega) _ rotates_S4096x128_d0 iota_S4096x128_d0_w32 h8
  have hp := pick_at (ahead (share g w d sc c)) g _ _ _ _ t c (h2 t c) (h4 t c) (h8 t c) (h16 t c)
  rw [show BitVec.ofNat 32 (i 0).val = BitVec.ofNat 32 g.val by rw [hg]]
  exact congrArg₂ (· - ·) hp (pay9_at w d sc t c)

end Cert.Pool
-- ==== Proof.Pool.Value.lean ====
/- What the kernel's three result arrays hold after the launch, each as one formula over the arguments. -/
import proofs.«01_k».proof.Proof.Gen.KernelIdeal.Value
import proofs.«01_k».proof.Proof.Pool.Kernel
import Idealize.ShloMosaic.Lib.Pipeline.ValueKit
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Pool

theorem idx : ∀ t : Fin cfg0.N, win0_0.index t = ![0, t.val] ∧ win0_1.index t = ![t.val, 0, 0] ∧ win0_2.index t = ![0, t.val]
    ∧ win0_3.index t = ![0, t.val] ∧ win0_4.index t = ![0, t.val] ∧ win0_5.index t = ![t.val, 0, 0] ∧ win0_6.index t = ![0, t.val]
    ∧ (grid0.coords t 0).val = t.val ∧ t.val < 4 :=
  (by decide +kernel : ∀ t : Fin grid0.N, _)

variable (m : (ℓ : Loc nD τ sig) → Buf (Elt Ideal) ℓ)

/-- The group of a grid point. -/
def grp (t : Fin cfg0.N) : Fin 4 := ⟨t.val, (idx t).2.2.2.2.2.2.2.2⟩

def ublk (X : FVec Ideal S4096x1280 .f32) (g : Fin 4) : FVec Ideal S4096x128 .f32 :=
  fun j => X (ix2 (⟨(j 0).val, (j 0).isLt⟩ : Fin 4096) (⟨g.val * 128 + (j 1).val, by have : (j 1).val < 128 := (j 1).isLt; have := g.isLt; omega⟩ : Fin 1280))
def dblk (X : FVec Ideal S4096x1024 .f32) (g : Fin 4) : FVec Ideal S4096x128 .f32 :=
  fun j => X (ix2 (⟨(j 0).val, (j 0).isLt⟩ : Fin 4096) (⟨g.val * 128 + (j 1).val, by have : (j 1).val < 128 := (j 1).isLt; have := g.isLt; omega⟩ : Fin 1024))
def sblk (X : FVec Ideal S1x512 .f32) (g : Fin 4) : FVec Ideal S1x128 .f32 :=
  fun j => X (ix2 (0 : Fin 1) (⟨g.val * 128 + (j 1).val, by have : (j 1).val < 128 := (j 1).isLt; have := g.isLt; omega⟩ : Fin 512))
def wblk (X : FVec Ideal S4x128x128 .f32) (g : Fin 4) : FVec Ideal S1x128x128 .f32 :=
  fun j => X (ix3 g (⟨(j 1).val, (j 1).isLt⟩ : Fin 128) (⟨(j 2).val, (j 2).isLt⟩ : Fin 128))

theorem iblk0 (c : Dev nD) (t : Fin cfg0.N) : iblk m c 0 t = ublk (m ((c : Thread nD τ).loc main_arg0)) (grp t) := by
  funext j
  unfold ublk grp
  blk_ext [iblk, V, idx t]
theorem iblk1 (c : Dev nD) (t : Fin cfg0.N) : iblk m c 1 t = wblk (m ((c : Thread nD τ).loc main_arg1)) (grp t) := by
  funext j
  unfold wblk grp
  blk_ext [iblk, V, idx t]
theorem iblk2 (c : Dev nD) (t : Fin cfg0.N) : iblk m c 2 t = sblk (m ((c : Thread nD τ).loc main_arg2)) (grp t) := by
  funext j
  unfold sblk grp
  blk_ext [iblk, V, idx t]
theorem iblk3 (c : Dev nD) (t : Fin cfg0.N) : iblk m c 3 t = dblk (m ((c : Thread nD τ).loc main_arg3)) (grp t) := by
  funext j
  unfold dblk grp
  blk_ext [iblk, V, idx t]

/-- The pooled input of group `g`: the mean of the window ending at the row, less the entry. -/
def pooled (X : FVec Ideal S4096x1280 .f32) (g : Fin 4) (t : Fin 4096) (c : Fin 128) : EReal :=
  Ideal.div (back (col (ublk X g) c) (win g) t) (cnt g t : EReal) - ublk X g (ix2 t c)

/-- The gradient with respect to the pooled input. -/
def dpool (W : FVec Ideal S4x128x128 .f32) (S : FVec Ideal S1x512 .f32) (D : FVec Ideal S4096x1024 .f32) (g : Fin 4) (t : Fin 4096) (c : Fin 128) : EReal :=
  ∑ k : Fin 128, dblk D g (ix2 t k) * sblk S g (ix2 0 k) * wblk W g (ix3 0 c k)

/-- The weight's gradient. -/
def dW (X : FVec Ideal S4096x1280 .f32) (S : FVec Ideal S1x512 .f32) (D : FVec Ideal S4096x1024 .f32) (g : Fin 4) (a b : Fin 128) : EReal :=
  ∑ t : Fin 4096, pooled X g t a * (dblk D g (ix2 t b) * sblk S g (ix2 0 b))

/-- The scale's gradient. -/
def dS (X : FVec Ideal S4096x1280 .f32) (W : FVec Ideal S4x128x128 .f32) (D : FVec Ideal S4096x1024 .f32) (g : Fin 4) (b : Fin 128) : EReal :=
  ∑ t : Fin 4096, (∑ k : Fin 128, pooled X g t k * wblk W g (ix3 0 k b)) * dblk D g (ix2 t b)

/-- The input's gradient. -/
def dU (W : FVec Ideal S4x128x128 .f32) (S : FVec Ideal S1x512 .f32) (D : FVec Ideal S4096x1024 .f32) (g : Fin 4) (t : Fin 4096) (c : Fin 128) : EReal :=
  ahead (share g (wblk W g) (dblk D g) (sblk S g) c) (win g) t - dpool W S D g t c

/-- The array of the weight's gradient. -/
def arrW (X : FVec Ideal S4096x1280 .f32) (S : FVec Ideal S1x512 .f32) (D : FVec Ideal S4096x1024 .f32) : FVec Ideal S4x128x128 .f32 :=
  fun i => dW X S D (i 0) (i 1) (i 2)

/-- The array of the scale's gradient. -/
def arrS (X : FVec Ideal S4096x1280 .f32) (W : FVec Ideal S4x128x128 .f32) (D : FVec Ideal S4096x1024 .f32) : FVec Ideal S1x512 .f32 :=
  fun i => dS X W D ⟨(i 1).val / 128, by have : (i 1).val < 512 := (i 1).isLt; omega⟩ ⟨(i 1).val % 128, Nat.mod_lt _ (by omega)⟩

/-- The input's gradient at an array index of the first 512 columns. -/
def arrU0 (W : FVec Ideal S4x128x128 .f32) (S : FVec Ideal S1x512 .f32) (D : FVec Ideal S4096x1024 .f32) : FVec Ideal S4096x1280 .f32 :=
  fun i => dU W S D ⟨(i 1).val / 128 % 4, Nat.mod_lt _ (by omega)⟩ (i 0) ⟨(i 1).val % 128, Nat.mod_lt _ (by omega)⟩

/-- The array of the input's gradient: the first 512 columns new, the others as they came. -/
def arrU (W : FVec Ideal S4x128x128 .f32) (S : FVec Ideal S1x512 .f32) (D : FVec Ideal S4096x1024 .f32) (P : FVec Ideal S4096x1280 .f32) : FVec Ideal S4096x1280 .f32 :=
  fun i => if (i 1).val < 512 then arrU0 W S D i else P i

theorem final5 (c : Dev nD) : (dats m 0 c).arrAt 5 (cfgs 0).N
    = arrW (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5]; unfold outsAt0; frame_out
  rw [iblk0, iblk2, iblk3]
  have e : ((View.whole main_v0_1).slice (win0_5.rect t)).emb y = ix3 (grp t) (y 1 : Fin 128) (y 2 : Fin 128) := by
    unfold grp
    blk_ext [idx t]
  have ey : y = ix3 (0 : Fin 1) (y 1 : Fin 128) (y 2 : Fin 128) := by
    blk_ext []
  rw [e]
  refine (congrArg _ ey).trans ((pay8_at _ _ _ _ _).trans ?_)
  exact Finset.sum_congr rfl fun s _ => congrArg (· * _) (pay3_at _ (grp t) (idx t).2.2.2.2.2.2.2.1 _ _ _)

theorem final6 (c : Dev nD) : (dats m 0 c).arrAt 6 (cfgs 0).N
    = arrS (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]; unfold outsAt0; frame_out
  rw [iblk0, iblk1, iblk3]
  have hy : (y 1).val < 128 := (y 1).isLt
  have ht := (idx t).2.2.2.2.2.2.2.2
  have e : ((View.whole main_v0_2).slice (win0_6.rect t)).emb y = ix2 (0 : Fin 1) (⟨t.val * 128 + (y 1).val, by omega⟩ : Fin 512) := by
    blk_ext [idx t]
  have ey : y = ix2 (0 : Fin 1) (y 1 : Fin 128) := by
    blk_ext []
  rw [e]
  refine (congrArg _ ey).trans ((pay6_at _ _ _ _).trans ?_)
  have eg : (⟨(t.val * 128 + (y 1).val) / 128, by omega⟩ : Fin 4) = grp t := Fin.ext (by show (t.val * 128 + (y 1).val) / 128 = t.val; omega)
  have eb : (⟨(t.val * 128 + (y 1).val) % 128, Nat.mod_lt _ (by omega)⟩ : Fin 128) = y 1 := Fin.ext (by show (t.val * 128 + (y 1).val) % 128 = (y 1).val; omega)
  show _ = dS _ _ _ (⟨(t.val * 128 + (y 1).val) / 128, _⟩ : Fin 4) (⟨(t.val * 128 + (y 1).val) % 128, _⟩ : Fin 128)
  rw [eg, eb]
  refine Finset.sum_congr rfl fun s _ => congrArg (· * _) (Finset.sum_congr rfl fun k _ => congrArg (· * _) ?_)
  exact pay3_at _ (grp t) (idx t).2.2.2.2.2.2.2.1 _ _ _

theorem V_du (c : Dev nD) : V m c main_v0_0 = m ((c : Thread nD τ).loc main_arg4) := by
  entry_read
  rfl

theorem final4 (c : Dev nD) : (dats m 0 c).arrAt 4 (cfgs 0).N
    = arrU (m ((c : Thread nD τ).loc main_arg1)) (m ((c : Thread nD τ).loc main_arg2)) (m ((c : Thread nD τ).loc main_arg3)) (m ((c : Thread nD τ).loc main_arg4)) := by
  have h := (dats m 0 c).arrAt_eq_of_coversWhere 4 (arrU0 (m ((c : Thread nD τ).loc main_arg1)) (m ((c : Thread nD τ).loc main_arg2)) (m ((c : Thread nD τ).loc main_arg3)))
    (P := fun i : S4096x1280.Idx => (i 1).val < 512) (fun β => β 1 < 4) (by decide +kernel) (fun t hf y => ?_)
    (fun j => by blk_simp [Pipeline.Window.cell_apply]; omega)
  · refine h.trans (funext fun i => ?_)
    unfold arrU
    rw [A_eq]
    exact congrArg (fun b => if (i 1).val < 512 then _ else b) (congrFun (V_du m c) i)
  blk_simp
  rw [after0_4]; unfold outsAt0; frame_out
  rw [iblk1, iblk2, iblk3]
  have hy : (y 1).val < 128 := (y 1).isLt
  have ht := (idx t).2.2.2.2.2.2.2.2
  have e : ((View.whole main_v0_0).slice (win0_4.rect t)).emb y = ix2 (y 0 : Fin 4096) (⟨t.val * 128 + (y 1).val, by omega⟩ : Fin 1280) := by
    blk_ext [idx t]
  have ey : y = ix2 (y 0 : Fin 4096) (y 1 : Fin 128) := by
    blk_ext []
  rw [e]
  refine (congrArg _ ey).trans ((pay1_at (grid0.coords t) (grp t) (idx t).2.2.2.2.2.2.2.1 _ _ _ _ _).trans ?_)
  have eg : (⟨(t.val * 128 + (y 1).val) / 128 % 4, Nat.mod_lt _ (by omega)⟩ : Fin 4) = grp t := Fin.ext (by show (t.val * 128 + (y 1).val) / 128 % 4 = t.val; omega)
  have eb : (⟨(t.val * 128 + (y 1).val) % 128, Nat.mod_lt _ (by omega)⟩ : Fin 128) = y 1 := Fin.ext (by show (t.val * 128 + (y 1).val) % 128 = (y 1).val; omega)
  show _ = dU _ _ _ (⟨(t.val * 128 + (y 1).val) / 128 % 4, _⟩ : Fin 4) (y 0) (⟨(t.val * 128 + (y 1).val) % 128, _⟩ : Fin 128)
  rw [eg, eb]
  rfl

end Cert.Pool
-- ==== Proof.Pool.Host.lean ====
/- The reference's forward pass and the sums of its gradient, read at an index.

   The reference's `cumsum`, slices and concatenations become running sums of a column, and their differences the
   window sums of `Proof.Pool.Sums`. -/
import proofs.«01_k».proof.Proof.Gen.ReferenceIdeal.Read
import proofs.«01_k».proof.Proof.Pool.Scan
import proofs.«01_k».proof.Proof.Finite
import proofs.«01_k».proof.Proof.Pool.Value
import Idealize.ShloMosaic.Lib.Pointwise
import Idealize.ShloMosaic.Lib.WordCmp
set_option maxRecDepth 16384
noncomputable section
open Idealize.ShloMosaic
open Cert.ReferenceIdeal Cert.ReferenceIdeal.Gen Cert.ReferenceIdeal.Read
namespace Cert.Pool

theorem v1_at (x0 : FVec Ideal S4096x1280 .f32) (t : Fin 4096) (g : Fin 4) (c : Fin 128) :
    val_main_v1 (F := Ideal) x0 (ix3 t g c) = ublk x0 g (ix2 t c) := by
  unfold ublk
  pointwise [val_main_v1, val_main_v0]

theorem ser_v1 (x0 : FVec Ideal S4096x1280 .f32) (g : Fin 4) (c : Fin 128) : ser (val_main_v1 (F := Ideal) x0) g c = col (ublk x0 g) c := by
  funext n
  unfold ser col
  split
  · exact v1_at _ _ _ _
  · rfl

theorem v4_at (x0 : FVec Ideal S4096x1280 .f32) (t : Fin 4097) (g : Fin 4) (c : Fin 128) :
    val_main_v4 (F := Ideal) x0 (ix3 t g c) = ∑ n ∈ Finset.range t.val, col (ublk x0 g) c n := by
  rw [← ser_v1]
  have h : ∀ s : Fin 4096, val_main_v3 (F := Ideal) x0 (ix3 s g c) = ∑ n ∈ Finset.range (s.val + 1), ser (val_main_v1 (F := Ideal) x0) g c n := fun s => by
    unfold val_main_v3
    exact cumsum_at _ _ _ _ (by pointwise [val_main_call0_call0_v0, val_main_call0_call0_cst]) s g c
  pointwise [val_main_v4, val_main_v2, val_main_cst]
  split
  · next h0 => rw [show t.val = 0 by omega]; rfl
  · next h0 =>
    rw [h]
    exact congrArg (fun n => ∑ i ∈ Finset.range n, ser (val_main_v1 (F := Ideal) x0) g c i) (show t.val - 1 + 1 = t.val by omega)

theorem col_real (x0 : FVec Ideal S4096x1280 .f32) (hx : AllReal x0) (g : Fin 4) (c : Fin 128) :
    ∃ r : ℕ → ℝ, col (ublk x0 g) c = fun n => (r n : EReal) := by
  choose r hr using hx
  refine ⟨fun n => if h : n < 4096 then r (ix2 (⟨n, h⟩ : Fin 4096) (⟨g.val * 128 + c.val, by have := c.isLt; have := g.isLt; omega⟩ : Fin 1280)) else 0, funext fun n => ?_⟩
  unfold col ublk
  by_cases h : n < 4096
  · simp only [dif_pos h]; exact hr _
  · simp only [dif_neg h]; rfl

/-- A difference of two running sums is the sum over the window. -/
theorem window_at (x0 : FVec Ideal S4096x1280 .f32) (hx : AllReal x0) (g : Fin 4) (k t : ℕ) (c : Fin 128) :
    (∑ n ∈ Finset.range (1 + t), col (ublk x0 g) c n) - (if t < k then 0 else ∑ n ∈ Finset.range (t - k), col (ublk x0 g) c n) = back (col (ublk x0 g) c) (k + 1) t := by
  obtain ⟨r, hr⟩ := col_real x0 hx g c
  have e : (if t < k then 0 else ∑ n ∈ Finset.range (t - k), col (ublk x0 g) c n) = ∑ n ∈ Finset.range (t + 1 - (k + 1)), col (ublk x0 g) c n := by
    rw [Nat.add_sub_add_right]
    split
    · rw [show t - k = 0 by omega]; rfl
    · rfl
  rw [e, hr, Nat.add_comm]
  exact prefix_sub r (k + 1) t

theorem toInt_small (n : ℕ) (h : n < 2 ^ 31) : (BitVec.ofNat 32 n).toInt = (n : ℤ) := by
  rw [BitVec.toInt_ofNat', Int.bmod_def]
  omega

theorem count_at (g : ℕ) (k : ℕ) (hk : k = win g) (hb : k < 2 ^ 31) (t : Fin 4096) :
    FloatOps.sitofp (F := Ideal) FTy.f32 (IntOp.minsi (IntOp.addi (1#32) (BitVec.ofNat 32 t.val)) (BitVec.ofNat 32 k)) = (cnt g t.val : EReal) := by
  have e : IntOp.addi (1#32) (BitVec.ofNat 32 t.val) = BitVec.ofNat 32 (t.val + 1) := by
    rw [Nat.add_comm]; exact (BitVec.ofNat_add 1 t.val).symm
  have ht := t.isLt
  rw [e]
  show (((IntOp.minsi (BitVec.ofNat 32 (t.val + 1)) (BitVec.ofNat 32 k)).toInt : ℝ) : EReal) = _
  unfold cnt IntOp.minsi
  rw [BitVec.slt, toInt_small _ (by omega), toInt_small _ hb, ← hk]
  by_cases h : t.val + 1 < k
  · rw [if_pos (decide_eq_true (by exact_mod_cast h)), toInt_small _ (by omega), min_eq_left h.le]
    rfl
  · rw [if_neg (by rw [decide_eq_true_eq]; exact_mod_cast h), toInt_small _ hb, min_eq_right (not_lt.1 h)]
    rfl

theorem v22_at (x0 : FVec Ideal S4096x1280 .f32) (hx : AllReal x0) (t : Fin 4096) (c : Fin 128) :
    val_main_v22 (F := Ideal) x0 (ix2 t c) = Ideal.div (back (col (ublk x0 0) c) 2 t.val) (cnt 0 t.val : EReal) := by
  pointwise [val_main_v22, val_main_v20, val_main_v10, val_main_v9, val_main_v14, val_main_v11, val_main_v12, val_main_v13, val_main_cst_1, val_main_v21, val_main_v19, val_main_v18, val_main_v17, val_main_v16, val_main_c_3, val_main_v8, val_main_v7, val_main_v6, val_main_c]
  refine congrArg₂ Ideal.div ?_ ?_
  · simp only [v4_at]
    exact window_at x0 hx 0 1 t.val c
  · exact count_at 0 2 rfl (by omega) t
theorem v36_at (x0 : FVec Ideal S4096x1280 .f32) (hx : AllReal x0) (t : Fin 4096) (c : Fin 128) :
    val_main_v36 (F := Ideal) x0 (ix2 t c) = Ideal.div (back (col (ublk x0 1) c) 4 t.val) (cnt 1 t.val : EReal) := by
  pointwise [val_main_v36, val_main_v34, val_main_v24, val_main_v23, val_main_v28, val_main_v25, val_main_v26, val_main_v27, val_main_cst_4, val_main_v35, val_main_v33, val_main_v32, val_main_v31, val_main_v30, val_main_c_6, val_main_v8, val_main_v7, val_main_v6, val_main_c]
  refine congrArg₂ Ideal.div ?_ ?_
  · simp only [v4_at]
    exact window_at x0 hx 1 3 t.val c
  · exact count_at 1 4 rfl (by omega) t
theorem v50_at (x0 : FVec Ideal S4096x1280 .f32) (hx : AllReal x0) (t : Fin 4096) (c : Fin 128) :
    val_main_v50 (F := Ideal) x0 (ix2 t c) = Ideal.div (back (col (ublk x0 2) c) 8 t.val) (cnt 2 t.val : EReal) := by
  pointwise [val_main_v50, val_main_v48, val_main_v38, val_main_v37, val_main_v42, val_main_v39, val_main_v40, val_main_v41, val_main_cst_7, val_main_v49, val_main_v47, val_main_v46, val_main_v45, val_main_v44, val_main_c_9, val_main_v8, val_main_v7, val_main_v6, val_main_c]
  refine congrArg₂ Ideal.div ?_ ?_
  · simp only [v4_at]
    exact window_at x0 hx 2 7 t.val c
  · exact count_at 2 8 rfl (by omega) t
theorem v64_at (x0 : FVec Ideal S4096x1280 .f32) (hx : AllReal x0) (t : Fin 4096) (c : Fin 128) :
    val_main_v64 (F := Ideal) x0 (ix2 t c) = Ideal.div (back (col (ublk x0 3) c) 16 t.val) (cnt 3 t.val : EReal) := by
  pointwise [val_main_v64, val_main_v62, val_main_v52, val_main_v51, val_main_v56, val_main_v53, val_main_v54, val_main_v55, val_main_cst_10, val_main_v63, val_main_v61, val_main_v60, val_main_v59, val_main_v58, val_main_c_12, val_main_v8, val_main_v7, val_main_v6, val_main_c]
  refine congrArg₂ Ideal.div ?_ ?_
  · simp only [v4_at]
    exact window_at x0 hx 3 15 t.val c
  · exact count_at 3 16 rfl (by omega) t

/-- The reference's pooled input. -/
theorem v70_at (x0 : FVec Ideal S4096x1280 .f32) (hx : AllReal x0) (t : Fin 4096) (g : Fin 4) (c : Fin 128) :
    val_main_v70 (F := Ideal) x0 (ix3 t g c) = pooled x0 g t c := by
  have h : val_main_v69 (F := Ideal) x0 (ix3 t g c) = Ideal.div (back (col (ublk x0 g) c) (win g) t.val) (cnt g t.val : EReal) := by
    pointwise [val_main_v69, val_main_v65, val_main_v66, val_main_v67, val_main_v68]
    rw [v22_at x0 hx, v36_at x0 hx, v50_at x0 hx, v64_at x0 hx]
    fin_cases g <;> rfl
  unfold pooled
  rw [val_main_v70_apply, h, v1_at]
  rfl

theorem v85_at (x1 : FVec Ideal S4x128x128 .f32) (x2 : FVec Ideal S1x512 .f32) (x3 : FVec Ideal S4096x1024 .f32) (t : Fin 4096) (g : Fin 4) (c : Fin 128) :
    val_main_v85 (F := Ideal) x1 x2 x3 (ix3 t g c) = dpool x1 x2 x3 g t c := by
  unfold dpool dblk sblk wblk
  pointwise [val_main_v85, val_main_v84, val_main_v83, val_main_v82, val_main_v81, val_main_v80, val_main_v76]

theorem v87_at (x0 : FVec Ideal S4096x1280 .f32) (hx : AllReal x0) (x2 : FVec Ideal S1x512 .f32) (x3 : FVec Ideal S4096x1024 .f32) (g : Fin 4) (a b : Fin 128) :
    val_main_v87 (F := Ideal) x0 x2 x3 (ix3 g a b) = dW x0 x2 x3 g a b := by
  unfold dW dblk sblk
  pointwise [val_main_v87, val_main_v86, val_main_v83, val_main_v82, val_main_v81, val_main_v80, val_main_v76]
  simp only [v70_at x0 hx]
  exact Finset.sum_congr rfl fun t _ => mul_comm _ _

theorem v79_at (x0 : FVec Ideal S4096x1280 .f32) (hx : AllReal x0) (x1 : FVec Ideal S4x128x128 .f32) (x3 : FVec Ideal S4096x1024 .f32) :
    val_main_v79 (F := Ideal) x0 x1 x3 = arrS x0 x1 x3 := by
  funext i
  idx_vars i
  unfold arrS dS dblk wblk
  pointwise [val_main_v79, val_main_v78, val_main_v77, val_main_v76, val_main_v73, val_main_v72, val_main_v71, val_main_cst_13]
  simp only [v70_at x0 hx]
  refine Finset.sum_congr rfl fun t _ => congrArg₂ (· * ·) (Finset.sum_congr rfl fun k _ => mul_comm _ _) (congrArg x3 (congrArg (ix2 t) (Fin.ext ?_)))
  show i1.val = i1.val / 128 * 128 + i1.val % 128
  omega

end Cert.Pool
-- ==== Proof.Pool.Input.lean ====
/- The reference's gradient of the pool's input, group by group, and its equality with the kernel's. -/
import proofs.«01_k».proof.Proof.Pool.Host
set_option maxRecDepth 16384
noncomputable section
open Idealize.ShloMosaic
open Cert.ReferenceIdeal Cert.ReferenceIdeal.Gen Cert.ReferenceIdeal.Read
namespace Cert.Pool

/-! The reference's gradient of the input. -/

variable (x1 : FVec Ideal S4x128x128 .f32) (x2 : FVec Ideal S1x512 .f32) (x3 : FVec Ideal S4096x1024 .f32)

/-- What a row gives each entry of its window. -/
def shr (g : Fin 4) (c : Fin 128) : ℕ → EReal := share g (wblk x1 g) (dblk x3 g) (sblk x2 g) c

theorem shr_of_lt (g : Fin 4) (c : Fin 128) (t : Fin 4096) : shr x1 x2 x3 g c t.val = Ideal.div (dpool x1 x2 x3 g t c) (cnt g t.val : EReal) := by
  unfold shr share
  rw [dif_pos t.isLt]
  rfl

theorem shr_of_le (g : Fin 4) (c : Fin 128) (n : ℕ) (h : 4096 ≤ n) : shr x1 x2 x3 g c n = 0 := share_of_le _ _ _ _ _ _ h

theorem shr_real (h1 : AllReal x1) (h2 : AllReal x2) (h3 : AllReal x3) (g : Fin 4) (c : Fin 128) :
    ∃ r : ℕ → ℝ, (∀ n, 4096 ≤ n → r n = 0) ∧ shr x1 x2 x3 g c = fun n => (r n : EReal) := by
  choose r1 e1 using h1
  choose r2 e2 using h2
  choose r3 e3 using h3
  have hp : ∀ t : Fin 4096, ∃ r : ℝ, dpool x1 x2 x3 g t c = (r : EReal) := fun t => by
    unfold dpool dblk sblk wblk
    simp only [e1, e2, e3, ← EReal.coe_mul]
    rw [← coe_sum]
    exact ⟨_, rfl⟩
  choose p hp using hp
  refine ⟨fun n => if h : n < 4096 then p ⟨n, h⟩ * (1 / cnt g n) else 0, fun n hn => dif_neg (by omega), funext fun n => ?_⟩
  by_cases h : n < 4096
  · refine (shr_of_lt x1 x2 x3 g c ⟨n, h⟩).trans ?_
    rw [Ideal.div_coe (cnt_ne_zero g n), hp, ← EReal.coe_mul]
    simp only [dif_pos h]
  · rw [shr_of_le _ _ _ _ _ _ (by omega)]
    simp only [dif_neg h]
    rfl

theorem v130_at (t : Fin 4096) (c : Fin 128) : val_main_v130 (F := Ideal) x1 x2 x3 (ix2 t c) = shr x1 x2 x3 0 c t.val := by
  rw [shr_of_lt]
  pointwise [val_main_v130, val_main_v90, val_main_v89, val_main_v129, val_main_v19, val_main_v18, val_main_v17, val_main_v16, val_main_c_3, val_main_v8, val_main_v7, val_main_v6, val_main_c]
  exact congrArg₂ Ideal.div (v85_at x1 x2 x3 t 0 c) (count_at 0 2 rfl (by omega) t)

theorem v119_at (t : Fin 4096) (c : Fin 128) : val_main_v119 (F := Ideal) x1 x2 x3 (ix2 t c) = shr x1 x2 x3 1 c t.val := by
  rw [shr_of_lt]
  pointwise [val_main_v119, val_main_v92, val_main_v91, val_main_v118, val_main_v33, val_main_v32, val_main_v31, val_main_v30, val_main_c_6, val_main_v8, val_main_v7, val_main_v6, val_main_c]
  exact congrArg₂ Ideal.div (v85_at x1 x2 x3 t 1 c) (count_at 1 4 rfl (by omega) t)

theorem v108_at (t : Fin 4096) (c : Fin 128) : val_main_v108 (F := Ideal) x1 x2 x3 (ix2 t c) = shr x1 x2 x3 2 c t.val := by
  rw [shr_of_lt]
  pointwise [val_main_v108, val_main_v94, val_main_v93, val_main_v107, val_main_v47, val_main_v46, val_main_v45, val_main_v44, val_main_c_9, val_main_v8, val_main_v7, val_main_v6, val_main_c]
  exact congrArg₂ Ideal.div (v85_at x1 x2 x3 t 2 c) (count_at 2 8 rfl (by omega) t)

theorem v98_at (t : Fin 4096) (c : Fin 128) : val_main_v98 (F := Ideal) x1 x2 x3 (ix2 t c) = shr x1 x2 x3 3 c t.val := by
  rw [shr_of_lt]
  pointwise [val_main_v98, val_main_v96, val_main_v95, val_main_v97, val_main_v61, val_main_v60, val_main_v59, val_main_v58, val_main_c_12, val_main_v8, val_main_v7, val_main_v6, val_main_c]
  exact congrArg₂ Ideal.div (v85_at x1 x2 x3 t 3 c) (count_at 3 16 rfl (by omega) t)

/-- A row of the padded differences: the row's share, less the share one window further on. -/
theorem end_at (g : Fin 4) (c : Fin 128) (k n w t : ℕ) (hw : k + 1 = w) (hn : n + w = 4097) :
    (if 1 + t < n then -shr x1 x2 x3 g c (k + (1 + t)) else 0) + shr x1 x2 x3 g c t = shr x1 x2 x3 g c t + -shr x1 x2 x3 g c (t + w) := by
  rw [add_comm]
  refine congrArg _ ?_
  split
  · rw [show k + (1 + t) = t + w by omega]
  · rw [shr_of_le _ _ _ _ _ _ (show 4096 ≤ t + w by omega)]
    simp

theorem v141_at (t : Fin 4096) (g : Fin 4) (c : Fin 128) :
    val_main_v141 (F := Ideal) x1 x2 x3 (ix3 t g c) = shr x1 x2 x3 g c t.val + -shr x1 x2 x3 g c (t.val + win g) := by
  pointwise [val_main_v141, val_main_v139, val_main_v136, val_main_v138, val_main_v135, val_main_v128, val_main_v127, val_main_v125, val_main_v124, val_main_v117, val_main_v116, val_main_v114, val_main_v113, val_main_v106, val_main_v105, val_main_v103,
    val_main_v137, val_main_v134, val_main_v133, val_main_v131, val_main_v126, val_main_v123, val_main_v122, val_main_v120, val_main_v115, val_main_v112, val_main_v111, val_main_v109, val_main_v104, val_main_v102, val_main_v101, val_main_v99,
    val_main_cst_14, val_main_cst_15, val_main_cst_16, val_main_cst_17, val_main_cst_18, val_main_cst_19, val_main_cst_20, val_main_cst_21]
  simp only [v98_at, v108_at, v119_at, v130_at]
  fin_cases g <;> simp [win]
  · exact end_at x1 x2 x3 0 c 1 4095 2 t.val rfl rfl
  · exact end_at x1 x2 x3 1 c 3 4093 4 t.val rfl rfl
  · exact end_at x1 x2 x3 2 c 7 4089 8 t.val rfl rfl
  · exact end_at x1 x2 x3 3 c 15 4081 16 t.val rfl rfl

/-- The reference's gradient of the input, on the columns of the groups. -/
theorem v143_at (h1 : AllReal x1) (h2 : AllReal x2) (h3 : AllReal x3) (t : Fin 4096) (g : Fin 4) (c : Fin 128) :
    val_main_v143 (F := Ideal) x1 x2 x3 (ix3 t g c) = dU x1 x2 x3 g t c := by
  obtain ⟨r, hr0, hr⟩ := shr_real x1 x2 x3 h1 h2 h3 g c
  have hs : ∀ n, ser (val_main_v141 (F := Ideal) x1 x2 x3) g c n = shr x1 x2 x3 g c n + -shr x1 x2 x3 g c (n + win g) := fun n => by
    unfold ser
    by_cases h : n < 4096
    · rw [dif_pos h]; exact v141_at x1 x2 x3 ⟨n, h⟩ g c
    · rw [dif_neg h, shr_of_le _ _ _ _ _ _ (by omega), shr_of_le _ _ _ _ _ _ (by omega)]
      simp
  have h142 : val_main_v142 (F := Ideal) x1 x2 x3 (ix3 t g c) = ahead (shr x1 x2 x3 g c) (win g) t.val := by
    unfold val_main_v142
    refine (revsum_at _ _ _ _ (by pointwise [val_main_call1_call0_v0, val_main_call1_call0_cst]) t g c).trans ?_
    simp only [hs, hr]
    exact suffix_sub r 4096 hr0 (win g) t.val
  unfold dU
  pointwise [val_main_v143, val_main_v88]
  rw [h142, v85_at, add_comm]
  rfl

/-- The reference's gradient of the input. -/
theorem v146_eq (x4 : FVec Ideal S4096x1280 .f32) (h1 : AllReal x1) (h2 : AllReal x2) (h3 : AllReal x3) :
    val_main_v146 (F := Ideal) x1 x2 x3 x4 = arrU x1 x2 x3 x4 := by
  funext i
  idx_vars i
  unfold arrU arrU0
  pointwise [val_main_v146, val_main_v145, val_main_v144]
  split
  · rw [v143_at x1 x2 x3 h1 h2 h3]
    have e : (⟨i1.val / 128, by omega⟩ : Fin 4) = ⟨i1.val / 128 % 4, Nat.mod_lt _ (by omega)⟩ := Fin.ext (by show i1.val / 128 = i1.val / 128 % 4; omega)
    exact congrArg (fun g : Fin 4 => dU x1 x2 x3 g i0 (⟨i1.val % 128, Nat.mod_lt _ (by omega)⟩ : Fin 128)) e
  · exact congrArg (fun q : Fin 1280 => x4 (ix2 i0 q)) (Fin.ext (by show 512 + (i1.val - 512) = i1.val; omega))

end Cert.Pool
-- ==== Proof.Pool.Claim.lean ====
/- The pool's kernel and reference compute the same gradients over the extended reals. -/
import proofs.«01_k».proof.Defs
import proofs.«01_k».proof.Proof.Gen.Pre_pool_finite
import proofs.«01_k».proof.Proof.Pool.Input
import Idealize.ShloMosaic.Lib.Claim
set_option maxRecDepth 16384
noncomputable section
open Idealize.ShloMosaic Idealize.ShloMosaic.TcCoe Idealize.SL.Sem
namespace Cert.Pool

theorem arrW_eq (x0 : FVec Ideal ReferenceIdeal.S4096x1280 .f32) (hx : AllReal x0) (x2 : FVec Ideal ReferenceIdeal.S1x512 .f32) (x3 : FVec Ideal ReferenceIdeal.S4096x1024 .f32) :
    ReferenceIdeal.Read.val_main_v87 (F := Ideal) x0 x2 x3 = arrW x0 x2 x3 := by
  funext i
  idx_vars i
  exact v87_at x0 hx x2 x3 _ _ _

/-- The pool's gradient kernel computes the gradient of the reference's pool. -/
theorem algebraic : Cert.algebraic_KernelIdeal_ReferenceIdeal_pre_pool_finite
    (hKernelIdeal := Cert.KernelIdeal.Gen.facts) (hReferenceIdeal := Cert.ReferenceIdeal.Gen.facts) (hPre_pool_finite := Cert.Pre_pool_finite.Gen.facts) := by
  pair_intro
  · run_from Cert.KernelIdeal.Gen.run_main m g
  · run_from Cert.ReferenceIdeal.Value.run m' g'
    · obtain ⟨-, p1, p2, p3⟩ := hpre c
      rw [ReferenceIdeal.Read.val_main_v146_eq, (hagree c).2.1, (hagree c).2.2.1, (hagree c).2.2.2.1, (hagree c).2.2.2.2]
      exact (v146_eq _ _ _ _ (real_of_cmp _ _ p1) (real_of_cmp _ _ p2) (real_of_cmp _ _ p3)).trans (final4 m c).symm
    · rw [ReferenceIdeal.Read.val_main_v87_eq, (hagree c).1, (hagree c).2.2.1, (hagree c).2.2.2.1]
      exact (arrW_eq _ (real_of_cmp _ _ (hpre c).1) _ _).trans (final5 m c).symm
    · rw [ReferenceIdeal.Read.val_main_v79_eq, (hagree c).1, (hagree c).2.1, (hagree c).2.2.2.1]
      exact (v79_at _ (real_of_cmp _ _ (hpre c).1) _ _).trans (final6 m c).symm

end Cert.Pool
-- ==== Proof.Product.lean ====
/- What the matrix products have in common: a sum over the contracted axis taken block by block into an accumulator. -/
import Idealize.ShloMosaic.Lib.Pipeline.ValueKit
import Idealize.ShloMosaic.Lib.Pointwise
noncomputable section
open Idealize.ShloMosaic Idealize.ShloMosaic.TcCoe Idealize.SL.Sem
namespace Cert.Product

/-- Two sums of extended reals with equal terms. -/
theorem sum_eq {K : ℕ} {f g : Fin K → EReal} (h : ∀ k, f k = g k) : ∑ k, f k = ∑ k, g k :=
  Finset.sum_congr rfl fun k _ => h k

/-- An accumulator that starts from zero at the first point of each run of `J` points and adds one block's part of the
    sum at each point holds the whole sum at the run's last point. -/
theorem run_sum {N J B K : ℕ} [NeZero J] {ι : Type} (f : (n : ℕ) → n < N → ι → EReal) (term : Fin N → ι → Fin B → EReal)
    (h0 : ∀ t : Fin N, t.val % J = 0 → ∀ i, f t.val t.isLt i = 0 + ∑ k, term t i k)
    (hs : ∀ t : Fin N, ¬t.val % J = 0 → ∀ i,
      f t.val t.isLt i = f (t.val - 1) (Nat.lt_of_le_of_lt (Nat.sub_le _ _) t.isLt) i + ∑ k, term t i k)
    (hK : K = J * B) (t : Fin N) (hr : t.val % J = J - 1) (i : ι) (g : Fin K → EReal)
    (hg : ∀ (s : Fin J) (k : Fin B) (hl : s.val * B + k.val < K),
      term ⟨J * (t.val / J) + s.val, Pipeline.run_point_lt_of_flush t hr s⟩ i k = g ⟨s.val * B + k.val, hl⟩) :
    f t.val t.isLt i = ∑ l, g l := by
  rw [Pipeline.eq_sum_fin_of_reset_step_apply_of_flush f J (fun _ => 0) (fun t i => ∑ k, term t i k) h0 hs t hr i, zero_add]
  exact Fin.sum_mul_add_congr hg hK

end Cert.Product
-- ==== Proof.Prod.Up.lean ====
/- The up projection: a normalized activation times the transposed weight, one block of the result at each point. -/
import proofs.«01_k».proof.Defs
import proofs.«01_k».proof.Proof.Product
import proofs.«01_k».proof.Proof.Gen.Kernel3Ideal.Value
import proofs.«01_k».proof.Proof.Gen.Reference3Ideal.Run
import proofs.«01_k».proof.Proof.Gen.Reference3Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.Up

theorem zero_at (j) : k0_pay1 (F := Ideal) j = 0 := by
  pointwise [k0_pay1]

theorem step_at (acc : FVec Ideal S1024x1408 .f32) (x : FVec Ideal S1024x1024 .bf16) (w : FVec Ideal S1408x1024 .bf16) (j) :
    k0_pay2 (F := Ideal) acc x w j = acc j + ∑ k : Fin 1024, x (ix2 (j 0) k) * w (ix2 (j 1) k) := by
  pointwise [k0_pay2]

theorem ref_at (x : FVec Ideal S4096x1024 .bf16) (w : FVec Ideal S5632x1024 .bf16) (j) :
    Cert.Reference3Ideal.Read.val_main_v3 (F := Ideal) x w j = ∑ k : Fin 1024, x (ix2 (j 0) k) * w (ix2 (j 1) k) := by
  pointwise [Cert.Reference3Ideal.Read.val_main_v3, Cert.Reference3Ideal.Read.val_main_v2, Cert.Reference3Ideal.Read.val_main_v1,
    Cert.Reference3Ideal.Read.val_main_v0]

/-- The block of each window at a point: row block `t / 4`, column block `t % 4`. -/
theorem idx : ∀ t : Fin cfg0.N, win0_0.index t = ![t.val / 4, 0] ∧ win0_1.index t = ![t.val % 4, 0] ∧
    win0_2.index t = ![t.val / 4, t.val % 4] :=
  (by decide +kernel : ∀ t : Fin grid0.N, _)

/-- The kernel's array is the reference's. -/
theorem final (m : (ℓ : Loc nD τ sig) → Buf (Elt Ideal) ℓ) (c : Dev nD) :
    (dats m 0 c).arrAt 2 (cfgs 0).N = Cert.Reference3Ideal.Read.val_main_v3 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step_at, zero_at, zero_add, ref_at]
  refine Product.sum_eq fun k => ?_
  blk_point [iblk, V, idx t]

theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (Cert.Reference3Ideal.Read.val_main_v3_eq _ _).trans (final m c).symm

end Cert.Up
-- ==== Proof.Prod.Down.lean ====
/- The down projection with the residual added: two points for each block of rows, over the halves of the contracted axis. -/
import proofs.«01_k».proof.Defs
import proofs.«01_k».proof.Proof.Product
import proofs.«01_k».proof.Proof.Gen.Kernel4Ideal.Value
import proofs.«01_k».proof.Proof.Gen.Reference4Ideal.Run
import proofs.«01_k».proof.Proof.Gen.Reference4Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.Down

theorem zero_at (j) : k0_pay1 (F := Ideal) j = 0 := by
  pointwise [k0_pay1]

theorem step_at (acc : FVec Ideal S1024x1024 .f32) (x : FVec Ideal S1024x1408 .bf16) (w : FVec Ideal S1408x1024 .bf16) (j) :
    k0_pay2 (F := Ideal) acc x w j = acc j + ∑ k : Fin 1408, x (ix2 (j 0) k) * w (ix2 k (j 1)) := by
  pointwise [k0_pay2]

theorem out_at (acc res : FVec Ideal S1024x1024 .f32) (j) : k0_pay3 (F := Ideal) acc res j = acc j + res j := by
  pointwise [k0_pay3]

theorem ref_at (x : FVec Ideal S4096x2816 .bf16) (w : FVec Ideal S2816x1024 .bf16) (res : FVec Ideal S4096x1024 .f32) (j) :
    Cert.Reference4Ideal.Read.val_main_v3 (F := Ideal) x w res j = res j + ∑ k : Fin 2816, x (ix2 (j 0) k) * w (ix2 k (j 1)) := by
  pointwise [Cert.Reference4Ideal.Read.val_main_v3, Cert.Reference4Ideal.Read.val_main_v2, Cert.Reference4Ideal.Read.val_main_v1,
    Cert.Reference4Ideal.Read.val_main_v0]

theorem idx : ∀ t : Fin cfg0.N, win0_0.index t = ![t.val / 2, t.val % 2] ∧ win0_1.index t = ![t.val % 2, 0] ∧
    win0_2.index t = ![t.val / 2, 0] ∧ win0_3.index t = ![t.val / 2, 0] :=
  (by decide +kernel : ∀ t : Fin grid0.N, _)

/-- The second point of a block adds its part to what the first left. -/
theorem next_at (m : (ℓ : Loc nD τ sig) → Buf (Elt Ideal) ℓ) (c : Dev nD) (t : Fin cfg0.N) (h : ¬t.val % 2 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  rw [outsAt0_B m c t h (by omega)]; frame_out
  rw [step_at, step_at]; exact congrArg (· + _) (congrFun (Memref.IsWhole.read_unread _ _) _)

theorem final (m : (ℓ : Loc nD τ sig) → Buf (Elt Ideal) ℓ) (c : Dev nD) :
    (dats m 0 c).arrAt 3 (cfgs 0).N = Cert.Reference4Ideal.Read.val_main_v3 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  have e : (outsAt0 m c t.val t.isLt).1 y = (outsAt0 m c t.val t.isLt).2 y + iblk m c 2 t y := by
    rw [outsAt0_B m c t (by omega) ht]; frame_out; rw [out_at]
  rw [after0_3]
  refine e.trans ?_
  rw [ref_at, add_comm]
  refine congrArg₂ (· + ·) ?_ ?_
  · blk_ext [iblk, V, idx t]
  · refine Product.run_sum (J := 2) (B := 1408) (fun n h => (outsAt0 m c n h).2) _ (fun t h j => ?_)
      (fun t h j => (next_at m c t h j).trans (step_at _ _ _ j)) rfl t ht y _ (fun s k hl => ?_)
    · rw [outsAt0_A m c t h (by omega)]; frame_out; rw [step_at, zero_at]
    · blk_point [iblk, V, idx t, idx ⟨_, Pipeline.run_point_lt_of_flush t ht s⟩]

theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    rw [Cert.Reference4Ideal.Read.val_main_v3_eq]
    exact (final m c).symm

end Cert.Down
-- ==== Proof.Prod.DownDx.lean ====
/- The gradient of the down projection's input: the gradient of the rows times the transposed weight. -/
import proofs.«01_k».proof.Defs
import proofs.«01_k».proof.Proof.Product
import proofs.«01_k».proof.Proof.Gen.Kernel5Ideal.Value
import proofs.«01_k».proof.Proof.Gen.Reference5Ideal.Run
import proofs.«01_k».proof.Proof.Gen.Reference5Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel5Ideal Cert.Kernel5Ideal.Gen
namespace Cert.DownDx

theorem zero_at (j) : k0_pay1 (F := Ideal) j = 0 := by
  pointwise [k0_pay1]

theorem step_at (acc : FVec Ideal S1024x1408 .f32) (d : FVec Ideal S1024x1024 .f32) (w : FVec Ideal S1408x1024 .bf16) (j) :
    k0_pay2 (F := Ideal) acc d w j = acc j + ∑ k : Fin 1024, d (ix2 (j 0) k) * w (ix2 (j 1) k) := by
  pointwise [k0_pay2]

theorem out_at (acc : FVec Ideal S1024x1408 .f32) (j) : k0_pay3 (F := Ideal) acc j = acc j := by
  pointwise [k0_pay3]

theorem ref_at (d : FVec Ideal S4096x1024 .f32) (w : FVec Ideal S2816x1024 .bf16) (j) :
    Cert.Reference5Ideal.Read.val_main_v4 (F := Ideal) d w j = ∑ k : Fin 1024, d (ix2 (j 0) k) * w (ix2 (j 1) k) := by
  pointwise [Cert.Reference5Ideal.Read.val_main_v4, Cert.Reference5Ideal.Read.val_main_v3, Cert.Reference5Ideal.Read.val_main_v1]

/-- The block of each window at a point: row block `t / 2`, column block `t % 2`. -/
theorem idx : ∀ t : Fin cfg0.N, win0_0.index t = ![t.val / 2, 0] ∧ win0_1.index t = ![t.val % 2, 0] ∧
    win0_2.index t = ![t.val / 2, t.val % 2] :=
  (by decide +kernel : ∀ t : Fin grid0.N, _)

theorem final (m : (ℓ : Loc nD τ sig) → Buf (Elt Ideal) ℓ) (c : Dev nD) :
    (dats m 0 c).arrAt 2 (cfgs 0).N = Cert.Reference5Ideal.Read.val_main_v4 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [out_at, step_at, zero_at, zero_add, ref_at]
  refine Product.sum_eq fun k => ?_
  blk_point [iblk, V, idx t]

theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    rw [Cert.Reference5Ideal.Read.val_main_v4_eq]
    exact (final m c).symm

end Cert.DownDx
-- ==== Proof.Prod.DownDw.lean ====
/- The gradient of the down projection's weight: the transposed activation times the gradient of the rows, four points for each
   block, over the quarters of the rows. -/
import proofs.«01_k».proof.Defs
import proofs.«01_k».proof.Proof.Product
import proofs.«01_k».proof.Proof.Gen.Kernel6Ideal.Value
import proofs.«01_k».proof.Proof.Gen.Reference6Ideal.Run
import proofs.«01_k».proof.Proof.Gen.Reference6Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel6Ideal Cert.Kernel6Ideal.Gen
namespace Cert.DownDw

theorem zero_at (j) : k0_pay1 (F := Ideal) j = 0 := by
  pointwise [k0_pay1]

theorem step_at (acc : FVec Ideal S1408x1024 .f32) (x : FVec Ideal S1024x1408 .bf16) (d : FVec Ideal S1024x1024 .f32) (j) :
    k0_pay2 (F := Ideal) acc x d j = acc j + ∑ k : Fin 1024, x (ix2 k (j 0)) * d (ix2 k (j 1)) := by
  pointwise [k0_pay2]

theorem out_at (acc : FVec Ideal S1408x1024 .f32) (j) : k0_pay3 (F := Ideal) acc j = acc j := by
  pointwise [k0_pay3]

theorem ref_at (x : FVec Ideal S4096x2816 .bf16) (d : FVec Ideal S4096x1024 .f32) (j) :
    Cert.Reference6Ideal.Read.val_main_v5 (F := Ideal) x d j = ∑ k : Fin 4096, d (ix2 k (j 1)) * x (ix2 k (j 0)) := by
  pointwise [Cert.Reference6Ideal.Read.val_main_v5, Cert.Reference6Ideal.Read.val_main_v4, Cert.Reference6Ideal.Read.val_main_v3,
    Cert.Reference6Ideal.Read.val_main_v2, Cert.Reference6Ideal.Read.val_main_v1, Cert.Reference6Ideal.Read.val_main_v0]

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

theorem final (m : (ℓ : Loc nD τ sig) → Buf (Elt Ideal) ℓ) (c : Dev nD) :
    (dats m 0 c).arrAt 2 (cfgs 0).N = Cert.Reference6Ideal.Read.val_main_v5 (F := Ideal)
      (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 y = (outsAt0 m c t.val t.isLt).2 y := by
    rw [outsAt0_C m c t (by omega) ht]; frame_out; rw [out_at]
  rw [after0_2]
  refine e.trans ?_
  rw [ref_at]
  refine Product.run_sum (J := 4) (B := 1024) (fun n h => (outsAt0 m c n h).2) _ (fun t h j => ?_)
    (fun t h j => (next_at m c t h j).trans (step_at _ _ _ j)) rfl t ht y _ (fun s k hl => ?_)
  · rw [outsAt0_A m c t h (by omega)]; frame_out; rw [step_at, zero_at]
  · rw [mul_comm]
    blk_point [iblk, V, idx t, idx ⟨_, Pipeline.run_point_lt_of_flush t ht s⟩]

theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    rw [Cert.Reference6Ideal.Read.val_main_v5_eq]
    exact (final m c).symm

end Cert.DownDw
-- ==== Proof.Prod.UpUDx.lean ====
/- The part of the gradient of the up projection's input that comes through the upper half of the weight's rows. -/
import proofs.«01_k».proof.Defs
import proofs.«01_k».proof.Proof.Product
import proofs.«01_k».proof.Proof.Gen.Kernel7Ideal.Value
import proofs.«01_k».proof.Proof.Gen.Reference7Ideal.Run
import proofs.«01_k».proof.Proof.Gen.Reference7Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel7Ideal Cert.Kernel7Ideal.Gen
namespace Cert.UpUDx

theorem zero_at (j) : k0_pay1 (F := Ideal) j = 0 := by
  pointwise [k0_pay1]

theorem step_at (acc : FVec Ideal S1024x1024 .f32) (d : FVec Ideal S1024x1408 .bf16) (w : FVec Ideal S1408x1024 .bf16) (j) :
    k0_pay2 (F := Ideal) acc d w j = acc j + ∑ k : Fin 1408, d (ix2 (j 0) k) * w (ix2 k (j 1)) := by
  pointwise [k0_pay2]

theorem ref_at (d : FVec Ideal S4096x2816 .bf16) (w : FVec Ideal S5632x1024 .bf16) (j) :
    Cert.Reference7Ideal.Read.val_main_v6 (F := Ideal) d w j =
      ∑ k : Fin 2816, d (ix2 (j 0) k) * w (ix2 (⟨k.val, by omega⟩ : Fin 5632) (j 1)) := by
  pointwise [Cert.Reference7Ideal.Read.val_main_v6, Cert.Reference7Ideal.Read.val_main_v5, Cert.Reference7Ideal.Read.val_main_v3,
    Cert.Reference7Ideal.Read.val_main_v2, Cert.Reference7Ideal.Read.val_main_v1]

theorem idx : ∀ t : Fin cfg0.N, win0_0.index t = ![t.val / 2, t.val % 2] ∧ win0_1.index t = ![t.val % 2, 0] ∧
    win0_2.index t = ![t.val / 2, 0] :=
  (by decide +kernel : ∀ t : Fin grid0.N, _)

/-- The second point of a block adds its part to what the first left. -/
theorem next_at (m : (ℓ : Loc nD τ sig) → Buf (Elt Ideal) ℓ) (c : Dev nD) (t : Fin cfg0.N) (h : ¬t.val % 2 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  rw [outsAt0_B m c t h (by omega)]; frame_out
  rw [step_at, step_at]; exact congrArg (· + _) (congrFun (Memref.IsWhole.read_unread _ _) _)

theorem final (m : (ℓ : Loc nD τ sig) → Buf (Elt Ideal) ℓ) (c : Dev nD) :
    (dats m 0 c).arrAt 2 (cfgs 0).N = Cert.Reference7Ideal.Read.val_main_v6 (F := Ideal)
      (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 y = (outsAt0 m c t.val t.isLt).2 y := by
    rw [outsAt0_B m c t (by omega) ht]; frame_out
  rw [after0_2]
  refine e.trans ?_
  rw [ref_at]
  refine Product.run_sum (J := 2) (B := 1408) (fun n h => (outsAt0 m c n h).2) _ (fun t h j => ?_)
    (fun t h j => (next_at m c t h j).trans (step_at _ _ _ j)) rfl t ht y _ (fun s k hl => ?_)
  · rw [outsAt0_A m c t h (by omega)]; frame_out; rw [step_at, zero_at]
  · blk_point [iblk, V, idx t, idx ⟨_, Pipeline.run_point_lt_of_flush t ht s⟩]

theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    exact (Cert.Reference7Ideal.Read.val_main_v6_eq _ _).trans (final m c).symm

end Cert.UpUDx
-- ==== Proof.Norm.lean ====
/- The gradient of a norm in extended reals: the form that the kernel computes is the form that `jax.vjp` gives, whatever the arguments. -/
import Idealize.ShloMosaic.Lib.Pointwise
import Idealize.ShloMosaic.PureOps.Ideal.Laws
noncomputable section
open Idealize.ShloMosaic
namespace Cert.Norm

theorem mul_self_nonneg (x : EReal) : 0 ≤ x * x := by
  induction x using EReal.rec with
  | bot => simp
  | top => simp
  | coe r => rw [← EReal.coe_mul]; exact EReal.coe_nonneg.mpr (_root_.mul_self_nonneg r)

/-- A real, non-negative factor goes out of a sum. -/
theorem sum_mul_real {ι : Type} [Fintype ι] (f : ι → EReal) {r : ℝ} (hr : 0 ≤ r) : ∑ k, f k * (r : EReal) = (∑ k, f k) * (r : EReal) := by
  classical
  induction (Finset.univ : Finset ι) using Finset.induction_on with
  | empty => simp
  | insert a s ha ih =>
    rw [Finset.sum_insert ha, Finset.sum_insert ha, ih]
    exact (EReal.right_distrib_of_nonneg_of_ne_top (EReal.coe_nonneg.mpr hr) (EReal.coe_ne_top r) _ _).symm

/-- Twice a number. -/
theorem add_self (y : EReal) : y + y = y * ((2 : ℝ) : EReal) := by
  have h := EReal.right_distrib_of_nonneg (a := 1) (b := 1) (c := y) (by simp) (by simp)
  have h2 : (1 + 1 : EReal) = ((2 : ℝ) : EReal) := by rw [← EReal.coe_one, ← EReal.coe_add]; norm_num
  rw [one_mul, h2] at h
  rw [← h, mul_comm]

theorem sum_coe {ι : Type} [Fintype ι] (f : ι → ℝ) : ∑ k, ((f k : ℝ) : EReal) = ((∑ k, f k : ℝ) : EReal) := by
  classical
  induction (Finset.univ : Finset ι) using Finset.induction_on with
  | empty => simp
  | insert a s ha ih => rw [Finset.sum_insert ha, Finset.sum_insert ha, ih, EReal.coe_add]

/-- The mean square plus a positive number: a positive real with its root's inverse, all entries being real, or `⊤`. -/
theorem cases {ι : Type} [Fintype ι] (x : ι → EReal) {n e : ℝ} (hn : 0 < n) (he : 0 < e) :
    (∃ ρ v : ℝ, 0 < ρ ∧ 0 < v ∧ 1 / v = ρ * ρ ∧ Ideal.div (∑ k, x k * x k) n + e = v ∧ Ideal.rsqrt (v : EReal) = ρ ∧ ∀ k, ∃ ξ : ℝ, x k = ξ)
      ∨ Ideal.div (∑ k, x k * x k) n + e = ⊤ := by
  by_cases h : ∀ k, ∃ ξ : ℝ, x k = ξ
  · left
    choose ξ hξ using h
    have hs : 0 ≤ ∑ k, ξ k * ξ k := Finset.sum_nonneg fun k _ => _root_.mul_self_nonneg _
    have hv : 0 < (∑ k, ξ k * ξ k) * (1 / n) + e := by positivity
    refine ⟨(Real.sqrt ((∑ k, ξ k * ξ k) * (1 / n) + e))⁻¹, _, by positivity, hv, ?_, ?_, ?_, fun k => ⟨ξ k, hξ k⟩⟩
    · rw [← mul_inv, Real.mul_self_sqrt hv.le, one_div]
    · rw [Ideal.div_coe hn.ne']
      simp only [hξ, ← EReal.coe_mul, sum_coe, ← EReal.coe_add]
    · rw [Ideal.rsqrt_coe, if_neg hv.le.not_gt, if_neg hv.ne']
  · right
    push Not at h
    obtain ⟨k, hk⟩ := h
    have hk' : x k * x k = ⊤ := by
      induction hx : x k using EReal.rec with
      | bot => simp
      | top => simp
      | coe r => exact absurd hx (hk r)
    have hs : ∑ k, x k * x k = ⊤ := by
      refine top_le_iff.mp ?_
      rw [← hk']
      exact Finset.single_le_sum (f := fun k => x k * x k) (fun k _ => mul_self_nonneg _) (Finset.mem_univ k)
    rw [hs, Ideal.div_coe hn.ne', EReal.top_mul_coe_of_pos (by positivity)]
    rfl

/-- The gradient of the norm's input at an entry `q`; `a` is the gradient of the norm's output times the weight. -/
theorem grad {ι : Type} [Fintype ι] (x a : ι → EReal) {n e : ℝ} (hn : 0 < n) (he : 0 < e) (q : ι) :
    Ideal.rsqrt (Ideal.div (∑ k, x k * x k) n + e)
        * (a q - x q * Ideal.rsqrt (Ideal.div (∑ k, x k * x k) n + e)
          * Ideal.div (∑ k, a k * (x k * Ideal.rsqrt (Ideal.div (∑ k, x k * x k) n + e))) n)
      = a q * Ideal.rsqrt (Ideal.div (∑ k, x k * x k) n + e)
        + x q * Ideal.div ((∑ k, x k * a k) * (((-1 / 2 : ℝ) : EReal)
            * Ideal.div (Ideal.rsqrt (Ideal.div (∑ k, x k * x k) n + e)) (Ideal.div (∑ k, x k * x k) n + e))) n
        + Ideal.div ((∑ k, x k * a k) * (((-1 / 2 : ℝ) : EReal)
            * Ideal.div (Ideal.rsqrt (Ideal.div (∑ k, x k * x k) n + e)) (Ideal.div (∑ k, x k * x k) n + e))) n * x q := by
  rcases cases x hn he with ⟨ρ, v, hρ, hv, hvρ, e1, e2, hx⟩ | e1
  · obtain ⟨ξ, hξ⟩ := hx q
    have hA : ∑ k, a k * (x k * (ρ : EReal)) = (∑ k, x k * a k) * (ρ : EReal) := by
      rw [← sum_mul_real _ hρ.le]
      exact Finset.sum_congr rfl fun k _ => by rw [← mul_assoc, mul_comm (a k)]
    rw [e1, e2, hA, hξ, Ideal.div_coe hn.ne', Ideal.div_coe hn.ne', Ideal.div_coe hv.ne']
    generalize ∑ k, x k * a k = A
    generalize a q = b
    have h1 : (ξ : EReal) * ρ * (A * ρ * ((1 / n : ℝ) : EReal)) = A * ((ξ * ρ * (ρ * (1 / n)) : ℝ) : EReal) := by
      rw [EReal.coe_mul, EReal.coe_mul ξ, EReal.coe_mul ρ (1 / n)]; ac_rfl
    have h2 : A * (((-1 / 2 : ℝ) : EReal) * (ρ * ((1 / v : ℝ) : EReal))) * ((1 / n : ℝ) : EReal)
        = A * ((-1 / 2 * (ρ * (ρ * ρ)) * (1 / n) : ℝ) : EReal) := by
      rw [hvρ, ← EReal.coe_mul, ← EReal.coe_mul, mul_assoc, ← EReal.coe_mul]
    rw [h1, h2, mul_comm (ξ : EReal), add_assoc, add_self, mul_assoc A, ← EReal.coe_mul, mul_assoc A, ← EReal.coe_mul, sub_eq_add_neg,
      EReal.left_distrib_of_nonneg_of_ne_top (EReal.coe_nonneg.mpr hρ.le) (EReal.coe_ne_top ρ), mul_comm (ρ : EReal) b]
    congr 1
    rw [← mul_neg, ← EReal.coe_neg, mul_left_comm, ← EReal.coe_mul]
    congr 2
    ring
  · have h0 : Ideal.div (0 : EReal) ⊤ = 0 := by simp [Ideal.div]
    rw [e1, Ideal.rsqrt_top, h0]
    simp [Ideal.div_coe hn.ne']
/-- One over the root of a row's mean square, the epsilon added. -/
def rs (x : Fin 1024 → EReal) : EReal :=
  Ideal.rsqrt (Ideal.div (∑ k, x k * x k) (Ideal.ofBits .f32 1149239296#32) + Ideal.ofBits .f32 897988541#32)

/-- The gradient of a row at an entry, as the kernel computes it: `x` the row, `a` the gradient times the norm's weight. -/
def dx (x a : Fin 1024 → EReal) (q : Fin 1024) : EReal :=
  rs x * (a q - x q * rs x * Ideal.div (∑ k, a k * (x k * rs x)) (Ideal.ofBits .f32 1149239296#32))

/-- The part of the gradient that goes through the root, as the reference computes it. -/
def through (x a : Fin 1024 → EReal) : EReal :=
  Ideal.div ((∑ k, x k * a k) * (Ideal.ofBits .f32 3204448256#32 * Ideal.div (rs x)
    (Ideal.div (∑ k, x k * x k) (Ideal.ofBits .f32 1149239296#32) + Ideal.ofBits .f32 897988541#32))) (Ideal.ofBits .f32 1149239296#32)

theorem width : Ideal.ofBits .f32 1149239296#32 = ((1024 : ℝ) : EReal) := by
  simp [Ideal.ofBits, Ideal.ieee]
  norm_num
  rw [← EReal.coe_mul]
  norm_num

theorem half : Ideal.ofBits .f32 3204448256#32 = ((-1 / 2 : ℝ) : EReal) := by
  simp [Ideal.ofBits, Ideal.ieee]
  norm_num
  rw [← EReal.coe_mul]
  norm_num

theorem eps : ∃ e : ℝ, 0 < e ∧ Ideal.ofBits .f32 897988541#32 = (e : EReal) := by
  refine ⟨_, ?_, by simp [Ideal.ofBits, Ideal.ieee]; rfl⟩
  positivity

/-- The two forms agree. -/
theorem dx_eq (x a : Fin 1024 → EReal) (q : Fin 1024) : dx x a q = a q * rs x + x q * through x a + through x a * x q := by
  obtain ⟨e, he, ee⟩ := eps
  unfold dx through rs
  rw [width, half, ee]
  exact grad x a (by norm_num) he q

theorem dx_congr {x x' a a' : Fin 1024 → EReal} {q q' : Fin 1024} (hx : ∀ k, x k = x' k) (ha : ∀ k, a k = a' k) (hq : q = q') :
    dx x a q = dx x' a' q' := by
  rw [funext hx, funext ha, hq]

theorem rs_congr {x x' : Fin 1024 → EReal} (hx : ∀ k, x k = x' k) : rs x = rs x' := by
  rw [funext hx]

end Cert.Norm
-- ==== Proof.Prod.UpGDx.lean ====
/- The other part of the gradient of the up projection's input, added to the first, and the gradient of the norm before it. -/
import proofs.«01_k».proof.Defs
import proofs.«01_k».proof.Proof.Product
import proofs.«01_k».proof.Proof.Norm
import proofs.«01_k».proof.Proof.Gen.Kernel8Ideal.Value
import proofs.«01_k».proof.Proof.Gen.Reference8Ideal.Run
import proofs.«01_k».proof.Proof.Gen.Reference8Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel8Ideal Cert.Kernel8Ideal.Gen
namespace Cert.UpGDx

theorem zero_at (j) : k0_pay1 (F := Ideal) j = 0 := by
  pointwise [k0_pay1]

theorem zero_dw_at (j) : k0_pay2 (F := Ideal) j = 0 := by
  pointwise [k0_pay2]

theorem step_at (acc : FVec Ideal S1024x1024 .f32) (d : FVec Ideal S1024x1408 .bf16) (w : FVec Ideal S1408x1024 .bf16) (j) :
    k0_pay3 (F := Ideal) acc d w j = acc j + ∑ k : Fin 1408, d (ix2 (j 0) k) * w (ix2 k (j 1)) := by
  pointwise [k0_pay3]

theorem dx_at (acc res x : FVec Ideal S1024x1024 .f32) (w : FVec Ideal S1x1024 .f32) (dres : FVec Ideal S1024x1024 .f32) (j) :
    k0_pay7 (F := Ideal) acc res x w dres j = dres j + Norm.dx (fun k => x (ix2 (j 0) k))
      (fun k => (acc (ix2 (j 0) k) + res (ix2 (j 0) k)) * w (ix2 0 k)) (j 1) := by
  idx_vars j
  pointwise [k0_pay7, k0_pay4, k0_pay5, k0_pay6, Norm.dx, Norm.rs]

/-- What a row `r` of a block adds to the weight's gradient in column `q`. -/
def row (acc res x : FVec Ideal S1024x1024 .f32) (q r : Fin 1024) : EReal :=
  (acc (ix2 r q) + res (ix2 r q)) * (x (ix2 r q) * Norm.rs (fun k => x (ix2 r k)))

theorem dw_at (acc res x : FVec Ideal S1024x1024 .f32) (dw : FVec Ideal S1x1024 .f32) (j) :
    k0_pay8 (F := Ideal) acc res x dw j = dw j + ∑ r, row acc res x (j 1) r := by
  pointwise [row, k0_pay8, k0_pay4, k0_pay5, k0_pay6, Norm.rs]

theorem dh_at (d : FVec Ideal S4096x2816 .bf16) (wt : FVec Ideal S5632x1024 .bf16) (res : FVec Ideal S4096x1024 .f32) (j) :
    Cert.Reference8Ideal.Read.val_main_v7 (F := Ideal) d wt res j
      = res j + ∑ k : Fin 2816, d (ix2 (j 0) k) * wt (ix2 (⟨2816 + k.val, by omega⟩ : Fin 5632) (j 1)) := by
  pointwise [Cert.Reference8Ideal.Read.val_main_v7, Cert.Reference8Ideal.Read.val_main_v6, Cert.Reference8Ideal.Read.val_main_v5,
    Cert.Reference8Ideal.Read.val_main_v3, Cert.Reference8Ideal.Read.val_main_v2, Cert.Reference8Ideal.Read.val_main_v1]

open Cert.Reference8Ideal.Read in
theorem ref_dx_at (d : FVec Ideal S4096x2816 .bf16) (wt : FVec Ideal S5632x1024 .bf16) (x : FVec Ideal S4096x1024 .f32)
    (w : FVec Ideal S1x1024 .f32) (dres res : FVec Ideal S4096x1024 .f32) (j) :
    val_main_v42 (F := Ideal) d wt x w dres res j = dres j + Norm.dx (fun k => x (ix2 (j 0) k))
      (fun k => val_main_v7 (F := Ideal) d wt res (ix2 (j 0) k) * w (ix2 0 k)) (j 1) := by
  refine Eq.trans ?_ (congrArg (dres j + ·) (Norm.dx_eq _ _ _).symm)
  pointwise [val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v18, val_main_v17, val_main_v16, val_main_v15, val_main_v14, val_main_v13, val_main_v12, val_main_v11, val_main_v10,
    val_main_v9, val_main_v8, val_main_cst_0, val_main_cst_1, val_main_cst_2, val_main_cst_3, val_main_cst_5, val_main_cst_6,
    val_main_cst_7, Norm.through, Norm.rs]
  simp only [Fin.sum_univ_one]

/-- What a row `r` adds to the weight's gradient in column `q`, in the reference. -/
def ref_row (d : FVec Ideal S4096x2816 .bf16) (wt : FVec Ideal S5632x1024 .bf16) (x res : FVec Ideal S4096x1024 .f32) (q : Fin 1024) (r : Fin 4096) : EReal :=
  x (ix2 r q) * Norm.rs (fun k => x (ix2 r k)) * Cert.Reference8Ideal.Read.val_main_v7 (F := Ideal) d wt res (ix2 r q)

open Cert.Reference8Ideal.Read in
theorem ref_dw_at (d : FVec Ideal S4096x2816 .bf16) (wt : FVec Ideal S5632x1024 .bf16) (x res : FVec Ideal S4096x1024 .f32) (j) :
    val_main_v25 (F := Ideal) d wt x res j = ∑ r, ref_row d wt x res (j 1) r := by
  pointwise [ref_row, val_main_v25, val_main_v24, val_main_v23, val_main_v20, val_main_v19, val_main_v15, val_main_v14, val_main_v13,
    val_main_v12, val_main_v11, val_main_v10, val_main_v9, val_main_v8, val_main_cst_0, val_main_cst_1, val_main_cst_2,
    val_main_cst_4, Norm.rs]

theorem idx : ∀ t : Fin cfg0.N, win0_0.index t = ![t.val / 2, t.val % 2] ∧ win0_1.index t = ![t.val % 2 + 2, 0] ∧
    win0_2.index t = ![t.val / 2, 0] ∧ win0_3.index t = ![0, 0] ∧ win0_4.index t = ![t.val / 2, 0] ∧
    win0_5.index t = ![t.val / 2, 0] ∧ win0_6.index t = ![t.val / 2, 0] ∧ win0_7.index t = ![0, 0] :=
  (by decide +kernel : ∀ t : Fin grid0.N, _)

/-- The accumulator at a block's first point. -/
theorem first_at (m : (ℓ : Loc nD τ sig) → Buf (Elt Ideal) ℓ) (c : Dev nD) (t : Fin cfg0.N) (h : t.val % 2 = 0) (j) :
    (outsAt0 m c t.val t.isLt).2.2 j = k0_pay3 (F := Ideal) (k0_pay1 (F := Ideal)) (iblk m c 0 t) (iblk m c 1 t) j := by
  by_cases h1 : t.val % 8 = 0
  · rw [outsAt0_A m c t h h1 (by omega)]; frame_out
  · rw [outsAt0_C m c t h h1 (by omega)]; frame_out

/-- The accumulator at a block's second point. -/
theorem next_at (m : (ℓ : Loc nD τ sig) → Buf (Elt Ideal) ℓ) (c : Dev nD) (t : Fin cfg0.N) (h : ¬t.val % 2 = 0) (j) :
    (outsAt0 m c t.val t.isLt).2.2 j = k0_pay3 (F := Ideal)
      (outsAt0 m c (t.val - 1) (Nat.lt_of_le_of_lt (Nat.sub_le _ _) t.isLt)).2.2 (iblk m c 0 t) (iblk m c 1 t) j := by
  rw [outsAt0_B m c t h (by omega) (by omega)]; frame_out
  rw [step_at, step_at]; exact congrArg (· + _) (congrFun (Memref.IsWhole.read_unread _ _) _)

/-- The gradient of the norm's output, whole at a block's second point. -/
theorem whole_at (m : (ℓ : Loc nD τ sig) → Buf (Elt Ideal) ℓ) (c : Dev nD) (t : Fin cfg0.N) (ht : t.val % 2 = 1) (j : S1024x1024.Idx)
    (r : Fin 4096) (hr : r.val = t.val / 2 * 1024 + (j 0 : Fin 1024).val) :
    (outsAt0 m c t.val t.isLt).2.2 j + iblk m c 5 t j = Cert.Reference8Ideal.Read.val_main_v7 (F := Ideal)
      (m ((c : Thread nD τ).loc main_arg0)) (m ((c : Thread nD τ).loc main_arg1)) (m ((c : Thread nD τ).loc main_arg5))
      (ix2 r (j 1 : Fin 1024)) := by
  rw [dh_at, add_comm]
  refine congrArg₂ (· + ·) ?_ ?_
  · blk_ext [iblk, V, idx t, hr]
  · refine Product.run_sum (J := 2) (B := 1408) (fun n h => (outsAt0 m c n h).2.2) _ (fun t h j => (first_at m c t h j).trans ?_)
      (fun t h j => (next_at m c t h j).trans (step_at _ _ _ j)) rfl t ht j _ (fun s k hl => ?_)
    · rw [step_at, zero_at]
    · blk_point [iblk, V, idx t, idx ⟨_, Pipeline.run_point_lt_of_flush t ht s⟩, hr]

theorem final_dx (m : (ℓ : Loc nD τ sig) → Buf (Elt Ideal) ℓ) (c : Dev nD) :
    (dats m 0 c).arrAt 6 (cfgs 0).N = Cert.Reference8Ideal.Read.val_main_v42 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := (flush0_6 t).mp hf
  blk_simp
  have e : (outsAt0 m c t.val t.isLt).1 y = k0_pay7 (F := Ideal) (outsAt0 m c t.val t.isLt).2.2 (iblk m c 5 t) (iblk m c 2 t)
      (iblk m c 3 t) (iblk m c 4 t) y := by
    rw [outsAt0_B m c t (by omega) (by omega) ht]; frame_out
  rw [after0_6]
  refine e.trans ?_
  rw [dx_at, ref_dx_at]
  refine congrArg₂ (· + ·) ?_ (Norm.dx_congr (fun k => ?_) (fun k => congrArg₂ (· * ·) ?_ ?_) ?_)
  · blk_ext [iblk, V, idx t]
  · blk_ext [iblk, V, idx t]
  · exact whole_at m c t ht (ix2 (y 0) k) _ (by blk_simp [idx t])
  · blk_ext [iblk, V, idx t]
  · exact Fin.ext (by blk_simp [idx t])

/-- The weight's gradient is zero after the first point, and a block's first point leaves it as it was. -/
theorem dw_first (m : (ℓ : Loc nD τ sig) → Buf (Elt Ideal) ℓ) (c : Dev nD) (t : Fin cfg0.N) (h : t.val % 8 = 0) (j) :
    (outsAt0 m c t.val t.isLt).2.1 j = 0 := by
  rw [outsAt0_A m c t (by omega) h (by omega)]; frame_out; rw [zero_dw_at]

theorem dw_keeps (m : (ℓ : Loc nD τ sig) → Buf (Elt Ideal) ℓ) (c : Dev nD) (t : Fin cfg0.N) (h : t.val % 2 = 0) (h8 : ¬t.val % 8 = 0) (j) :
    (outsAt0 m c t.val t.isLt).2.1 j = (outsAt0 m c (t.val - 1) (Nat.lt_of_le_of_lt (Nat.sub_le _ _) t.isLt)).2.1 j := by
  rw [outsAt0_C m c t h h8 (by omega)]; rfl

/-- A block's second point adds the block's rows. -/
theorem dw_next (m : (ℓ : Loc nD τ sig) → Buf (Elt Ideal) ℓ) (c : Dev nD) (t : Fin cfg0.N) (h : t.val % 2 = 1) (j) :
    (outsAt0 m c t.val t.isLt).2.1 j = k0_pay8 (F := Ideal) (outsAt0 m c t.val t.isLt).2.2 (iblk m c 5 t) (iblk m c 2 t)
      (outsAt0 m c (t.val - 1) (Nat.lt_of_le_of_lt (Nat.sub_le _ _) t.isLt)).2.1 j := by
  rw [outsAt0_B m c t (by omega) (by omega) h]; frame_out

/-- The rows of a point's block. -/
def rows (m : (ℓ : Loc nD τ sig) → Buf (Elt Ideal) ℓ) (c : Dev nD) (t : Fin cfg0.N) (j : S1x1024.Idx) : Fin 1024 → EReal :=
  row (outsAt0 m c t.val t.isLt).2.2 (iblk m c 5 t) (iblk m c 2 t) (j 1)

theorem rows_at (m : (ℓ : Loc nD τ sig) → Buf (Elt Ideal) ℓ) (c : Dev nD) (t : Fin cfg0.N) (ht : t.val % 2 = 1) (j : S1x1024.Idx)
    (k : Fin 1024) (r : Fin 4096) (hr : r.val = t.val / 2 * 1024 + k.val) :
    rows m c t j k = ref_row (m ((c : Thread nD τ).loc main_arg0)) (m ((c : Thread nD τ).loc main_arg1)) (m ((c : Thread nD τ).loc main_arg2)) (m ((c : Thread nD τ).loc main_arg5)) (j 1) r := by
  unfold rows row ref_row
  rw [mul_comm]
  refine congrArg₂ (· * ·) (congrArg₂ (· * ·) ?_ (Norm.rs_congr fun q => ?_)) (whole_at m c t ht (ix2 k (j 1)) r hr)
  · blk_ext [iblk, V, idx t, hr]
  · blk_ext [iblk, V, idx t, hr]

theorem dw_step (m : (ℓ : Loc nD τ sig) → Buf (Elt Ideal) ℓ) (c : Dev nD) (n : ℕ) (h : n < cfg0.N) (hn : n % 2 = 1) (j) :
    (outsAt0 m c n h).2.1 j = (outsAt0 m c (n - 1) (Nat.lt_of_le_of_lt (Nat.sub_le _ _) h)).2.1 j + ∑ r, rows m c ⟨n, h⟩ j r :=
  (dw_next m c ⟨n, h⟩ hn j).trans (dw_at _ _ _ _ j)

theorem second_lt (n : ℕ) (h : n < 4) : 2 * n + 1 < cfg0.N :=
  Nat.lt_of_lt_of_eq (by omega : 2 * n + 1 < 8) N_0.symm

theorem dw_start (m : (ℓ : Loc nD τ sig) → Buf (Elt Ideal) ℓ) (c : Dev nD) (s : Fin 4) (h : s.val % 4 = 0) (j) :
    (outsAt0 m c (2 * s.val + 1) (second_lt _ s.isLt)).2.1 j = 0 + ∑ r, rows m c ⟨2 * s.val + 1, second_lt _ s.isLt⟩ j r :=
  (dw_step m c _ _ (by omega) j).trans (congrArg (· + _)
    (dw_first m c ⟨2 * s.val, Nat.lt_of_succ_lt (second_lt _ s.isLt)⟩ (show 2 * s.val % 8 = 0 by omega) j))

theorem dw_cont (m : (ℓ : Loc nD τ sig) → Buf (Elt Ideal) ℓ) (c : Dev nD) (s : Fin 4) (h : ¬s.val % 4 = 0) (j) :
    (outsAt0 m c (2 * s.val + 1) (second_lt _ s.isLt)).2.1 j
      = (outsAt0 m c (2 * (s.val - 1) + 1) (second_lt _ (Nat.lt_of_le_of_lt (Nat.sub_le _ _) s.isLt))).2.1 j
        + ∑ r, rows m c ⟨2 * s.val + 1, second_lt _ s.isLt⟩ j r := by
  refine (dw_step m c _ _ (by omega) j).trans (congrArg (· + _)
    ((dw_keeps m c ⟨2 * s.val, Nat.lt_of_succ_lt (second_lt _ s.isLt)⟩ (show 2 * s.val % 2 = 0 by omega)
      (show ¬2 * s.val % 8 = 0 by omega) j).trans ?_))
  have e : 2 * s.val - 1 = 2 * (s.val - 1) + 1 := by omega
  simp only [e]

theorem final_dw (m : (ℓ : Loc nD τ sig) → Buf (Elt Ideal) ℓ) (c : Dev nD) :
    (dats m 0 c).arrAt 7 (cfgs 0).N = Cert.Reference8Ideal.Read.val_main_v25 (F := Ideal)
      (m ((c : Thread nD τ).loc main_arg0)) (m ((c : Thread nD τ).loc main_arg1)) (m ((c : Thread nD τ).loc main_arg2))
      (m ((c : Thread nD τ).loc main_arg5)) := by
  refine (dats m 0 c).arrAt_eq_of_covers 7 _ (by decide +kernel) fun t hf y => ?_
  have ht := (flush0_7 t).mp hf
  have h7 : t.val = 2 * 3 + 1 := by have := Nat.lt_of_lt_of_eq t.isLt N_0; omega
  have hy : ((win0_7.blk t).view.emb y) 1 = y 1 := Fin.ext (by blk_simp [idx t])
  have e : (outsAt0 m c t.val t.isLt).2.1 y = (outsAt0 m c (2 * 3 + 1) (second_lt 3 (Nat.lt_succ_self 3))).2.1 y := by simp only [h7]
  blk_simp
  rw [after0_7, ref_dw_at, hy]
  refine e.trans ?_
  refine Product.run_sum (N := 4) (J := 4) (B := 1024) (K := 4096) (fun n h => (outsAt0 m c (2 * n + 1) (second_lt n h)).2.1)
    (fun s => rows m c ⟨2 * s.val + 1, second_lt _ s.isLt⟩) (dw_start m c) (dw_cont m c) rfl 3 rfl y _ (fun s k hl => ?_)
  exact rows_at m c _ (show (2 * (4 * 0 + s.val) + 1) % 2 = 1 by omega) y k _
    (show s.val * 1024 + k.val = (2 * (4 * 0 + s.val) + 1) / 2 * 1024 + k.val by omega)

theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · refine θ_run_mono (Cert.Reference8Ideal.Value.run m' g') ?_
    intro r hr c
    refine ⟨(hr c).1.trans ?_, (hr c).2.1.trans ?_, (hr c).2.2⟩
    · rw [Cert.Reference8Ideal.Read.val_main_v42_eq, (hagree c).1, (hagree c).2.1, (hagree c).2.2.1, (hagree c).2.2.2.1, (hagree c).2.2.2.2.1, (hagree c).2.2.2.2.2]
      exact (final_dx m c).symm
    · refine (Cert.Reference8Ideal.Read.val_main_v25_eq _ _ _ _).trans ?_
      rw [(hagree c).1, (hagree c).2.1, (hagree c).2.2.1, (hagree c).2.2.2.2.2]
      exact (final_dw m c).symm

end Cert.UpGDx
-- ==== Proof.Prod.UpGDw.lean ====
/- The gradient of the up projection's gate rows: the lower half of an array whose upper half is kept. -/
import proofs.«01_k».proof.Defs
import proofs.«01_k».proof.Proof.Product
import proofs.«01_k».proof.Proof.Gen.Kernel9Ideal.Value
import proofs.«01_k».proof.Proof.Gen.Reference9Ideal.Run
import proofs.«01_k».proof.Proof.Gen.Reference9Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel9Ideal Cert.Kernel9Ideal.Gen
namespace Cert.UpGDw

theorem zero_at (j) : k0_pay1 (F := Ideal) j = 0 := by
  pointwise [k0_pay1]

theorem step_at (acc : FVec Ideal S1408x1024 .f32) (x : FVec Ideal S1024x1408 .bf16) (d : FVec Ideal S1024x1024 .bf16) (j) :
    k0_pay2 (F := Ideal) acc x d j = acc j + ∑ k : Fin 1024, x (ix2 k (j 0)) * d (ix2 k (j 1)) := by
  pointwise [k0_pay2]

theorem out_at (acc : FVec Ideal S1408x1024 .f32) (j) : k0_pay3 (F := Ideal) acc j = acc j := by
  pointwise [k0_pay3]

theorem ref_at (x : FVec Ideal S4096x2816 .bf16) (d : FVec Ideal S4096x1024 .bf16) (prev : FVec Ideal S5632x1024 .bf16) (j) :
    Cert.Reference9Ideal.Read.val_main_v10 (F := Ideal) x d prev j =
      if h : (j 0 : Fin 5632).val < 2816 then prev j
      else ∑ k : Fin 4096, x (ix2 k (⟨(j 0 : Fin 5632).val - 2816, Nat.sub_lt_left_of_lt_add (Nat.le_of_not_lt h) (j 0 : Fin 5632).isLt⟩ : Fin 2816)) * d (ix2 k (j 1)) := by
  pointwise [Cert.Reference9Ideal.Read.val_main_v10, Cert.Reference9Ideal.Read.val_main_v9, Cert.Reference9Ideal.Read.val_main_v8,
    Cert.Reference9Ideal.Read.val_main_v7, Cert.Reference9Ideal.Read.val_main_v6, Cert.Reference9Ideal.Read.val_main_v5,
    Cert.Reference9Ideal.Read.val_main_v4, Cert.Reference9Ideal.Read.val_main_v1]

theorem idx : ∀ t : Fin cfg0.N, win0_0.index t = ![t.val % 4, t.val / 4] ∧ win0_1.index t = ![t.val % 4, 0] ∧
    win0_2.index t = ![t.val / 4 + 2, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

/-- The array the lower half is written over. -/
theorem V_prev (m : (ℓ : Loc nD τ sig) → Buf (Elt Ideal) ℓ) (c : Dev nD) : V m c main_v0 = m ((c : Thread nD τ).loc main_arg2) := by
  entry_read
  rfl

theorem final (m : (ℓ : Loc nD τ sig) → Buf (Elt Ideal) ℓ) (c : Dev nD) :
    (dats m 0 c).arrAt 2 (cfgs 0).N = Cert.Reference9Ideal.Read.val_main_v10 (F := Ideal)
      (m ((c : Thread nD τ).loc main_arg0)) (m ((c : Thread nD τ).loc main_arg1)) (m ((c : Thread nD τ).loc main_arg2)) := by
  refine (dats m 0 c).arrAt_eq_of_coversWhere_of_agree 2 _ (fun β => 2 ≤ β 0) (by decide +kernel) (fun t hf y => ?_) (fun j hj => ?_)
  · have ht := (flush0_2 t).mp hf
    blk_simp
    have e : (outsAt0 m c t.val t.isLt).1 y = (outsAt0 m c t.val t.isLt).2 y := by
      rw [outsAt0_C m c t (by omega) ht]; frame_out; rw [out_at]
    rw [after0_2]
    refine e.trans ?_
    rw [ref_at, dif_neg (by blk_simp [idx t]; omega)]
    refine Product.run_sum (J := 4) (B := 1024) (fun n h => (outsAt0 m c n h).2) _ (fun t h j => ?_)
      (fun t h j => (next_at m c t h j).trans (step_at _ _ _ j)) rfl t ht y _ (fun s k hl => ?_)
    · rw [outsAt0_A m c t h (by omega)]; frame_out; rw [step_at, zero_at]
    · blk_point [iblk, V, idx t, idx ⟨_, Pipeline.run_point_lt_of_flush t ht s⟩]
  · blk_simp [Pipeline.Window.cell_apply] at hj
    rw [A_eq, ref_at, dif_pos (by blk_simp; omega)]
    exact congrFun (V_prev m c) _

theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    rw [Cert.Reference9Ideal.Read.val_main_v10_eq, (hagree c).2.2]
    exact (final m c).symm

end Cert.UpGDw
-- ==== Proof.Prod.InZ.lean ====
/- The part of the input projection that feeds the gate: the normalized activation times the transposed first 2048 rows of the
   weight. -/
import proofs.«01_k».proof.Defs
import proofs.«01_k».proof.Proof.Product
import proofs.«01_k».proof.Proof.Gen.Kernel10Ideal.Value
import proofs.«01_k».proof.Proof.Gen.Reference10Ideal.Run
import proofs.«01_k».proof.Proof.Gen.Reference10Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel10Ideal Cert.Kernel10Ideal.Gen
namespace Cert.InZ

theorem zero_at (j) : k0_pay1 (F := Ideal) j = 0 := by
  pointwise [k0_pay1]

theorem step_at (acc : FVec Ideal S1024x1024 .f32) (x : FVec Ideal S1024x1024 .bf16) (w : FVec Ideal S1024x1024 .bf16) (j) :
    k0_pay2 (F := Ideal) acc x w j = acc j + ∑ k : Fin 1024, x (ix2 (j 0) k) * w (ix2 (j 1) k) := by
  pointwise [k0_pay2]

theorem ref_at (x : FVec Ideal S4096x1024 .bf16) (w : FVec Ideal S6176x1024 .bf16) (j) :
    Cert.Reference10Ideal.Read.val_main_v4 (F := Ideal) x w j = ∑ k : Fin 1024, x (ix2 (j 0) k)
      * w (ix2 (⟨(j 1 : Fin 2048).val, Nat.lt_trans (j 1 : Fin 2048).isLt (by decide)⟩ : Fin 6176) k) := by
  pointwise [Cert.Reference10Ideal.Read.val_main_v4, Cert.Reference10Ideal.Read.val_main_v3, Cert.Reference10Ideal.Read.val_main_v2,
    Cert.Reference10Ideal.Read.val_main_v1, Cert.Reference10Ideal.Read.val_main_v0]

/-- The block of each window at a point: row block `t / 2`, column block `t % 2`. -/
theorem idx : ∀ t : Fin cfg0.N, win0_0.index t = ![t.val / 2, 0] ∧ win0_1.index t = ![t.val % 2, 0] ∧
    win0_2.index t = ![t.val / 2, t.val % 2] :=
  (by decide +kernel : ∀ t : Fin grid0.N, _)

/-- The weight's block at a point, entry by entry. -/
theorem w_at (m : (ℓ : Loc nD τ sig) → Buf (Elt Ideal) ℓ) (c : Dev nD) (t : Fin cfg0.N) (j : S1024x1024.Idx) (r : Fin 6176)
    (hr : r.val = t.val % 2 * 1024 + (j 0 : Fin 1024).val) :
    X0_1 m c t j = m ((c : Thread nD τ).loc main_arg1) (ix2 r (j 1 : Fin 1024)) := by
  unfold X0_1 Pipeline.Window.fill
  rw [dif_pos (moved0_1 t j)]
  blk_ext [iblk, V, idx t, hr]

theorem final (m : (ℓ : Loc nD τ sig) → Buf (Elt Ideal) ℓ) (c : Dev nD) :
    (dats m 0 c).arrAt 2 (cfgs 0).N = Cert.Reference10Ideal.Read.val_main_v4 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step_at, zero_at, zero_add, ref_at]
  refine Product.sum_eq fun k => congrArg₂ (· * ·) ?_ ?_
  · blk_ext [iblk, V, idx t]
  · exact w_at m c t (ix2 (y 1) k) _ (by blk_simp [idx t])

theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    exact (Cert.Reference10Ideal.Read.val_main_v4_eq _ _).trans (final m c).symm

end Cert.InZ
-- ==== Proof.Prod.InXbc.lean ====
/- The part of the input projection that feeds the scan: the normalized activation times the transposed rows 2048 to 6144 of the
   weight. -/
import proofs.«01_k».proof.Defs
import proofs.«01_k».proof.Proof.Product
import proofs.«01_k».proof.Proof.Gen.Kernel11Ideal.Value
import proofs.«01_k».proof.Proof.Gen.Reference11Ideal.Run
import proofs.«01_k».proof.Proof.Gen.Reference11Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel11Ideal Cert.Kernel11Ideal.Gen
namespace Cert.InXbc

theorem zero_at (j) : k0_pay1 (F := Ideal) j = 0 := by
  pointwise [k0_pay1]

theorem step_at (acc : FVec Ideal S1024x1024 .f32) (x : FVec Ideal S1024x1024 .bf16) (w : FVec Ideal S1024x1024 .bf16) (j) :
    k0_pay2 (F := Ideal) acc x w j = acc j + ∑ k : Fin 1024, x (ix2 (j 0) k) * w (ix2 (j 1) k) := by
  pointwise [k0_pay2]

theorem ref_at (x : FVec Ideal S4096x1024 .bf16) (w : FVec Ideal S6176x1024 .bf16) (j) :
    Cert.Reference11Ideal.Read.val_main_v4 (F := Ideal) x w j = ∑ k : Fin 1024, x (ix2 (j 0) k)
      * w (ix2 (⟨2048 + (j 1 : Fin 4096).val, Nat.lt_of_lt_of_le (Nat.add_lt_add_left (j 1 : Fin 4096).isLt 2048) (by decide)⟩ : Fin 6176) k) := by
  pointwise [Cert.Reference11Ideal.Read.val_main_v4, Cert.Reference11Ideal.Read.val_main_v3, Cert.Reference11Ideal.Read.val_main_v2,
    Cert.Reference11Ideal.Read.val_main_v1, Cert.Reference11Ideal.Read.val_main_v0]

/-- The block of each window at a point: row block `t / 4`, column block `t % 4`, the weight's blocks counted from row 2048. -/
theorem idx : ∀ t : Fin cfg0.N, win0_0.index t = ![t.val / 4, 0] ∧ win0_1.index t = ![t.val % 4 + 2, 0] ∧
    win0_2.index t = ![t.val / 4, t.val % 4] :=
  (by decide +kernel : ∀ t : Fin grid0.N, _)

/-- The weight's block at a point, entry by entry. -/
theorem w_at (m : (ℓ : Loc nD τ sig) → Buf (Elt Ideal) ℓ) (c : Dev nD) (t : Fin cfg0.N) (j : S1024x1024.Idx) (r : Fin 6176)
    (hr : r.val = (t.val % 4 + 2) * 1024 + (j 0 : Fin 1024).val) :
    X0_1 m c t j = m ((c : Thread nD τ).loc main_arg1) (ix2 r (j 1 : Fin 1024)) := by
  unfold X0_1 Pipeline.Window.fill
  rw [dif_pos (moved0_1 t j)]
  blk_ext [iblk, V, idx t, hr]

theorem final (m : (ℓ : Loc nD τ sig) → Buf (Elt Ideal) ℓ) (c : Dev nD) :
    (dats m 0 c).arrAt 2 (cfgs 0).N = Cert.Reference11Ideal.Read.val_main_v4 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step_at, zero_at, zero_add, ref_at]
  refine Product.sum_eq fun k => congrArg₂ (· * ·) ?_ ?_
  · blk_ext [iblk, V, idx t]
  · exact w_at m c t (ix2 (y 1) k) _ (by show 2048 + _ = _; blk_simp [idx t]; omega)

theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    exact (Cert.Reference11Ideal.Read.val_main_v4_eq _ _).trans (final m c).symm

end Cert.InXbc
-- ==== Proof.Prod.Out.lean ====
/- The output projection with the residual added: two points for each block of rows, over the halves of the contracted axis. -/
import proofs.«01_k».proof.Defs
import proofs.«01_k».proof.Proof.Product
import proofs.«01_k».proof.Proof.Gen.Kernel12Ideal.Value
import proofs.«01_k».proof.Proof.Gen.Reference12Ideal.Run
import proofs.«01_k».proof.Proof.Gen.Reference12Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel12Ideal Cert.Kernel12Ideal.Gen
namespace Cert.Out

theorem zero_at (j) : k0_pay1 (F := Ideal) j = 0 := by
  pointwise [k0_pay1]

theorem step_at (acc : FVec Ideal S1024x1024 .f32) (x : FVec Ideal S1024x1024 .bf16) (w : FVec Ideal S1024x1024 .bf16) (j) :
    k0_pay2 (F := Ideal) acc x w j = acc j + ∑ k : Fin 1024, x (ix2 (j 0) k) * w (ix2 k (j 1)) := by
  pointwise [k0_pay2]

theorem out_at (acc res : FVec Ideal S1024x1024 .f32) (j) : k0_pay3 (F := Ideal) acc res j = acc j + res j := by
  pointwise [k0_pay3]

theorem ref_at (x : FVec Ideal S4096x2048 .bf16) (w : FVec Ideal S2048x1024 .bf16) (res : FVec Ideal S4096x1024 .f32) (j) :
    Cert.Reference12Ideal.Read.val_main_v3 (F := Ideal) x w res j = res j + ∑ k : Fin 2048, x (ix2 (j 0) k) * w (ix2 k (j 1)) := by
  pointwise [Cert.Reference12Ideal.Read.val_main_v3, Cert.Reference12Ideal.Read.val_main_v2, Cert.Reference12Ideal.Read.val_main_v1,
    Cert.Reference12Ideal.Read.val_main_v0]

theorem idx : ∀ t : Fin cfg0.N, win0_0.index t = ![t.val / 2, t.val % 2] ∧ win0_1.index t = ![t.val % 2, 0] ∧
    win0_2.index t = ![t.val / 2, 0] ∧ win0_3.index t = ![t.val / 2, 0] :=
  (by decide +kernel : ∀ t : Fin grid0.N, _)

/-- The second point of a block adds its part to what the first left. -/
theorem next_at (m : (ℓ : Loc nD τ sig) → Buf (Elt Ideal) ℓ) (c : Dev nD) (t : Fin cfg0.N) (h : ¬t.val % 2 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  rw [outsAt0_B m c t h (by omega)]; frame_out
  rw [step_at, step_at]; exact congrArg (· + _) (congrFun (Memref.IsWhole.read_unread _ _) _)

theorem final (m : (ℓ : Loc nD τ sig) → Buf (Elt Ideal) ℓ) (c : Dev nD) :
    (dats m 0 c).arrAt 3 (cfgs 0).N = Cert.Reference12Ideal.Read.val_main_v3 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  have e : (outsAt0 m c t.val t.isLt).1 y = (outsAt0 m c t.val t.isLt).2 y + iblk m c 2 t y := by
    rw [outsAt0_B m c t (by omega) ht]; frame_out; rw [out_at]
  rw [after0_3]
  refine e.trans ?_
  rw [ref_at, add_comm]
  refine congrArg₂ (· + ·) ?_ ?_
  · blk_ext [iblk, V, idx t]
  · refine Product.run_sum (J := 2) (B := 1024) (fun n h => (outsAt0 m c n h).2) _ (fun t h j => ?_)
      (fun t h j => (next_at m c t h j).trans (step_at _ _ _ j)) rfl t ht y _ (fun s k hl => ?_)
    · rw [outsAt0_A m c t h (by omega)]; frame_out; rw [step_at, zero_at]
    · blk_point [iblk, V, idx t, idx ⟨_, Pipeline.run_point_lt_of_flush t ht s⟩]

theorem algebraic : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    rw [Cert.Reference12Ideal.Read.val_main_v3_eq]
    exact (final m c).symm

end Cert.Out
-- ==== Proof.Prod.OutDx.lean ====
/- The gradient of the output projection's input: the gradient of the rows times the transposed weight. -/
import proofs.«01_k».proof.Defs
import proofs.«01_k».proof.Proof.Product
import proofs.«01_k».proof.Proof.Gen.Kernel13Ideal.Value
import proofs.«01_k».proof.Proof.Gen.Reference13Ideal.Run
import proofs.«01_k».proof.Proof.Gen.Reference13Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel13Ideal Cert.Kernel13Ideal.Gen
namespace Cert.OutDx

theorem zero_at (j) : k0_pay1 (F := Ideal) j = 0 := by
  pointwise [k0_pay1]

theorem step_at (acc : FVec Ideal S1024x1024 .f32) (d : FVec Ideal S1024x1024 .f32) (w : FVec Ideal S1024x1024 .bf16) (j) :
    k0_pay2 (F := Ideal) acc d w j = acc j + ∑ k : Fin 1024, d (ix2 (j 0) k) * w (ix2 (j 1) k) := by
  pointwise [k0_pay2]

theorem out_at (acc : FVec Ideal S1024x1024 .f32) (j) : k0_pay3 (F := Ideal) acc j = acc j := by
  pointwise [k0_pay3]

theorem ref_at (d : FVec Ideal S4096x1024 .f32) (w : FVec Ideal S2048x1024 .bf16) (j) :
    Cert.Reference13Ideal.Read.val_main_v4 (F := Ideal) d w j = ∑ k : Fin 1024, d (ix2 (j 0) k) * w (ix2 (j 1) k) := by
  pointwise [Cert.Reference13Ideal.Read.val_main_v4, Cert.Reference13Ideal.Read.val_main_v3, Cert.Reference13Ideal.Read.val_main_v1]

/-- The block of each window at a point: row block `t / 2`, column block `t % 2`. -/
theorem idx : ∀ t : Fin cfg0.N, win0_0.index t = ![t.val / 2, 0] ∧ win0_1.index t = ![t.val % 2, 0] ∧
    win0_2.index t = ![t.val / 2, t.val % 2] :=
  (by decide +kernel : ∀ t : Fin grid0.N, _)

theorem final (m : (ℓ : Loc nD τ sig) → Buf (Elt Ideal) ℓ) (c : Dev nD) :
    (dats m 0 c).arrAt 2 (cfgs 0).N = Cert.Reference13Ideal.Read.val_main_v4 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [out_at, step_at, zero_at, zero_add, ref_at]
  refine Product.sum_eq fun k => ?_
  blk_point [iblk, V, idx t]

theorem algebraic : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    rw [Cert.Reference13Ideal.Read.val_main_v4_eq]
    exact (final m c).symm

end Cert.OutDx
-- ==== Proof.Prod.OutDw.lean ====
/- The gradient of the output projection's weight: the transposed activation times the gradient of the rows, four points for each
   block, over the quarters of the rows. -/
import proofs.«01_k».proof.Defs
import proofs.«01_k».proof.Proof.Product
import proofs.«01_k».proof.Proof.Gen.Kernel14Ideal.Value
import proofs.«01_k».proof.Proof.Gen.Reference14Ideal.Run
import proofs.«01_k».proof.Proof.Gen.Reference14Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel14Ideal Cert.Kernel14Ideal.Gen
namespace Cert.OutDw

theorem zero_at (j) : k0_pay1 (F := Ideal) j = 0 := by
  pointwise [k0_pay1]

theorem step_at (acc : FVec Ideal S1024x1024 .f32) (x : FVec Ideal S1024x1024 .bf16) (d : FVec Ideal S1024x1024 .f32) (j) :
    k0_pay2 (F := Ideal) acc x d j = acc j + ∑ k : Fin 1024, x (ix2 k (j 0)) * d (ix2 k (j 1)) := by
  pointwise [k0_pay2]

theorem out_at (acc : FVec Ideal S1024x1024 .f32) (j) : k0_pay3 (F := Ideal) acc j = acc j := by
  pointwise [k0_pay3]

theorem ref_at (x : FVec Ideal S4096x2048 .bf16) (d : FVec Ideal S4096x1024 .f32) (j) :
    Cert.Reference14Ideal.Read.val_main_v5 (F := Ideal) x d j = ∑ k : Fin 4096, d (ix2 k (j 1)) * x (ix2 k (j 0)) := by
  pointwise [Cert.Reference14Ideal.Read.val_main_v5, Cert.Reference14Ideal.Read.val_main_v4, Cert.Reference14Ideal.Read.val_main_v3,
    Cert.Reference14Ideal.Read.val_main_v1]

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

theorem final (m : (ℓ : Loc nD τ sig) → Buf (Elt Ideal) ℓ) (c : Dev nD) :
    (dats m 0 c).arrAt 2 (cfgs 0).N = Cert.Reference14Ideal.Read.val_main_v5 (F := Ideal)
      (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 y = (outsAt0 m c t.val t.isLt).2 y := by
    rw [outsAt0_C m c t (by omega) ht]; frame_out; rw [out_at]
  rw [after0_2]
  refine e.trans ?_
  rw [ref_at]
  refine Product.run_sum (J := 4) (B := 1024) (fun n h => (outsAt0 m c n h).2) _ (fun t h j => ?_)
    (fun t h j => (next_at m c t h j).trans (step_at _ _ _ j)) rfl t ht y _ (fun s k hl => ?_)
  · rw [outsAt0_A m c t h (by omega)]; frame_out; rw [step_at, zero_at]
  · rw [mul_comm]
    blk_point [iblk, V, idx t, idx ⟨_, Pipeline.run_point_lt_of_flush t ht s⟩]

theorem algebraic : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · run_from Cert.Reference14Ideal.Value.run m' g'
    rw [Cert.Reference14Ideal.Read.val_main_v5_eq]
    exact (final m c).symm

end Cert.OutDw
-- ==== Proof.Prod.InZDx.lean ====
/- The part of the gradient of the input projection's input that comes through the gate's rows of the weight. -/
import proofs.«01_k».proof.Defs
import proofs.«01_k».proof.Proof.Product
import proofs.«01_k».proof.Proof.Gen.Kernel15Ideal.Value
import proofs.«01_k».proof.Proof.Gen.Reference15Ideal.Run
import proofs.«01_k».proof.Proof.Gen.Reference15Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel15Ideal Cert.Kernel15Ideal.Gen
namespace Cert.InZDx

theorem zero_at (j) : k0_pay1 (F := Ideal) j = 0 := by
  pointwise [k0_pay1]

theorem step_at (acc : FVec Ideal S1024x1024 .f32) (d : FVec Ideal S1024x1024 .bf16) (w : FVec Ideal S1024x1024 .bf16) (j) :
    k0_pay2 (F := Ideal) acc d w j = acc j + ∑ k : Fin 1024, d (ix2 (j 0) k) * w (ix2 k (j 1)) := by
  pointwise [k0_pay2]

theorem ref_at (d : FVec Ideal S4096x2048 .bf16) (w : FVec Ideal S6176x1024 .bf16) (j) :
    Cert.Reference15Ideal.Read.val_main_v6 (F := Ideal) d w j =
      ∑ k : Fin 2048, d (ix2 (j 0) k) * w (ix2 (⟨k.val, by omega⟩ : Fin 6176) (j 1)) := by
  pointwise [Cert.Reference15Ideal.Read.val_main_v6, Cert.Reference15Ideal.Read.val_main_v5, Cert.Reference15Ideal.Read.val_main_v3,
    Cert.Reference15Ideal.Read.val_main_v2, Cert.Reference15Ideal.Read.val_main_v1]

theorem idx : ∀ t : Fin cfg0.N, win0_0.index t = ![t.val / 2, t.val % 2] ∧ win0_1.index t = ![t.val % 2, 0] ∧
    win0_2.index t = ![t.val / 2, 0] :=
  (by decide +kernel : ∀ t : Fin grid0.N, _)

/-- The weight's block at a point, entry by entry. -/
theorem w_at (m : (ℓ : Loc nD τ sig) → Buf (Elt Ideal) ℓ) (c : Dev nD) (t : Fin cfg0.N) (j : S1024x1024.Idx) (r : Fin 6176)
    (hr : r.val = t.val % 2 * 1024 + (j 0 : Fin 1024).val) :
    X0_1 m c t j = m ((c : Thread nD τ).loc main_arg1) (ix2 r (j 1 : Fin 1024)) := by
  unfold X0_1 Pipeline.Window.fill
  rw [dif_pos (moved0_1 t j)]
  blk_ext [iblk, V, idx t, hr]

/-- The second point of a block adds its part to what the first left. -/
theorem next_at (m : (ℓ : Loc nD τ sig) → Buf (Elt Ideal) ℓ) (c : Dev nD) (t : Fin cfg0.N) (h : ¬t.val % 2 = 0) (j) :
    (outsAt0 m c t.val t.isLt).2 j = k0_pay2 (F := Ideal)
      (outsAt0 m c (t.val - 1) (Nat.lt_of_le_of_lt (Nat.sub_le _ _) t.isLt)).2 (iblk m c 0 t) (X0_1 m c t) j := by
  rw [outsAt0_B m c t h (by omega)]; frame_out
  rw [step_at, step_at]; exact congrArg (· + _) (congrFun (Memref.IsWhole.read_unread _ _) _)

theorem final (m : (ℓ : Loc nD τ sig) → Buf (Elt Ideal) ℓ) (c : Dev nD) :
    (dats m 0 c).arrAt 2 (cfgs 0).N = Cert.Reference15Ideal.Read.val_main_v6 (F := Ideal)
      (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 y = (outsAt0 m c t.val t.isLt).2 y := by
    rw [outsAt0_B m c t (by omega) ht]; frame_out
  rw [after0_2]
  refine e.trans ?_
  rw [ref_at]
  refine Product.run_sum (J := 2) (B := 1024) (fun n h => (outsAt0 m c n h).2) _ (fun t h j => ?_)
    (fun t h j => (next_at m c t h j).trans (step_at _ _ _ j)) rfl t ht y _ (fun s k hl => congrArg₂ (· * ·) ?_ ?_)
  · rw [outsAt0_A m c t h (by omega)]; frame_out; rw [step_at, zero_at]
  · blk_ext [iblk, V, idx t, idx ⟨_, Pipeline.run_point_lt_of_flush t ht s⟩]
  · refine (w_at m c _ (ix2 k (y 1)) (⟨s.val * 1024 + k.val, by omega⟩ : Fin 6176) ?_).trans ?_
    · show s.val * 1024 + k.val = (2 * (t.val / 2) + s.val) % 2 * 1024 + k.val
      have := s.isLt
      omega
    · blk_ext [idx t]

theorem algebraic : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · run_from Cert.Reference15Ideal.Value.run m' g'
    exact (Cert.Reference15Ideal.Read.val_main_v6_eq _ _).trans (final m c).symm

end Cert.InZDx
-- ==== Proof.Prod.InXbcDx.lean ====
/- The part of the gradient of the input projection's input that comes through rows 2048 to 6144 of the weight, added to the part
   already there: four points for each block of rows, over the quarters of the contracted axis. -/
import proofs.«01_k».proof.Defs
import proofs.«01_k».proof.Proof.Product
import proofs.«01_k».proof.Proof.Gen.Kernel16Ideal.Value
import proofs.«01_k».proof.Proof.Gen.Reference16Ideal.Run
import proofs.«01_k».proof.Proof.Gen.Reference16Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel16Ideal Cert.Kernel16Ideal.Gen
namespace Cert.InXbcDx

theorem zero_at (j) : k0_pay1 (F := Ideal) j = 0 := by
  pointwise [k0_pay1]

theorem step_at (acc : FVec Ideal S1024x1024 .f32) (d : FVec Ideal S1024x1024 .bf16) (w : FVec Ideal S1024x1024 .bf16) (j) :
    k0_pay2 (F := Ideal) acc d w j = acc j + ∑ k : Fin 1024, d (ix2 (j 0) k) * w (ix2 k (j 1)) := by
  pointwise [k0_pay2]

theorem out_at (acc res : FVec Ideal S1024x1024 .f32) (j) : k0_pay3 (F := Ideal) acc res j = acc j + res j := by
  pointwise [k0_pay3]

theorem ref_at (d : FVec Ideal S4096x4096 .bf16) (w : FVec Ideal S6176x1024 .bf16) (res : FVec Ideal S4096x1024 .f32) (j) :
    Cert.Reference16Ideal.Read.val_main_v7 (F := Ideal) d w res j =
      res j + ∑ k : Fin 4096, d (ix2 (j 0) k) * w (ix2 (⟨2048 + k.val, by omega⟩ : Fin 6176) (j 1)) := by
  pointwise [Cert.Reference16Ideal.Read.val_main_v7, Cert.Reference16Ideal.Read.val_main_v6, Cert.Reference16Ideal.Read.val_main_v5,
    Cert.Reference16Ideal.Read.val_main_v3, Cert.Reference16Ideal.Read.val_main_v2, Cert.Reference16Ideal.Read.val_main_v1]

theorem idx : ∀ t : Fin cfg0.N, win0_0.index t = ![t.val / 4, t.val % 4] ∧ win0_1.index t = ![t.val % 4 + 2, 0] ∧
    win0_2.index t = ![t.val / 4, 0] ∧ win0_3.index t = ![t.val / 4, 0] :=
  (by decide +kernel : ∀ t : Fin grid0.N, _)

/-- The weight's block at a point, entry by entry. -/
theorem w_at (m : (ℓ : Loc nD τ sig) → Buf (Elt Ideal) ℓ) (c : Dev nD) (t : Fin cfg0.N) (j : S1024x1024.Idx) (r : Fin 6176)
    (hr : r.val = (t.val % 4 + 2) * 1024 + (j 0 : Fin 1024).val) :
    X0_1 m c t j = m ((c : Thread nD τ).loc main_arg1) (ix2 r (j 1 : Fin 1024)) := by
  unfold X0_1 Pipeline.Window.fill
  rw [dif_pos (moved0_1 t j)]
  blk_ext [iblk, V, idx t, hr]

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (X0_1 m c t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

theorem final (m : (ℓ : Loc nD τ sig) → Buf (Elt Ideal) ℓ) (c : Dev nD) :
    (dats m 0 c).arrAt 3 (cfgs 0).N = Cert.Reference16Ideal.Read.val_main_v7 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  have e : (outsAt0 m c t.val t.isLt).1 y = (outsAt0 m c t.val t.isLt).2 y + iblk m c 2 t y := by
    rw [outsAt0_C m c t (by omega) ht]; frame_out; rw [out_at]
  rw [after0_3]
  refine e.trans ?_
  rw [ref_at, add_comm]
  refine congrArg₂ (· + ·) ?_ ?_
  · blk_ext [iblk, V, idx t]
  · refine Product.run_sum (J := 4) (B := 1024) (fun n h => (outsAt0 m c n h).2) _ (fun t h j => ?_)
      (fun t h j => (next_at m c t h j).trans (step_at _ _ _ j)) rfl t ht y _ (fun s k hl => congrArg₂ (· * ·) ?_ ?_)
    · rw [outsAt0_A m c t h (by omega)]; frame_out; rw [step_at, zero_at]
    · blk_ext [iblk, V, idx t, idx ⟨_, Pipeline.run_point_lt_of_flush t ht s⟩]
    · refine (w_at m c _ (ix2 k (y 1)) (⟨2048 + (s.val * 1024 + k.val), by omega⟩ : Fin 6176) ?_).trans ?_
      · show 2048 + (s.val * 1024 + k.val) = ((4 * (t.val / 4) + s.val) % 4 + 2) * 1024 + k.val
        have := s.isLt
        omega
      · blk_ext [idx t]

theorem algebraic : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · run_from Cert.Reference16Ideal.Value.run m' g'
    rw [Cert.Reference16Ideal.Read.val_main_v7_eq]
    exact (final m c).symm

end Cert.InXbcDx
-- ==== Proof.Prod.InXbcDw.lean ====
/- The gradient of rows 2048 to 6144 of the input projection's weight, in an array whose other rows are kept. -/
import proofs.«01_k».proof.Defs
import proofs.«01_k».proof.Proof.Product
import proofs.«01_k».proof.Proof.Gen.Kernel17Ideal.Value
import proofs.«01_k».proof.Proof.Gen.Reference17Ideal.Run
import proofs.«01_k».proof.Proof.Gen.Reference17Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel17Ideal Cert.Kernel17Ideal.Gen
namespace Cert.InXbcDw

theorem zero_at (j) : k0_pay1 (F := Ideal) j = 0 := by
  pointwise [k0_pay1]

theorem step_at (acc : FVec Ideal S1024x1024 .f32) (x : FVec Ideal S1024x1024 .bf16) (d : FVec Ideal S1024x1024 .bf16) (j) :
    k0_pay2 (F := Ideal) acc x d j = acc j + ∑ k : Fin 1024, x (ix2 k (j 0)) * d (ix2 k (j 1)) := by
  pointwise [k0_pay2]

theorem out_at (acc : FVec Ideal S1024x1024 .f32) (j) : k0_pay3 (F := Ideal) acc j = acc j := by
  pointwise [k0_pay3]

theorem ref_at (x : FVec Ideal S4096x4096 .bf16) (d : FVec Ideal S4096x1024 .bf16) (prev : FVec Ideal S6176x1024 .bf16) (j) :
    Cert.Reference17Ideal.Read.val_main_v11 (F := Ideal) x d prev j =
      if h : (j 0 : Fin 6176).val < 2048 then prev j
      else if h2 : (j 0 : Fin 6176).val - 2048 < 4096 then
        ∑ k : Fin 4096, x (ix2 k (⟨(j 0 : Fin 6176).val - 2048, h2⟩ : Fin 4096)) * d (ix2 k (j 1))
      else prev j := by
  pointwise [Cert.Reference17Ideal.Read.val_main_v11, Cert.Reference17Ideal.Read.val_main_v10, Cert.Reference17Ideal.Read.val_main_v9,
    Cert.Reference17Ideal.Read.val_main_v8, Cert.Reference17Ideal.Read.val_main_v7, Cert.Reference17Ideal.Read.val_main_v6,
    Cert.Reference17Ideal.Read.val_main_v5, Cert.Reference17Ideal.Read.val_main_v4, Cert.Reference17Ideal.Read.val_main_v1]
  split
  · rfl
  · split
    · rfl
    · refine congrArg prev (funext (Fin.forall_fin_two.mpr ⟨Fin.ext ?_, rfl⟩))
      show 6144 + ((j 0 : Fin 6176).val - 2048 - 4096) = (j 0 : Fin 6176).val
      omega

theorem idx : ∀ t : Fin cfg0.N, win0_0.index t = ![t.val % 4, t.val / 4] ∧ win0_1.index t = ![t.val % 4, 0] ∧
    win0_2.index t = ![t.val / 4 + 2, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

/-- The array the rows are written over. -/
theorem V_prev (m : (ℓ : Loc nD τ sig) → Buf (Elt Ideal) ℓ) (c : Dev nD) : V m c main_v0 = m ((c : Thread nD τ).loc main_arg2) := by
  entry_read
  rfl

theorem final (m : (ℓ : Loc nD τ sig) → Buf (Elt Ideal) ℓ) (c : Dev nD) :
    (dats m 0 c).arrAt 2 (cfgs 0).N = Cert.Reference17Ideal.Read.val_main_v11 (F := Ideal)
      (m ((c : Thread nD τ).loc main_arg0)) (m ((c : Thread nD τ).loc main_arg1)) (m ((c : Thread nD τ).loc main_arg2)) := by
  refine (dats m 0 c).arrAt_eq_of_coversWhere_of_agree 2 _ (fun β => 2 ≤ β 0 ∧ β 0 < 6) (by decide +kernel) (fun t hf y => ?_)
    (fun j hj => ?_)
  · have ht := (flush0_2 t).mp hf
    have hN : t.val < 16 := t.isLt
    blk_simp
    have e : ∀ y, (outsAt0 m c t.val t.isLt).1 y = (outsAt0 m c t.val t.isLt).2 y := fun y => by
      rw [outsAt0_C m c t (by omega) ht]; frame_out; rw [out_at]
    rw [after0_2]
    refine (e _).trans ?_
    have hy : (y 0).val < 1024 := Nat.lt_of_lt_of_le (y 0).isLt ((cfg0.win 2).xsize_le (cfg0.grid.coords t) 0)
    rw [ref_at, dif_neg (by blk_simp [idx t]; omega), dif_pos (by blk_simp [idx t]; omega)]
    refine Product.run_sum (J := 4) (B := 1024) (fun n h => (outsAt0 m c n h).2) _ (fun t h j => ?_)
      (fun t h j => (next_at m c t h j).trans (step_at _ _ _ j)) rfl t ht _ _ (fun s k hl => ?_)
    · rw [outsAt0_A m c t h (by omega)]; frame_out; rw [step_at, zero_at]
    · blk_point [iblk, V, idx t, idx ⟨_, Pipeline.run_point_lt_of_flush t ht s⟩]
  · blk_simp [Pipeline.Window.cell_apply] at hj
    rw [A_eq, ref_at]
    have hp := congrFun (V_prev m c) ((win0_2.arr.view).emb j)
    split
    · exact hp
    · rename_i h
      blk_simp at h
      rw [dif_neg (by blk_simp; omega)]
      exact hp

theorem algebraic : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · run_from Cert.Reference17Ideal.Value.run m' g'
    rw [Cert.Reference17Ideal.Read.val_main_v11_eq, (hagree c).2.2]
    exact (final m c).symm

end Cert.InXbcDw
-- ==== Proof.Prod.MixInDx.lean ====
/- The gradient of the sequence mixer's input, and the gradient of the norm before it. -/
import proofs.«01_k».proof.Defs
import proofs.«01_k».proof.Proof.Product
import proofs.«01_k».proof.Proof.Norm
import proofs.«01_k».proof.Proof.Gen.Kernel18Ideal.Value
import proofs.«01_k».proof.Proof.Gen.Reference18Ideal.Run
import proofs.«01_k».proof.Proof.Gen.Reference18Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel18Ideal Cert.Kernel18Ideal.Gen
namespace Cert.MixInDx

theorem zero_at (j) : k0_pay1 (F := Ideal) j = 0 := by
  pointwise [k0_pay1]

theorem zero_dw_at (j) : k0_pay2 (F := Ideal) j = 0 := by
  pointwise [k0_pay2]

theorem step_at (acc : FVec Ideal S1024x1024 .f32) (d : FVec Ideal S1024x1280 .f32) (w : FVec Ideal S1280x1024 .bf16) (j) :
    k0_pay3 (F := Ideal) acc d w j = acc j + ∑ k : Fin 1280, d (ix2 (j 0) k) * w (ix2 k (j 1)) := by
  pointwise [k0_pay3]

theorem dx_at (dh x : FVec Ideal S1024x1024 .f32) (w : FVec Ideal S1x1024 .f32) (dres : FVec Ideal S1024x1024 .f32) (j) :
    k0_pay6 (F := Ideal) dh x w dres j = dres j + Norm.dx (fun k => x (ix2 (j 0) k))
      (fun k => dh (ix2 (j 0) k) * w (ix2 0 k)) (j 1) := by
  idx_vars j
  pointwise [k0_pay6, k0_pay4, k0_pay5, Norm.dx, Norm.rs]

/-- What a row `r` of a block adds to the weight's gradient in column `q`. -/
def row (dh x : FVec Ideal S1024x1024 .f32) (q r : Fin 1024) : EReal :=
  dh (ix2 r q) * (x (ix2 r q) * Norm.rs (fun k => x (ix2 r k)))

theorem dw_at (dh x : FVec Ideal S1024x1024 .f32) (dw : FVec Ideal S1x1024 .f32) (j) :
    k0_pay7 (F := Ideal) dh x dw j = dw j + ∑ r, row dh x (j 1) r := by
  pointwise [row, k0_pay7, k0_pay4, k0_pay5, Norm.rs]

theorem dh_at (d : FVec Ideal S4096x1280 .f32) (wt : FVec Ideal S1280x1024 .bf16) (j) :
    Cert.Reference18Ideal.Read.val_main_v4 (F := Ideal) d wt j = ∑ k : Fin 1280, d (ix2 (j 0) k) * wt (ix2 k (j 1)) := by
  pointwise [Cert.Reference18Ideal.Read.val_main_v4, Cert.Reference18Ideal.Read.val_main_v2, Cert.Reference18Ideal.Read.val_main_v1]

open Cert.Reference18Ideal.Read in
theorem ref_dx_at (d : FVec Ideal S4096x1280 .f32) (wt : FVec Ideal S1280x1024 .bf16) (x : FVec Ideal S4096x1024 .f32)
    (w : FVec Ideal S1x1024 .f32) (dres : FVec Ideal S4096x1024 .f32) (j) :
    val_main_v39 (F := Ideal) d wt x w dres j = dres j + Norm.dx (fun k => x (ix2 (j 0) k))
      (fun k => val_main_v4 (F := Ideal) d wt (ix2 (j 0) k) * w (ix2 0 k)) (j 1) := by
  refine Eq.trans ?_ (congrArg (dres j + ·) (Norm.dx_eq _ _ _).symm)
  pointwise [val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v16, val_main_v15, val_main_v14, val_main_v13, val_main_v12, val_main_v11,
    val_main_v10, val_main_v9, val_main_v8, val_main_v7, val_main_v6, val_main_v5, val_main_cst_0, val_main_cst_1, val_main_cst_2,
    val_main_cst_3, val_main_cst_5, val_main_cst_6, val_main_cst_7, Norm.through, Norm.rs]
  simp only [Fin.sum_univ_one]

/-- What a row `r` adds to the weight's gradient in column `q`, in the reference. -/
def ref_row (d : FVec Ideal S4096x1280 .f32) (wt : FVec Ideal S1280x1024 .bf16) (x : FVec Ideal S4096x1024 .f32) (q : Fin 1024) (r : Fin 4096) : EReal :=
  x (ix2 r q) * Norm.rs (fun k => x (ix2 r k)) * Cert.Reference18Ideal.Read.val_main_v4 (F := Ideal) d wt (ix2 r q)

open Cert.Reference18Ideal.Read in
theorem ref_dw_at (d : FVec Ideal S4096x1280 .f32) (wt : FVec Ideal S1280x1024 .bf16) (x : FVec Ideal S4096x1024 .f32) (j) :
    val_main_v22 (F := Ideal) d wt x j = ∑ r, ref_row d wt x (j 1) r := by
  pointwise [ref_row, val_main_v22, val_main_v21, val_main_v20, val_main_v17, val_main_v16, val_main_v12,
    val_main_v11, val_main_v10, val_main_v9, val_main_v8, val_main_v7, val_main_v6, val_main_v5, val_main_cst_0, val_main_cst_1,
    val_main_cst_2, val_main_cst_4, Norm.rs]

theorem idx : ∀ t : Fin cfg0.N, win0_0.index t = ![t.val, 0] ∧ win0_1.index t = ![0, 0] ∧
    win0_2.index t = ![t.val, 0] ∧ win0_3.index t = ![0, 0] ∧ win0_4.index t = ![t.val, 0] ∧
    win0_5.index t = ![t.val, 0] ∧ win0_6.index t = ![0, 0] :=
  (by decide +kernel : ∀ t : Fin grid0.N, _)

/-- A block's rows of the gradient of the norm's output. -/
def dh (m : (ℓ : Loc nD τ sig) → Buf (Elt Ideal) ℓ) (c : Dev nD) (t : Fin cfg0.N) : FVec Ideal S1024x1024 .f32 :=
  k0_pay3 (F := Ideal) (k0_pay1 (F := Ideal)) (iblk m c 0 t) (iblk m c 1 t)

theorem whole_at (m : (ℓ : Loc nD τ sig) → Buf (Elt Ideal) ℓ) (c : Dev nD) (t : Fin cfg0.N) (j : S1024x1024.Idx)
    (r : Fin 4096) (hr : r.val = t.val * 1024 + (j 0 : Fin 1024).val) :
    dh m c t j = Cert.Reference18Ideal.Read.val_main_v4 (F := Ideal)
      (m ((c : Thread nD τ).loc main_arg0)) (m ((c : Thread nD τ).loc main_arg1)) (ix2 r (j 1 : Fin 1024)) := by
  unfold dh
  rw [step_at, zero_at, zero_add, dh_at]
  exact Product.sum_eq fun k => by blk_point [iblk, V, idx t, hr]

theorem dx_point (m : (ℓ : Loc nD τ sig) → Buf (Elt Ideal) ℓ) (c : Dev nD) (t : Fin cfg0.N) (j) :
    (outsAt0 m c t.val t.isLt).1 j = k0_pay6 (F := Ideal) (dh m c t) (iblk m c 2 t) (iblk m c 3 t) (iblk m c 4 t) j := by
  by_cases h : t.val % 4 = 0
  · rw [outsAt0_A m c t h]; frame_out; rfl
  · rw [outsAt0_B m c t h]; frame_out; rfl

theorem final_dx (m : (ℓ : Loc nD τ sig) → Buf (Elt Ideal) ℓ) (c : Dev nD) :
    (dats m 0 c).arrAt 5 (cfgs 0).N = Cert.Reference18Ideal.Read.val_main_v39 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  refine (dx_point m c t y).trans ?_
  rw [dx_at, ref_dx_at]
  refine congrArg₂ (· + ·) ?_ (Norm.dx_congr (fun k => ?_) (fun k => congrArg₂ (· * ·) ?_ ?_) ?_)
  · blk_ext [iblk, V, idx t]
  · blk_ext [iblk, V, idx t]
  · exact whole_at m c t (ix2 (y 0) k) _ (by blk_simp [idx t])
  · blk_ext [iblk, V, idx t]
  · exact Fin.ext (by blk_simp [idx t])

/-- The rows of a point's block. -/
def rows (m : (ℓ : Loc nD τ sig) → Buf (Elt Ideal) ℓ) (c : Dev nD) (t : Fin cfg0.N) (j : S1x1024.Idx) : Fin 1024 → EReal :=
  row (dh m c t) (iblk m c 2 t) (j 1)

theorem rows_at (m : (ℓ : Loc nD τ sig) → Buf (Elt Ideal) ℓ) (c : Dev nD) (t : Fin cfg0.N) (j : S1x1024.Idx)
    (k : Fin 1024) (r : Fin 4096) (hr : r.val = t.val * 1024 + k.val) :
    rows m c t j k = ref_row (m ((c : Thread nD τ).loc main_arg0)) (m ((c : Thread nD τ).loc main_arg1)) (m ((c : Thread nD τ).loc main_arg2)) (j 1) r := by
  unfold rows row ref_row
  rw [mul_comm]
  refine congrArg₂ (· * ·) (congrArg₂ (· * ·) ?_ (Norm.rs_congr fun q => ?_)) (whole_at m c t (ix2 k (j 1)) r hr)
  · blk_ext [iblk, V, idx t, hr]
  · blk_ext [iblk, V, idx t, hr]

theorem dw_first (m : (ℓ : Loc nD τ sig) → Buf (Elt Ideal) ℓ) (c : Dev nD) (t : Fin cfg0.N) (h : t.val % 4 = 0) (j) :
    (outsAt0 m c t.val t.isLt).2 j = k0_pay7 (F := Ideal) (dh m c t) (iblk m c 2 t) (k0_pay2 (F := Ideal)) j := by
  rw [outsAt0_A m c t h]; frame_out; rfl

theorem dw_next (m : (ℓ : Loc nD τ sig) → Buf (Elt Ideal) ℓ) (c : Dev nD) (t : Fin cfg0.N) (h : ¬t.val % 4 = 0) (j) :
    (outsAt0 m c t.val t.isLt).2 j = k0_pay7 (F := Ideal) (dh m c t) (iblk m c 2 t)
      (outsAt0 m c (t.val - 1) (Nat.lt_of_le_of_lt (Nat.sub_le _ _) t.isLt)).2 j := by
  rw [outsAt0_B m c t h]; frame_out; rfl

theorem final_dw (m : (ℓ : Loc nD τ sig) → Buf (Elt Ideal) ℓ) (c : Dev nD) :
    (dats m 0 c).arrAt 6 (cfgs 0).N = Cert.Reference18Ideal.Read.val_main_v22 (F := Ideal)
      (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht := (flush0_6 t).mp hf
  blk_simp
  have hy : ((win0_6.blk t).view.emb y) 1 = y 1 := Fin.ext (by blk_simp [idx t])
  rw [after0_6, ref_dw_at, hy]
  refine Product.run_sum (J := 4) (B := 1024) (K := 4096) (fun n h => (outsAt0 m c n h).2) (rows m c)
    (fun t h j => (dw_first m c t h j).trans ((dw_at _ _ _ j).trans (congrArg (· + _) (zero_dw_at j))))
    (fun t h j => (dw_next m c t h j).trans (dw_at _ _ _ j)) rfl t ht y _ (fun s k hl => ?_)
  have hd : t.val / 4 = 0 := Nat.div_eq_of_lt (Nat.lt_of_lt_of_eq t.isLt N_0)
  exact rows_at m c ⟨4 * (t.val / 4) + s.val, Pipeline.run_point_lt_of_flush t ht s⟩ y k ⟨s.val * 1024 + k.val, hl⟩
    (show s.val * 1024 + k.val = (4 * (t.val / 4) + s.val) * 1024 + k.val by omega)

theorem algebraic : Cert.algebraic_Kernel18Ideal_Reference18Ideal (hKernel18Ideal := Cert.Kernel18Ideal.Gen.facts)
    (hReference18Ideal := Cert.Reference18Ideal.Gen.facts) := by
  pair_intro
  · run_from Cert.Kernel18Ideal.Gen.run_main m g
  · refine θ_run_mono (Cert.Reference18Ideal.Value.run m' g') ?_
    intro r hr c
    refine ⟨(hr c).1.trans ?_, (hr c).2.1.trans ?_, (hr c).2.2⟩
    · rw [Cert.Reference18Ideal.Read.val_main_v39_eq, (hagree c).1, (hagree c).2.1, (hagree c).2.2.1, (hagree c).2.2.2.1, (hagree c).2.2.2.2]
      exact (final_dx m c).symm
    · refine (Cert.Reference18Ideal.Read.val_main_v22_eq _ _ _).trans ?_
      rw [(hagree c).1, (hagree c).2.1, (hagree c).2.2.1]
      exact (final_dw m c).symm

end Cert.MixInDx
-- ==== Proof.Adam.lean ====
/- One step of AdamW on one element: the form that the kernel computes, by the reciprocals of the two bias corrections, is the quotient. -/
import Idealize.ShloMosaic.Lib.Pointwise
import Idealize.ShloMosaic.PureOps.Ideal.Laws
import Idealize.ShloMosaic.PureOps.IdealRules
import Idealize.ShloMosaic.Lib.Pipeline.Value
noncomputable section
open Idealize.ShloMosaic
namespace Cert.Adam

/-- The value of a float literal. -/
abbrev lit (w : BitVec 32) : EReal := Scalar.ofBits (F := Ideal) .f32 w

/-- The new first moment. -/
def mean (g m : EReal) : EReal := lit 0x3F666666#32 * m + lit 0x3DCCCCCD#32 * g

/-- The new second moment. -/
def square (g v : EReal) : EReal := lit 0x3F7FBE77#32 * v + lit 0x3A83126F#32 * (g * g)

/-- The direction of the step, from the two new moments. -/
def hat (m v : EReal) : EReal := Ideal.div (Ideal.div m (lit 0x3F26BD02#32)) (Ideal.sqrt (Ideal.div v (lit 0x3C231ACC#32)) + lit 0x322BCC77#32)

/-- The step of a weight `w`, from the two new moments. -/
def delta (w m v : EReal) : EReal := lit 0xBA83126F#32 * (hat m v + lit 0x3C23D70A#32 * w)

theorem correction1 : lit 0x3F26BD02#32 = ((5463681 / 8388608 : ℝ) : EReal) := by
  simp [lit, Ideal.ofBits, Ideal.ieee]
  norm_num
  rw [← EReal.coe_mul]
  norm_num

theorem correction2 : lit 0x3C231ACC#32 = ((2672307 / 268435456 : ℝ) : EReal) := by
  simp [lit, Ideal.ofBits, Ideal.ieee]
  norm_num
  rw [← EReal.coe_mul]
  norm_num

/-- A product by a constant that is named the reciprocal of a number is the quotient by that number. -/
theorem named {κ : String → Option EReal} {n : String} {b : BitVec 32} {q : ℝ} (h : κ n = some ((q⁻¹ : ℝ) : EReal)) (hq : q ≠ 0) (x : EReal) :
    x * Named.named (F := Ideal) κ n (φ := .f32) b = Ideal.div x (q : EReal) := by
  rw [Ideal.div_coe hq, one_div]
  exact congrArg (x * ·) (IdealRules.named_const.ideal_named_scalar _ _ _ _ h)

/-- What the naming of the two reciprocals preserves. -/
theorem constants {κ : String → Option EReal} (h₁ : κ "bias1" = some (((5463681 / 8388608)⁻¹ : ℝ) : EReal))
    (h₂ : κ "bias2" = some (((2672307 / 268435456)⁻¹ : ℝ) : EReal)) :
    IdealRules.named_const.Statement κ "bias1" .f32 0x3FC48605#32 (((5463681 / 8388608)⁻¹ : ℝ) : EReal) ∧
      IdealRules.named_const.Statement κ "bias2" .f32 0x42C8E6D3#32 (((2672307 / 268435456)⁻¹ : ℝ) : EReal) :=
  ⟨IdealRules.named_const.statement _ _ _ _ _ h₁, IdealRules.named_const.statement _ _ _ _ _ h₂⟩

/-- The direction that the kernel computes. -/
theorem hat_named {κ : String → Option EReal} {b₁ b₂ : BitVec 32} (h₁ : κ "bias1" = some (((5463681 / 8388608)⁻¹ : ℝ) : EReal))
    (h₂ : κ "bias2" = some (((2672307 / 268435456)⁻¹ : ℝ) : EReal)) (m v : EReal) :
    Ideal.div (m * Named.named (F := Ideal) κ "bias1" (φ := .f32) b₁)
      (Ideal.sqrt (v * Named.named (F := Ideal) κ "bias2" (φ := .f32) b₂) + lit 0x322BCC77#32) = hat m v := by
  rw [named h₁ (by norm_num), named h₂ (by norm_num), hat, correction1, correction2]

/-! A block of the kernel is a matrix `t` under a leading axis of one, `s`. -/

variable {s t : Shape} (h : s.ShapeCasts t) (h' : t.ShapeCasts s) (g : FVec Ideal t .f32) (w m v : FVec Ideal s .f32)

/-- The kernel's block of first moments, of the block `g` of the gradient. -/
def meanBlock : FVec Ideal t .f32 :=
  addf (mulf (broadcast t (lit 0x3F666666#32)) (shapeCast t m h)) (mulf (broadcast t (lit 0x3DCCCCCD#32)) g)

/-- The kernel's block of second moments. -/
def squareBlock : FVec Ideal t .f32 :=
  addf (mulf (broadcast t (lit 0x3F7FBE77#32)) (shapeCast t v h)) (mulf (broadcast t (lit 0x3A83126F#32)) (mulf g g))

/-- The kernel's block of steps. -/
def deltaBlock (κ : String → Option EReal) : FVec Ideal t .f32 :=
  mulf (broadcast t (lit 0xBA83126F#32)) (addf
    (divf (mulf (meanBlock h g m) (broadcast t (Named.named (F := Ideal) κ "bias1" (φ := .f32) 0x3FC48605#32)))
      (addf (sqrt (mulf (squareBlock h g v) (broadcast t (Named.named (F := Ideal) κ "bias2" (φ := .f32) 0x42C8E6D3#32))))
        (broadcast t (lit 0x322BCC77#32))))
    (mulf (broadcast t (lit 0x3C23D70A#32)) (shapeCast t w h)))

theorem zeros : (![0, 0, 0] : Fin 3 → ℕ) = fun _ => 0 := by decide

/-! What the blocks hold at an index. -/

theorem mean_at (j : s.Idx) : shapeCast s (meanBlock h g m) h' j = mean (shapeCast s g h' j) (m j) :=
  congrArg (mean _) (congrFun (shapeCast_shapeCast m h h') j)

theorem square_at (j : s.Idx) : shapeCast s (squareBlock h g v) h' j = square (shapeCast s g h' j) (v j) :=
  congrArg (square _) (congrFun (shapeCast_shapeCast v h h') j)

theorem delta_at {κ : String → Option EReal} (h₁ : κ "bias1" = some (((5463681 / 8388608)⁻¹ : ℝ) : EReal))
    (h₂ : κ "bias2" = some (((2672307 / 268435456)⁻¹ : ℝ) : EReal)) (j : s.Idx) :
    shapeCast s (deltaBlock h g w m v κ) h' j = delta (w j) (shapeCast s (meanBlock h g m) h' j) (shapeCast s (squareBlock h g v) h' j) := by
  rw [delta, ← hat_named h₁ h₂]
  exact congrArg (fun x => lit 0xBA83126F#32 * (_ + lit 0x3C23D70A#32 * x)) (congrFun (shapeCast_shapeCast w h h') j)

/-! The reference computes the same over whole arrays, with each constant spread from a scalar. -/

variable {z : Shape} {k : Fin z.rank → Fin s.rank} (hb : z.BroadcastsInDim s k)

/-- A literal that is spread over an array. -/
abbrev spread (c : BitVec 32) : FVec Ideal s .f32 := broadcastInDim s k hb (constant z .f32 c)

/-- The reference's first moments. -/
abbrev meanRef (x : FVec Ideal s .f32) : FVec Ideal s .f32 := addf (mulf (spread hb 0x3F666666#32) m) (mulf (spread hb 0x3DCCCCCD#32) x)

/-- The reference's second moments. -/
abbrev squareRef (x : FVec Ideal s .f32) : FVec Ideal s .f32 := addf (mulf (spread hb 0x3F7FBE77#32) v) (mulf (spread hb 0x3A83126F#32) (mulf x x))

/-- The reference's steps, from the two new moments. -/
abbrev deltaRef (a b : FVec Ideal s .f32) : FVec Ideal s .f32 := mulf (spread hb 0xBA83126F#32) (addf
  (Host.divf (Host.divf a (spread hb 0x3F26BD02#32)) (addf (Host.sqrt (Host.divf b (spread hb 0x3C231ACC#32))) (spread hb 0x322BCC77#32)))
  (mulf (spread hb 0x3C23D70A#32) w))

theorem meanRef_at (x : FVec Ideal s .f32) (j) : meanRef m hb x j = mean (x j) (m j) := rfl

theorem squareRef_at (x : FVec Ideal s .f32) (j) : squareRef v hb x j = square (x j) (v j) := rfl

theorem deltaRef_at (a b : FVec Ideal s .f32) (j) : deltaRef w hb a b j = delta (w j) (a j) (b j) := rfl

/-! A call with one block is the whole arrays' step. -/

variable {x : FVec Ideal s .f32} (e : shapeCast s g h' = x)
include e

theorem mean_eq : shapeCast s (meanBlock h g m) h' = meanRef m hb x := by
  subst e
  exact funext fun j => mean_at h h' g m j

theorem square_eq : shapeCast s (squareBlock h g v) h' = squareRef v hb x := by
  subst e
  exact funext fun j => square_at h h' g v j

omit e in
/-- The steps, from the two new moments. -/
theorem delta_eq {κ : String → Option EReal} (h₁ : κ "bias1" = some (((5463681 / 8388608)⁻¹ : ℝ) : EReal))
    (h₂ : κ "bias2" = some (((2672307 / 268435456)⁻¹ : ℝ) : EReal)) {a b : FVec Ideal s .f32}
    (ha : shapeCast s (meanBlock h g m) h' = a) (hv : shapeCast s (squareBlock h g v) h' = b) :
    shapeCast s (deltaBlock h g w m v κ) h' = deltaRef w hb a b := by
  subst ha hv
  exact funext fun j => delta_at h h' g w m v h₁ h₂ j

end Cert.Adam
-- ==== Proof.Adam.SsmWIn.lean ====
/- The AdamW step of the first projection of the state-space layer. -/
import proofs.«01_k».proof.Defs
import proofs.«01_k».proof.Proof.Adam
import proofs.«01_k».proof.Proof.Gen.Kernel19Ideal.Value
import proofs.«01_k».proof.Proof.Gen.Reference19Ideal.Run
import proofs.«01_k».proof.Proof.Gen.Reference19Ideal.Read
import Idealize.ShloMosaic.Lib.Claim
set_option maxRecDepth 16384
noncomputable section
open Idealize.ShloMosaic Idealize.ShloMosaic.TcCoe Idealize.SL.Sem
open Cert.Kernel19Ideal Cert.Kernel19Ideal.Gen Cert.Kernel19Ideal.Value Cert.Reference19Ideal.Read
namespace Cert.Adam.SsmWIn

variable (g : FVec Ideal S8x772x1024 .bf16) (w m v : FVec Ideal S1x772x1024 .f32)

theorem grad : G4 (F := Ideal) g w m v = val_main_v2 (F := Ideal) g := by
  funext j
  idx_vars j
  pointwise [k0_pay5, k0_pay10, k0_pay2, val_main_v2, val_main_v1, val_main_v0, val_main_cst, Fin.sum_univ_eight]

theorem means : G6 (F := Ideal) g w m v = val_main_v7 (F := Ideal) g m :=
  mean_eq shapeCasts_S1x772x1024_S772x1024 shapeCasts_S772x1024_S1x772x1024 _ _ Cert.Reference19Ideal.Gen.facts.bcast_S_S1x772x1024 (grad g w m v)

theorem squares : G7 (F := Ideal) g w m v = val_main_v13 (F := Ideal) g v :=
  square_eq shapeCasts_S1x772x1024_S772x1024 shapeCasts_S772x1024_S1x772x1024 _ _ Cert.Reference19Ideal.Gen.facts.bcast_S_S1x772x1024 (grad g w m v)

theorem deltas : G5 (F := Ideal) g w m v = val_main_v26 (F := Ideal) g w m v :=
  delta_eq shapeCasts_S1x772x1024_S772x1024 shapeCasts_S772x1024_S1x772x1024 _ _ _ _ Cert.Reference19Ideal.Gen.facts.bcast_S_S1x772x1024 (κ := κ) rfl rfl (means g w m v) (squares g w m v)

theorem algebraic : Cert.algebraic_Kernel19Ideal_Reference19Ideal (hKernel19Ideal := Cert.Kernel19Ideal.Gen.facts)
    (hReference19Ideal := Cert.Reference19Ideal.Gen.facts) := by
  pair_intro
  · run_from Cert.Kernel19Ideal.Value.run m g
  · refine θ_run_mono (Cert.Reference19Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v2_eq _).trans (by rw [h₀]; exact (grad _ _ _ _).symm)
    · exact (val_main_v26_eq _ _ _ _).trans (by rw [h₀, h₁, h₂, h₃]; exact (deltas _ _ _ _).symm)
    · exact (val_main_v7_eq _ _).trans (by rw [h₀, h₂]; exact (means _ _ _ _).symm)
    · exact (val_main_v13_eq _ _).trans (by rw [h₀, h₃]; exact (squares _ _ _ _).symm)

end Cert.Adam.SsmWIn
-- ==== Proof.Adam.SsmWOut.lean ====
/- The AdamW step of the second projection of the state-space layer. -/
import proofs.«01_k».proof.Defs
import proofs.«01_k».proof.Proof.Adam
import proofs.«01_k».proof.Proof.Gen.Kernel20Ideal.Value
import proofs.«01_k».proof.Proof.Gen.Reference20Ideal.Run
import proofs.«01_k».proof.Proof.Gen.Reference20Ideal.Read
import Idealize.ShloMosaic.Lib.Claim
set_option maxRecDepth 16384
noncomputable section
open Idealize.ShloMosaic Idealize.ShloMosaic.TcCoe Idealize.SL.Sem
open Cert.Kernel20Ideal Cert.Kernel20Ideal.Gen Cert.Kernel20Ideal.Value Cert.Reference20Ideal.Read
namespace Cert.Adam.SsmWOut

variable (g : FVec Ideal S8x256x1024 .bf16) (w m v : FVec Ideal S1x256x1024 .f32)

theorem grad : G4 (F := Ideal) g w m v = val_main_v2 (F := Ideal) g := by
  funext j
  idx_vars j
  pointwise [k0_pay5, k0_pay10, k0_pay2, val_main_v2, val_main_v1, val_main_v0, val_main_cst, Fin.sum_univ_eight]

theorem means : G6 (F := Ideal) g w m v = val_main_v7 (F := Ideal) g m :=
  mean_eq shapeCasts_S1x256x1024_S256x1024 shapeCasts_S256x1024_S1x256x1024 _ _ Cert.Reference20Ideal.Gen.facts.bcast_S_S1x256x1024 (grad g w m v)

theorem squares : G7 (F := Ideal) g w m v = val_main_v13 (F := Ideal) g v :=
  square_eq shapeCasts_S1x256x1024_S256x1024 shapeCasts_S256x1024_S1x256x1024 _ _ Cert.Reference20Ideal.Gen.facts.bcast_S_S1x256x1024 (grad g w m v)

theorem deltas : G5 (F := Ideal) g w m v = val_main_v26 (F := Ideal) g w m v :=
  delta_eq shapeCasts_S1x256x1024_S256x1024 shapeCasts_S256x1024_S1x256x1024 _ _ _ _ Cert.Reference20Ideal.Gen.facts.bcast_S_S1x256x1024 (κ := κ) rfl rfl (means g w m v) (squares g w m v)

theorem algebraic : Cert.algebraic_Kernel20Ideal_Reference20Ideal (hKernel20Ideal := Cert.Kernel20Ideal.Gen.facts)
    (hReference20Ideal := Cert.Reference20Ideal.Gen.facts) := by
  pair_intro
  · run_from Cert.Kernel20Ideal.Value.run m g
  · refine θ_run_mono (Cert.Reference20Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v2_eq _).trans (by rw [h₀]; exact (grad _ _ _ _).symm)
    · exact (val_main_v26_eq _ _ _ _).trans (by rw [h₀, h₁, h₂, h₃]; exact (deltas _ _ _ _).symm)
    · exact (val_main_v7_eq _ _).trans (by rw [h₀, h₂]; exact (means _ _ _ _).symm)
    · exact (val_main_v13_eq _ _).trans (by rw [h₀, h₃]; exact (squares _ _ _ _).symm)

end Cert.Adam.SsmWOut
-- ==== Proof.Adam.MixWIn.lean ====
/- The AdamW step of the first projection of the mixing layer. -/
import proofs.«01_k».proof.Defs
import proofs.«01_k».proof.Proof.Adam
import proofs.«01_k».proof.Proof.Gen.Kernel21Ideal.Value
import proofs.«01_k».proof.Proof.Gen.Reference21Ideal.Run
import proofs.«01_k».proof.Proof.Gen.Reference21Ideal.Read
import Idealize.ShloMosaic.Lib.Claim
set_option maxRecDepth 16384
noncomputable section
open Idealize.ShloMosaic Idealize.ShloMosaic.TcCoe Idealize.SL.Sem
open Cert.Kernel21Ideal Cert.Kernel21Ideal.Gen Cert.Kernel21Ideal.Value Cert.Reference21Ideal.Read
namespace Cert.Adam.MixWIn

variable (g : FVec Ideal S8x160x1024 .bf16) (w m v : FVec Ideal S1x160x1024 .f32)

theorem grad : G4 (F := Ideal) g w m v = val_main_v2 (F := Ideal) g := by
  funext j
  idx_vars j
  pointwise [k0_pay5, k0_pay10, k0_pay2, val_main_v2, val_main_v1, val_main_v0, val_main_cst, Fin.sum_univ_eight]

theorem means : G6 (F := Ideal) g w m v = val_main_v7 (F := Ideal) g m :=
  mean_eq shapeCasts_S1x160x1024_S160x1024 shapeCasts_S160x1024_S1x160x1024 _ _ Cert.Reference21Ideal.Gen.facts.bcast_S_S1x160x1024 (grad g w m v)

theorem squares : G7 (F := Ideal) g w m v = val_main_v13 (F := Ideal) g v :=
  square_eq shapeCasts_S1x160x1024_S160x1024 shapeCasts_S160x1024_S1x160x1024 _ _ Cert.Reference21Ideal.Gen.facts.bcast_S_S1x160x1024 (grad g w m v)

theorem deltas : G5 (F := Ideal) g w m v = val_main_v26 (F := Ideal) g w m v :=
  delta_eq shapeCasts_S1x160x1024_S160x1024 shapeCasts_S160x1024_S1x160x1024 _ _ _ _ Cert.Reference21Ideal.Gen.facts.bcast_S_S1x160x1024 (κ := κ) rfl rfl (means g w m v) (squares g w m v)

theorem algebraic : Cert.algebraic_Kernel21Ideal_Reference21Ideal (hKernel21Ideal := Cert.Kernel21Ideal.Gen.facts)
    (hReference21Ideal := Cert.Reference21Ideal.Gen.facts) := by
  pair_intro
  · run_from Cert.Kernel21Ideal.Value.run m g
  · refine θ_run_mono (Cert.Reference21Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v2_eq _).trans (by rw [h₀]; exact (grad _ _ _ _).symm)
    · exact (val_main_v26_eq _ _ _ _).trans (by rw [h₀, h₁, h₂, h₃]; exact (deltas _ _ _ _).symm)
    · exact (val_main_v7_eq _ _).trans (by rw [h₀, h₂]; exact (means _ _ _ _).symm)
    · exact (val_main_v13_eq _ _).trans (by rw [h₀, h₃]; exact (squares _ _ _ _).symm)

end Cert.Adam.MixWIn
-- ==== Proof.Adam.MixWOut.lean ====
/- The AdamW step of the second projection of the mixing layer. -/
import proofs.«01_k».proof.Defs
import proofs.«01_k».proof.Proof.Adam
import proofs.«01_k».proof.Proof.Gen.Kernel22Ideal.Value
import proofs.«01_k».proof.Proof.Gen.Reference22Ideal.Run
import proofs.«01_k».proof.Proof.Gen.Reference22Ideal.Read
import Idealize.ShloMosaic.Lib.Claim
set_option maxRecDepth 16384
noncomputable section
open Idealize.ShloMosaic Idealize.ShloMosaic.TcCoe Idealize.SL.Sem
open Cert.Kernel22Ideal Cert.Kernel22Ideal.Gen Cert.Kernel22Ideal.Value Cert.Reference22Ideal.Read
namespace Cert.Adam.MixWOut

variable (g : FVec Ideal S8x128x1024 .bf16) (w m v : FVec Ideal S1x128x1024 .f32)

theorem grad : G4 (F := Ideal) g w m v = val_main_v2 (F := Ideal) g := by
  funext j
  idx_vars j
  pointwise [k0_pay5, k0_pay10, k0_pay2, val_main_v2, val_main_v1, val_main_v0, val_main_cst, Fin.sum_univ_eight]

theorem means : G6 (F := Ideal) g w m v = val_main_v7 (F := Ideal) g m :=
  mean_eq shapeCasts_S1x128x1024_S128x1024 shapeCasts_S128x1024_S1x128x1024 _ _ Cert.Reference22Ideal.Gen.facts.bcast_S_S1x128x1024 (grad g w m v)

theorem squares : G7 (F := Ideal) g w m v = val_main_v13 (F := Ideal) g v :=
  square_eq shapeCasts_S1x128x1024_S128x1024 shapeCasts_S128x1024_S1x128x1024 _ _ Cert.Reference22Ideal.Gen.facts.bcast_S_S1x128x1024 (grad g w m v)

theorem deltas : G5 (F := Ideal) g w m v = val_main_v26 (F := Ideal) g w m v :=
  delta_eq shapeCasts_S1x128x1024_S128x1024 shapeCasts_S128x1024_S1x128x1024 _ _ _ _ Cert.Reference22Ideal.Gen.facts.bcast_S_S1x128x1024 (κ := κ) rfl rfl (means g w m v) (squares g w m v)

theorem algebraic : Cert.algebraic_Kernel22Ideal_Reference22Ideal (hKernel22Ideal := Cert.Kernel22Ideal.Gen.facts)
    (hReference22Ideal := Cert.Reference22Ideal.Gen.facts) := by
  pair_intro
  · run_from Cert.Kernel22Ideal.Value.run m g
  · refine θ_run_mono (Cert.Reference22Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v2_eq _).trans (by rw [h₀]; exact (grad _ _ _ _).symm)
    · exact (val_main_v26_eq _ _ _ _).trans (by rw [h₀, h₁, h₂, h₃]; exact (deltas _ _ _ _).symm)
    · exact (val_main_v7_eq _ _).trans (by rw [h₀, h₂]; exact (means _ _ _ _).symm)
    · exact (val_main_v13_eq _ _).trans (by rw [h₀, h₃]; exact (squares _ _ _ _).symm)

end Cert.Adam.MixWOut
-- ==== Proof.Adam.PoolW.lean ====
/- The AdamW step of the weights of the pooling: two blocks of rows. -/
import proofs.«01_k».proof.Defs
import proofs.«01_k».proof.Proof.Adam
import proofs.«01_k».proof.Proof.Product
import proofs.«01_k».proof.Proof.Gen.Kernel23Ideal.Value
import proofs.«01_k».proof.Proof.Gen.Reference23Ideal.Run
import proofs.«01_k».proof.Proof.Gen.Reference23Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel23Ideal Cert.Kernel23Ideal.Gen Cert.Reference23Ideal.Read
namespace Cert.Adam.PoolW

theorem grad_at (g : FVec Ideal S8x256x128 .f32) (w m v : FVec Ideal S1x256x128 .f32) (y) :
    k0_pay7 (F := Ideal) (k0_pay11 (F := Ideal) g w m v) y = ∑ d : Fin 8, g (ix3 d (y 1) (y 2)) := by
  idx_vars y
  pointwise [k0_pay7, k0_pay11, k0_pay2, Fin.sum_univ_eight]

theorem ref_at (g : FVec Ideal S8x512x128 .f32) (j) :
    val_main_v1 (F := Ideal) g j = ∑ d : Fin 8, g (ix3 d (j 1) (j 2)) := by
  pointwise [val_main_v1, val_main_v0, val_main_cst]

theorem idx : ∀ t : Fin cfg0.N, win0_0.index t = ![0, t.val, 0] ∧ win0_1.index t = ![0, t.val, 0] ∧
    win0_2.index t = ![0, t.val, 0] ∧ win0_3.index t = ![0, t.val, 0] ∧ win0_4.index t = ![0, t.val, 0] ∧
    win0_5.index t = ![0, t.val, 0] ∧ win0_6.index t = ![0, t.val, 0] ∧ win0_7.index t = ![0, t.val, 0] :=
  (by decide +kernel : ∀ t : Fin grid0.N, _)

/-- The kernel reads the whole block of first moments. -/
theorem moment (g : FVec Ideal S8x256x128 .f32) (w m v : FVec Ideal S1x256x128 .f32) :
    k0_pay12 (F := Ideal) g w m v = k0_pay3 (F := Ideal) m :=
  congrArg (k0_pay3 (F := Ideal)) (View.ld_unit_zero (Val := Elt Ideal) (S := S1x256x128) (e := .f32) zeros inb_S1x256x128_S1x256x128_0_0_0 m)

variable (m : (ℓ : Loc nD τ sig) → Buf (Elt Ideal) ℓ) (c : Dev nD) (t : Fin cfg0.N) (y : S1x256x128.Idx)

/-- Where a block's index lies in the arrays. -/
abbrev spot : S1x512x128.Idx := ((View.whole main_v0_0).slice (win0_4.rect t)).emb y

theorem slabs : k0_pay7 (F := Ideal) (k0_pay11 (F := Ideal) (iblk m c 0 t) (iblk m c 1 t) (iblk m c 2 t) (iblk m c 3 t)) y =
    val_main_v1 (F := Ideal) (m ((c : Thread nD τ).loc main_arg0)) (spot t y) := by
  rw [grad_at, ref_at]
  refine Product.sum_eq fun d => ?_
  blk_point [iblk, V, idx t, spot]

theorem mean_point : k0_pay8 (F := Ideal) (k0_pay12 (F := Ideal) (iblk m c 0 t) (iblk m c 1 t) (iblk m c 2 t) (iblk m c 3 t))
      (k0_pay13 (F := Ideal) (iblk m c 0 t) (iblk m c 1 t) (iblk m c 2 t) (iblk m c 3 t)) y =
    val_main_v6 (F := Ideal) (m ((c : Thread nD τ).loc main_arg0)) (m ((c : Thread nD τ).loc main_arg2)) (spot t y) := by
  rw [moment]
  refine (mean_at shapeCasts_S1x256x128_S256x128 shapeCasts_S256x128_S1x256x128 (k0_pay11 (F := Ideal) (iblk m c 0 t) (iblk m c 1 t) (iblk m c 2 t) (iblk m c 3 t)) (iblk m c 2 t) y).trans ?_
  refine Eq.trans ?_ (meanRef_at _ Cert.Reference23Ideal.Gen.facts.bcast_S_S1x512x128 _ (spot t y)).symm
  refine congrArg₂ mean (slabs m c t y) ?_
  blk_point [iblk, V, idx t, spot]

theorem square_point : k0_pay9 (F := Ideal) (k0_pay11 (F := Ideal) (iblk m c 0 t) (iblk m c 1 t) (iblk m c 2 t) (iblk m c 3 t)) (iblk m c 3 t) y =
    val_main_v12 (F := Ideal) (m ((c : Thread nD τ).loc main_arg0)) (m ((c : Thread nD τ).loc main_arg3)) (spot t y) := by
  refine (square_at shapeCasts_S1x256x128_S256x128 shapeCasts_S256x128_S1x256x128 _ (iblk m c 3 t) y).trans ?_
  refine Eq.trans ?_ (squareRef_at _ Cert.Reference23Ideal.Gen.facts.bcast_S_S1x512x128 _ (spot t y)).symm
  refine congrArg₂ square (slabs m c t y) ?_
  blk_point [iblk, V, idx t, spot]

theorem grads : (dats m 0 c).arrAt 4 (cfgs 0).N = val_main_v1 (F := Ideal) (m ((c : Thread nD τ).loc main_arg0)) := by
  refine (dats m 0 c).arrAt_eq_of_covers 4 _ (by decide +kernel) fun t hf y => ?_
  blk_simp
  rw [after0_4]; unfold out0_4; frame_out
  exact slabs m c t y

theorem means : (dats m 0 c).arrAt 6 (cfgs 0).N =
    val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]; unfold out0_6; frame_out
  exact mean_point m c t y

theorem squares : (dats m 0 c).arrAt 7 (cfgs 0).N =
    val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]; unfold out0_7; frame_out
  exact square_point m c t y

theorem deltas : (dats m 0 c).arrAt 5 (cfgs 0).N = val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold out0_5; frame_out
  have e := (mean_point m c t y)
  rw [moment] at e ⊢
  refine (delta_at shapeCasts_S1x256x128_S256x128 shapeCasts_S256x128_S1x256x128 (k0_pay11 (F := Ideal) (iblk m c 0 t) (iblk m c 1 t) (iblk m c 2 t) (iblk m c 3 t))
    (iblk m c 1 t) (iblk m c 2 t) (iblk m c 3 t) (κ := κ) rfl rfl y).trans ?_
  refine Eq.trans ?_ (deltaRef_at _ Cert.Reference23Ideal.Gen.facts.bcast_S_S1x512x128 _ _ (spot t y)).symm
  refine (congrArg₂ (delta _) e (square_point m c t y)).trans (congrArg (fun x => delta x _ _) ?_)
  blk_point [iblk, V, idx t, spot]

theorem algebraic : Cert.algebraic_Kernel23Ideal_Reference23Ideal (hKernel23Ideal := Cert.Kernel23Ideal.Gen.facts)
    (hReference23Ideal := Cert.Reference23Ideal.Gen.facts) := by
  pair_intro
  · run_from Cert.Kernel23Ideal.Value.run_blocks m g
  · refine θ_run_mono (Cert.Reference23Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grads m c).symm)
    · exact (val_main_v25_eq _ _ _ _).trans (by rw [h₀, h₁, h₂, h₃]; exact (deltas m c).symm)
    · exact (val_main_v6_eq _ _).trans (by rw [h₀, h₂]; exact (means m c).symm)
    · exact (val_main_v12_eq _ _).trans (by rw [h₀, h₃]; exact (squares m c).symm)

end Cert.Adam.PoolW
-- ==== Proof.Adam.SsmConvW.lean ====
/- The AdamW step of the weights of the convolution of the state-space layer. -/
import proofs.«01_k».proof.Defs
import proofs.«01_k».proof.Proof.Adam
import proofs.«01_k».proof.Proof.Gen.Kernel24Ideal.Value
import proofs.«01_k».proof.Proof.Gen.Reference24Ideal.Run
import proofs.«01_k».proof.Proof.Gen.Reference24Ideal.Read
import Idealize.ShloMosaic.Lib.Claim
set_option maxRecDepth 16384
noncomputable section
open Idealize.ShloMosaic Idealize.ShloMosaic.TcCoe Idealize.SL.Sem
open Cert.Kernel24Ideal Cert.Kernel24Ideal.Gen Cert.Kernel24Ideal.Value Cert.Reference24Ideal.Read
namespace Cert.Adam.SsmConvW

variable (g : FVec Ideal S8x4x512 .f32) (w m v : FVec Ideal S1x4x512 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x4x512) (e := .f32) hz3 inb_S1x4x512_S1x4x512_0_0_0 m)

theorem means : G6 (F := Ideal) g w m v = val_main_v6 (F := Ideal) g m :=
  (congrArg (fun x => k0_pay8 (F := Ideal) x (k0_pay13 g w m v)) (moment g w m v)).trans <| mean_eq shapeCasts_S1x4x512_S4x512 shapeCasts_S4x512_S1x4x512 (k0_pay11 (F := Ideal) g w m v) _ Cert.Reference24Ideal.Gen.facts.bcast_S_S1x4x512 (grad g w m v)

theorem squares : G7 (F := Ideal) g w m v = val_main_v12 (F := Ideal) g v :=
  square_eq shapeCasts_S1x4x512_S4x512 shapeCasts_S4x512_S1x4x512 _ _ Cert.Reference24Ideal.Gen.facts.bcast_S_S1x4x512 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x4x512_S4x512 shapeCasts_S4x512_S1x4x512 (k0_pay11 (F := Ideal) g w m v) _ _ _ Cert.Reference24Ideal.Gen.facts.bcast_S_S1x4x512 (κ := κ) rfl rfl ((congrArg (fun x => k0_pay8 (F := Ideal) x (k0_pay13 g w m v)) (moment g w m v)).symm.trans (means g w m v)) (squares g w m v)

theorem algebraic : Cert.algebraic_Kernel24Ideal_Reference24Ideal (hKernel24Ideal := Cert.Kernel24Ideal.Gen.facts)
    (hReference24Ideal := Cert.Reference24Ideal.Gen.facts) := by
  pair_intro
  · run_from Cert.Kernel24Ideal.Value.run m g
  · refine θ_run_mono (Cert.Reference24Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.SsmConvW
-- ==== Proof.Adam.SsmConvB.lean ====
/- The AdamW step of the bias of the convolution of the state-space layer, and of the scales of the pooling. -/
import proofs.«01_k».proof.Defs
import proofs.«01_k».proof.Proof.Adam
import proofs.«01_k».proof.Proof.Gen.Kernel25Ideal.Value
import proofs.«01_k».proof.Proof.Gen.Reference25Ideal.Run
import proofs.«01_k».proof.Proof.Gen.Reference25Ideal.Read
import Idealize.ShloMosaic.Lib.Claim
set_option maxRecDepth 16384
noncomputable section
open Idealize.ShloMosaic Idealize.ShloMosaic.TcCoe Idealize.SL.Sem
open Cert.Kernel25Ideal Cert.Kernel25Ideal.Gen Cert.Kernel25Ideal.Value Cert.Reference25Ideal.Read
namespace Cert.Adam.SsmConvB

variable (g : FVec Ideal S8x1x512 .f32) (w m v : FVec Ideal S1x1x512 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x1x512) (e := .f32) hz3 inb_S1x1x512_S1x1x512_0_0_0 m)

theorem means : G6 (F := Ideal) g w m v = val_main_v6 (F := Ideal) g m :=
  (congrArg (fun x => k0_pay8 (F := Ideal) x (k0_pay13 g w m v)) (moment g w m v)).trans <| mean_eq shapeCasts_S1x1x512_S1x512 shapeCasts_S1x512_S1x1x512 (k0_pay11 (F := Ideal) g w m v) _ Cert.Reference25Ideal.Gen.facts.bcast_S_S1x1x512 (grad g w m v)

theorem squares : G7 (F := Ideal) g w m v = val_main_v12 (F := Ideal) g v :=
  square_eq shapeCasts_S1x1x512_S1x512 shapeCasts_S1x512_S1x1x512 _ _ Cert.Reference25Ideal.Gen.facts.bcast_S_S1x1x512 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x1x512_S1x512 shapeCasts_S1x512_S1x1x512 (k0_pay11 (F := Ideal) g w m v) _ _ _ Cert.Reference25Ideal.Gen.facts.bcast_S_S1x1x512 (κ := κ) rfl rfl ((congrArg (fun x => k0_pay8 (F := Ideal) x (k0_pay13 g w m v)) (moment g w m v)).symm.trans (means g w m v)) (squares g w m v)

theorem algebraic : Cert.algebraic_Kernel25Ideal_Reference25Ideal (hKernel25Ideal := Cert.Kernel25Ideal.Gen.facts)
    (hReference25Ideal := Cert.Reference25Ideal.Gen.facts) := by
  pair_intro
  · run_from Cert.Kernel25Ideal.Value.run m g
  · refine θ_run_mono (Cert.Reference25Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.SsmConvB
-- ==== Proof.Adam.SsmNorm.lean ====
/- The AdamW step of the weights of the norm of the state-space layer. -/
import proofs.«01_k».proof.Defs
import proofs.«01_k».proof.Proof.Adam
import proofs.«01_k».proof.Proof.Gen.Kernel26Ideal.Value
import proofs.«01_k».proof.Proof.Gen.Reference26Ideal.Run
import proofs.«01_k».proof.Proof.Gen.Reference26Ideal.Read
import Idealize.ShloMosaic.Lib.Claim
set_option maxRecDepth 16384
noncomputable section
open Idealize.ShloMosaic Idealize.ShloMosaic.TcCoe Idealize.SL.Sem
open Cert.Kernel26Ideal Cert.Kernel26Ideal.Gen Cert.Kernel26Ideal.Value Cert.Reference26Ideal.Read
namespace Cert.Adam.SsmNorm

variable (g : FVec Ideal S8x1x256 .f32) (w m v : FVec Ideal S1x1x256 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x1x256) (e := .f32) hz3 inb_S1x1x256_S1x1x256_0_0_0 m)

theorem means : G6 (F := Ideal) g w m v = val_main_v6 (F := Ideal) g m :=
  (congrArg (fun x => k0_pay8 (F := Ideal) x (k0_pay13 g w m v)) (moment g w m v)).trans <| mean_eq shapeCasts_S1x1x256_S1x256 shapeCasts_S1x256_S1x1x256 (k0_pay11 (F := Ideal) g w m v) _ Cert.Reference26Ideal.Gen.facts.bcast_S_S1x1x256 (grad g w m v)

theorem squares : G7 (F := Ideal) g w m v = val_main_v12 (F := Ideal) g v :=
  square_eq shapeCasts_S1x1x256_S1x256 shapeCasts_S1x256_S1x1x256 _ _ Cert.Reference26Ideal.Gen.facts.bcast_S_S1x1x256 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x1x256_S1x256 shapeCasts_S1x256_S1x1x256 (k0_pay11 (F := Ideal) g w m v) _ _ _ Cert.Reference26Ideal.Gen.facts.bcast_S_S1x1x256 (κ := κ) rfl rfl ((congrArg (fun x => k0_pay8 (F := Ideal) x (k0_pay13 g w m v)) (moment g w m v)).symm.trans (means g w m v)) (squares g w m v)

theorem algebraic : Cert.algebraic_Kernel26Ideal_Reference26Ideal (hKernel26Ideal := Cert.Kernel26Ideal.Gen.facts)
    (hReference26Ideal := Cert.Reference26Ideal.Gen.facts) := by
  pair_intro
  · run_from Cert.Kernel26Ideal.Value.run m g
  · refine θ_run_mono (Cert.Reference26Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.SsmNorm
-- ==== Proof.Adam.Norms.lean ====
/- The AdamW step of the weights of the norms before the mixers, and of those before the feed-forward layers. -/
import proofs.«01_k».proof.Defs
import proofs.«01_k».proof.Proof.Adam
import proofs.«01_k».proof.Proof.Gen.Kernel27Ideal.Value
import proofs.«01_k».proof.Proof.Gen.Reference27Ideal.Run
import proofs.«01_k».proof.Proof.Gen.Reference27Ideal.Read
import Idealize.ShloMosaic.Lib.Claim
set_option maxRecDepth 16384
noncomputable section
open Idealize.ShloMosaic Idealize.ShloMosaic.TcCoe Idealize.SL.Sem
open Cert.Kernel27Ideal Cert.Kernel27Ideal.Gen Cert.Kernel27Ideal.Value Cert.Reference27Ideal.Read
namespace Cert.Adam.Norms

variable (g : FVec Ideal S8x2x1024 .f32) (w m v : FVec Ideal S1x2x1024 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x2x1024) (e := .f32) hz3 inb_S1x2x1024_S1x2x1024_0_0_0 m)

theorem means : G6 (F := Ideal) g w m v = val_main_v6 (F := Ideal) g m :=
  (congrArg (fun x => k0_pay8 (F := Ideal) x (k0_pay13 g w m v)) (moment g w m v)).trans <| mean_eq shapeCasts_S1x2x1024_S2x1024 shapeCasts_S2x1024_S1x2x1024 (k0_pay11 (F := Ideal) g w m v) _ Cert.Reference27Ideal.Gen.facts.bcast_S_S1x2x1024 (grad g w m v)

theorem squares : G7 (F := Ideal) g w m v = val_main_v12 (F := Ideal) g v :=
  square_eq shapeCasts_S1x2x1024_S2x1024 shapeCasts_S2x1024_S1x2x1024 _ _ Cert.Reference27Ideal.Gen.facts.bcast_S_S1x2x1024 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x2x1024_S2x1024 shapeCasts_S2x1024_S1x2x1024 (k0_pay11 (F := Ideal) g w m v) _ _ _ Cert.Reference27Ideal.Gen.facts.bcast_S_S1x2x1024 (κ := κ) rfl rfl ((congrArg (fun x => k0_pay8 (F := Ideal) x (k0_pay13 g w m v)) (moment g w m v)).symm.trans (means g w m v)) (squares g w m v)

theorem algebraic : Cert.algebraic_Kernel27Ideal_Reference27Ideal (hKernel27Ideal := Cert.Kernel27Ideal.Gen.facts)
    (hReference27Ideal := Cert.Reference27Ideal.Gen.facts) := by
  pair_intro
  · run_from Cert.Kernel27Ideal.Value.run m g
  · refine θ_run_mono (Cert.Reference27Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.Norms
-- ==== Proof.Adam.NormFinal.lean ====
/- The AdamW step of the weights of the last norm. -/
import proofs.«01_k».proof.Defs
import proofs.«01_k».proof.Proof.Adam
import proofs.«01_k».proof.Proof.Gen.Kernel28Ideal.Value
import proofs.«01_k».proof.Proof.Gen.Reference28Ideal.Run
import proofs.«01_k».proof.Proof.Gen.Reference28Ideal.Read
import Idealize.ShloMosaic.Lib.Claim
set_option maxRecDepth 16384
noncomputable section
open Idealize.ShloMosaic Idealize.ShloMosaic.TcCoe Idealize.SL.Sem
open Cert.Kernel28Ideal Cert.Kernel28Ideal.Gen Cert.Kernel28Ideal.Value Cert.Reference28Ideal.Read
namespace Cert.Adam.NormFinal

variable (g : FVec Ideal S8x1x1024 .f32) (w m v : FVec Ideal S1x1x1024 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x1x1024) (e := .f32) hz3 inb_S1x1x1024_S1x1x1024_0_0_0 m)

theorem means : G6 (F := Ideal) g w m v = val_main_v6 (F := Ideal) g m :=
  (congrArg (fun x => k0_pay8 (F := Ideal) x (k0_pay13 g w m v)) (moment g w m v)).trans <| mean_eq shapeCasts_S1x1x1024_S1x1024 shapeCasts_S1x1024_S1x1x1024 (k0_pay11 (F := Ideal) g w m v) _ Cert.Reference28Ideal.Gen.facts.bcast_S_S1x1x1024 (grad g w m v)

theorem squares : G7 (F := Ideal) g w m v = val_main_v12 (F := Ideal) g v :=
  square_eq shapeCasts_S1x1x1024_S1x1024 shapeCasts_S1x1024_S1x1x1024 _ _ Cert.Reference28Ideal.Gen.facts.bcast_S_S1x1x1024 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x1x1024_S1x1024 shapeCasts_S1x1024_S1x1x1024 (k0_pay11 (F := Ideal) g w m v) _ _ _ Cert.Reference28Ideal.Gen.facts.bcast_S_S1x1x1024 (κ := κ) rfl rfl ((congrArg (fun x => k0_pay8 (F := Ideal) x (k0_pay13 g w m v)) (moment g w m v)).symm.trans (means g w m v)) (squares g w m v)

theorem algebraic : Cert.algebraic_Kernel28Ideal_Reference28Ideal (hKernel28Ideal := Cert.Kernel28Ideal.Gen.facts)
    (hReference28Ideal := Cert.Reference28Ideal.Gen.facts) := by
  pair_intro
  · run_from Cert.Kernel28Ideal.Value.run m g
  · refine θ_run_mono (Cert.Reference28Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.NormFinal
-- ==== Proof.Adam.FfnConvW.lean ====
/- The AdamW step of the weights of the convolutions of the feed-forward layers. -/
import proofs.«01_k».proof.Defs
import proofs.«01_k».proof.Proof.Adam
import proofs.«01_k».proof.Proof.Gen.Kernel29Ideal.Value
import proofs.«01_k».proof.Proof.Gen.Reference29Ideal.Run
import proofs.«01_k».proof.Proof.Gen.Reference29Ideal.Read
import Idealize.ShloMosaic.Lib.Claim
set_option maxRecDepth 16384
noncomputable section
open Idealize.ShloMosaic Idealize.ShloMosaic.TcCoe Idealize.SL.Sem
open Cert.Kernel29Ideal Cert.Kernel29Ideal.Gen Cert.Kernel29Ideal.Value Cert.Reference29Ideal.Read
namespace Cert.Adam.FfnConvW

variable (g : FVec Ideal S8x6x704 .f32) (w m v : FVec Ideal S1x6x704 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x6x704) (e := .f32) hz3 inb_S1x6x704_S1x6x704_0_0_0 m)

theorem means : G6 (F := Ideal) g w m v = val_main_v6 (F := Ideal) g m :=
  (congrArg (fun x => k0_pay8 (F := Ideal) x (k0_pay13 g w m v)) (moment g w m v)).trans <| mean_eq shapeCasts_S1x6x704_S6x704 shapeCasts_S6x704_S1x6x704 (k0_pay11 (F := Ideal) g w m v) _ Cert.Reference29Ideal.Gen.facts.bcast_S_S1x6x704 (grad g w m v)

theorem squares : G7 (F := Ideal) g w m v = val_main_v12 (F := Ideal) g v :=
  square_eq shapeCasts_S1x6x704_S6x704 shapeCasts_S6x704_S1x6x704 _ _ Cert.Reference29Ideal.Gen.facts.bcast_S_S1x6x704 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x6x704_S6x704 shapeCasts_S6x704_S1x6x704 (k0_pay11 (F := Ideal) g w m v) _ _ _ Cert.Reference29Ideal.Gen.facts.bcast_S_S1x6x704 (κ := κ) rfl rfl ((congrArg (fun x => k0_pay8 (F := Ideal) x (k0_pay13 g w m v)) (moment g w m v)).symm.trans (means g w m v)) (squares g w m v)

theorem algebraic : Cert.algebraic_Kernel29Ideal_Reference29Ideal (hKernel29Ideal := Cert.Kernel29Ideal.Gen.facts)
    (hReference29Ideal := Cert.Reference29Ideal.Gen.facts) := by
  pair_intro
  · run_from Cert.Kernel29Ideal.Value.run m g
  · refine θ_run_mono (Cert.Reference29Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.FfnConvW
-- ==== Proof.Adam.FfnConvB.lean ====
/- The AdamW step of the biases of the convolutions of the feed-forward layers. -/
import proofs.«01_k».proof.Defs
import proofs.«01_k».proof.Proof.Adam
import proofs.«01_k».proof.Proof.Gen.Kernel30Ideal.Value
import proofs.«01_k».proof.Proof.Gen.Reference30Ideal.Run
import proofs.«01_k».proof.Proof.Gen.Reference30Ideal.Read
import Idealize.ShloMosaic.Lib.Claim
set_option maxRecDepth 16384
noncomputable section
open Idealize.ShloMosaic Idealize.ShloMosaic.TcCoe Idealize.SL.Sem
open Cert.Kernel30Ideal Cert.Kernel30Ideal.Gen Cert.Kernel30Ideal.Value Cert.Reference30Ideal.Read
namespace Cert.Adam.FfnConvB

variable (g : FVec Ideal S8x2x5632 .f32) (w m v : FVec Ideal S1x2x5632 .f32)

theorem grad : G4 (F := Ideal) g w m v = val_main_v1 (F := Ideal) g := by
  funext j
  idx_vars j
  pointwise [k0_pay7, k0_pay11, k0_pay2, val_main_v1, val_main_v0, val_main_cst, Fin.sum_univ_eight]

/-- The kernel reads the whole block of first moments. -/
theorem moment : k0_pay12 (F := Ideal) g w m v = k0_pay3 (F := Ideal) m :=
  congrArg (k0_pay3 (F := Ideal)) (View.ld_unit_zero (Val := Elt Ideal) (S := S1x2x5632) (e := .f32) hz3 inb_S1x2x5632_S1x2x5632_0_0_0 m)

theorem means : G6 (F := Ideal) g w m v = val_main_v6 (F := Ideal) g m :=
  (congrArg (fun x => k0_pay8 (F := Ideal) x (k0_pay13 g w m v)) (moment g w m v)).trans <| mean_eq shapeCasts_S1x2x5632_S2x5632 shapeCasts_S2x5632_S1x2x5632 (k0_pay11 (F := Ideal) g w m v) _ Cert.Reference30Ideal.Gen.facts.bcast_S_S1x2x5632 (grad g w m v)

theorem squares : G7 (F := Ideal) g w m v = val_main_v12 (F := Ideal) g v :=
  square_eq shapeCasts_S1x2x5632_S2x5632 shapeCasts_S2x5632_S1x2x5632 _ _ Cert.Reference30Ideal.Gen.facts.bcast_S_S1x2x5632 (grad g w m v)

theorem deltas : G5 (F := Ideal) g w m v = val_main_v25 (F := Ideal) g w m v :=
  (congrArg (fun x => k0_pay1 (F := Ideal) (k0_pay10 (k0_pay11 g w m v) x (k0_pay13 g w m v) v w)) (moment g w m v)).trans <| delta_eq shapeCasts_S1x2x5632_S2x5632 shapeCasts_S2x5632_S1x2x5632 (k0_pay11 (F := Ideal) g w m v) _ _ _ Cert.Reference30Ideal.Gen.facts.bcast_S_S1x2x5632 (κ := κ) rfl rfl ((congrArg (fun x => k0_pay8 (F := Ideal) x (k0_pay13 g w m v)) (moment g w m v)).symm.trans (means g w m v)) (squares g w m v)

theorem algebraic : Cert.algebraic_Kernel30Ideal_Reference30Ideal (hKernel30Ideal := Cert.Kernel30Ideal.Gen.facts)
    (hReference30Ideal := Cert.Reference30Ideal.Gen.facts) := by
  pair_intro
  · run_from Cert.Kernel30Ideal.Value.run m g
  · refine θ_run_mono (Cert.Reference30Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.FfnConvB
-- ==== Proof.Adam.Sinks.lean ====
/- The AdamW step of the sinks of the attention. -/
import proofs.«01_k».proof.Defs
import proofs.«01_k».proof.Proof.Adam
import proofs.«01_k».proof.Proof.Gen.Kernel31Ideal.Value
import proofs.«01_k».proof.Proof.Gen.Reference31Ideal.Run
import proofs.«01_k».proof.Proof.Gen.Reference31Ideal.Read
import Idealize.ShloMosaic.Lib.Claim
set_option maxRecDepth 16384
noncomputable section
open Idealize.ShloMosaic Idealize.ShloMosaic.TcCoe Idealize.SL.Sem
open Cert.Kernel31Ideal Cert.Kernel31Ideal.Gen Cert.Kernel31Ideal.Value Cert.Reference31Ideal.Read
namespace Cert.Adam.Sinks

variable (g : FVec Ideal S1x1x8 .f32) (w m v : FVec Ideal S1x1x8 .f32)

theorem grad : G4 (F := Ideal) g w m v = val_main_v1 (F := Ideal) g := by
  funext j
  idx_vars j
  pointwise [k0_pay5, k0_pay2, val_main_v1, val_main_v0, val_main_cst, Fin.sum_univ_one]

theorem means : G6 (F := Ideal) g w m v = val_main_v6 (F := Ideal) g m :=
  mean_eq shapeCasts_S1x1x8_S1x8 shapeCasts_S1x8_S1x1x8 _ _ Cert.Reference31Ideal.Gen.facts.bcast_S_S1x1x8 (grad g w m v)

theorem squares : G7 (F := Ideal) g w m v = val_main_v12 (F := Ideal) g v :=
  square_eq shapeCasts_S1x1x8_S1x8 shapeCasts_S1x8_S1x1x8 _ _ Cert.Reference31Ideal.Gen.facts.bcast_S_S1x1x8 (grad g w m v)

theorem deltas : G5 (F := Ideal) g w m v = val_main_v25 (F := Ideal) g w m v :=
  delta_eq shapeCasts_S1x1x8_S1x8 shapeCasts_S1x8_S1x1x8 _ _ _ _ Cert.Reference31Ideal.Gen.facts.bcast_S_S1x1x8 (κ := κ) rfl rfl (means g w m v) (squares g w m v)

theorem algebraic : Cert.algebraic_Kernel31Ideal_Reference31Ideal (hKernel31Ideal := Cert.Kernel31Ideal.Gen.facts)
    (hReference31Ideal := Cert.Reference31Ideal.Gen.facts) := by
  pair_intro
  · run_from Cert.Kernel31Ideal.Value.run m g
  · refine θ_run_mono (Cert.Reference31Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.Sinks
-- ==== Proof.Adam.Heads.lean ====
/- The AdamW step of the bias of the step sizes, the decay rates and the skips of the state-space layer's heads. -/
import proofs.«01_k».proof.Defs
import proofs.«01_k».proof.Proof.Adam
import proofs.«01_k».proof.Proof.Gen.Kernel32Ideal.Value
import proofs.«01_k».proof.Proof.Gen.Reference32Ideal.Run
import proofs.«01_k».proof.Proof.Gen.Reference32Ideal.Read
import Idealize.ShloMosaic.Lib.Claim
set_option maxRecDepth 16384
noncomputable section
open Idealize.ShloMosaic Idealize.ShloMosaic.TcCoe Idealize.SL.Sem
open Cert.Kernel32Ideal Cert.Kernel32Ideal.Gen Cert.Kernel32Ideal.Value Cert.Reference32Ideal.Read
namespace Cert.Adam.Heads

variable (g : FVec Ideal S1x1x32 .f32) (w m v : FVec Ideal S1x1x32 .f32)

theorem grad : G4 (F := Ideal) g w m v = val_main_v1 (F := Ideal) g := by
  funext j
  idx_vars j
  pointwise [k0_pay5, k0_pay2, val_main_v1, val_main_v0, val_main_cst, Fin.sum_univ_one]

theorem means : G6 (F := Ideal) g w m v = val_main_v6 (F := Ideal) g m :=
  mean_eq shapeCasts_S1x1x32_S1x32 shapeCasts_S1x32_S1x1x32 _ _ Cert.Reference32Ideal.Gen.facts.bcast_S_S1x1x32 (grad g w m v)

theorem squares : G7 (F := Ideal) g w m v = val_main_v12 (F := Ideal) g v :=
  square_eq shapeCasts_S1x1x32_S1x32 shapeCasts_S1x32_S1x1x32 _ _ Cert.Reference32Ideal.Gen.facts.bcast_S_S1x1x32 (grad g w m v)

theorem deltas : G5 (F := Ideal) g w m v = val_main_v25 (F := Ideal) g w m v :=
  delta_eq shapeCasts_S1x1x32_S1x32 shapeCasts_S1x32_S1x1x32 _ _ _ _ Cert.Reference32Ideal.Gen.facts.bcast_S_S1x1x32 (κ := κ) rfl rfl (means g w m v) (squares g w m v)

theorem algebraic : Cert.algebraic_Kernel32Ideal_Reference32Ideal (hKernel32Ideal := Cert.Kernel32Ideal.Gen.facts)
    (hReference32Ideal := Cert.Reference32Ideal.Gen.facts) := by
  pair_intro
  · run_from Cert.Kernel32Ideal.Value.run m g
  · refine θ_run_mono (Cert.Reference32Ideal.Value.run m' g') ?_
    intro r hr c
    obtain ⟨h₀, h₁, h₂, h₃⟩ := hagree c
    refine ⟨(hr c).1.trans ?_, (hr c).2.1.trans ?_, (hr c).2.2.1.trans ?_, (hr c).2.2.2.1.trans ?_, (hr c).2.2.2.2⟩
    · exact (val_main_v1_eq _).trans (by rw [h₀]; exact (grad _ _ _ _).symm)
    · exact (val_main_v25_eq _ _ _ _).trans (by rw [h₀, h₁, h₂, h₃]; exact (deltas _ _ _ _).symm)
    · exact (val_main_v6_eq _ _).trans (by rw [h₀, h₂]; exact (means _ _ _ _).symm)
    · exact (val_main_v12_eq _ _).trans (by rw [h₀, h₃]; exact (squares _ _ _ _).symm)

end Cert.Adam.Heads
-- ==== Proof.Adam.FfnWUp.lean ====
/- The AdamW step of the up projections of both layers' feed-forward parts: for each layer four blocks of rows. -/
import proofs.«01_k».proof.Defs
import proofs.«01_k».proof.Proof.Adam
import proofs.«01_k».proof.Proof.Product
import proofs.«01_k».proof.Proof.Gen.Kernel33Ideal.Value
import proofs.«01_k».proof.Proof.Gen.Reference33Ideal.Run
import proofs.«01_k».proof.Proof.Gen.Reference33Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel33Ideal Cert.Kernel33Ideal.Gen Cert.Reference33Ideal.Read
namespace Cert.Adam.FfnWUp

/-- The kernel's sum of a block's slabs. -/
abbrev slabSum (g : FVec Ideal S8x176x1024 .bf16) : FVec Ideal S176x1024 .f32 :=
  k0_pay2 (F := Ideal) (View.ld g r0_0) (View.ld g r0_1) (View.ld g r0_2) (View.ld g r0_3) (View.ld g r0_4) (View.ld g r0_5) (View.ld g r0_6) (View.ld g r0_7)

theorem slabSum_at (g : FVec Ideal S8x176x1024 .bf16) (y) : k0_pay7 (F := Ideal) (slabSum g) y = ∑ d : Fin 8, g (ix3 d (y 1) (y 2)) := by
  idx_vars y
  pointwise [k0_pay7, k0_pay2, Fin.sum_univ_eight]

theorem ref_at (g₀ g₁ : FVec Ideal S8x704x1024 .bf16) (j) :
    val_main_v4 (F := Ideal) g₀ g₁ j = ∑ d : Fin 8, if (j 0).val < 1 then g₀ (ix3 d (j 1) (j 2)) else g₁ (ix3 d (j 1) (j 2)) := by
  pointwise [val_main_v4, val_main_v3, val_main_v2, val_main_v1, val_main_v0, val_main_cst]
  rfl

section Layers

variable (i : grid0.Coords) (g₀ g₁ : FVec Ideal S8x176x1024 .bf16) (w m v : FVec Ideal S1x176x1024 .f32)

/-- At the first layer's points the sum is of the first gradient. -/
theorem layer0 (h : Scalar.cmpi .eq (BitVec.ofNat 32 (i 0).val) 1#32 = 0#1) : k0_pay12 (F := Ideal) i g₀ g₁ w m v = slabSum g₀ := by
  show Scalar.select (Scalar.cmpi .eq (BitVec.ofNat 32 (i 0).val) 1#32) (slabSum g₁) (slabSum g₀) = _
  rw [h]
  rfl

/-- At the second layer's it is of the second. -/
theorem layer1 (h : Scalar.cmpi .eq (BitVec.ofNat 32 (i 0).val) 1#32 = 1#1) : k0_pay12 (F := Ideal) i g₀ g₁ w m v = slabSum g₁ := by
  show Scalar.select (Scalar.cmpi .eq (BitVec.ofNat 32 (i 0).val) 1#32) (slabSum g₁) (slabSum g₀) = _
  rw [h]
  rfl

/-- The kernel reads the whole block of first moments. -/
theorem moment : k0_pay13 (F := Ideal) i g₀ g₁ w m v = k0_pay4 (F := Ideal) m :=
  congrArg (k0_pay4 (F := Ideal)) (View.ld_unit_zero (Val := Elt Ideal) (S := S1x176x1024) (e := .f32) zeros inb_S1x176x1024_S1x176x1024_0_0_0 m)

end Layers

theorem first : ∀ t : Fin cfg0.N, t.val < 4 → Scalar.cmpi .eq (BitVec.ofNat 32 (grid0.coords t 0).val) 1#32 = 0#1 ∧ win0_0.index t = ![0, t.val % 4, 0] :=
  (by decide +kernel : ∀ t : Fin grid0.N, _)

theorem second : ∀ t : Fin cfg0.N, ¬t.val < 4 → Scalar.cmpi .eq (BitVec.ofNat 32 (grid0.coords t 0).val) 1#32 = 1#1 ∧ win0_1.index t = ![0, t.val % 4, 0] :=
  (by decide +kernel : ∀ t : Fin grid0.N, _)

theorem idx : ∀ t : Fin cfg0.N, win0_2.index t = ![t.val / 4, t.val % 4, 0] ∧ win0_3.index t = ![t.val / 4, t.val % 4, 0] ∧
    win0_4.index t = ![t.val / 4, t.val % 4, 0] ∧ win0_5.index t = ![t.val / 4, t.val % 4, 0] ∧
    win0_6.index t = ![t.val / 4, t.val % 4, 0] ∧ win0_7.index t = ![t.val / 4, t.val % 4, 0] ∧ win0_8.index t = ![t.val / 4, t.val % 4, 0] :=
  (by decide +kernel : ∀ t : Fin grid0.N, _)

variable (m : (ℓ : Loc nD τ sig) → Buf (Elt Ideal) ℓ) (c : Dev nD) (t : Fin cfg0.N) (y : S1x176x1024.Idx)

/-- The block of the gradient at a point. -/
abbrev sums : FVec Ideal S176x1024 .f32 :=
  k0_pay12 (F := Ideal) (grid0.coords t) (iblk m c 0 t) (iblk m c 1 t) (iblk m c 2 t) (iblk m c 3 t) (iblk m c 4 t)

/-- Where a block's index lies in the arrays. -/
abbrev spot : S2x704x1024.Idx := ((View.whole main_v0_0).slice (win0_5.rect t)).emb y

theorem slabs : k0_pay7 (F := Ideal) (sums m c t) y =
    val_main_v4 (F := Ideal) (m ((c : Thread nD τ).loc main_arg0)) (m ((c : Thread nD τ).loc main_arg1)) (spot t y) := by
  by_cases h : t.val < 4
  · rw [sums, layer0 _ _ _ _ _ _ (first t h).1, slabSum_at, ref_at]
    refine Product.sum_eq fun d => ?_
    rw [if_pos (by blk_simp [idx t, spot]; omega)]
    blk_point [iblk, V, idx t, first t h, spot]
  · rw [sums, layer1 _ _ _ _ _ _ (second t h).1, slabSum_at, ref_at]
    refine Product.sum_eq fun d => ?_
    rw [if_neg (by blk_simp [idx t, spot]; omega)]
    blk_point [iblk, V, idx t, second t h, spot]

theorem mean_point : k0_pay8 (F := Ideal) (sums m c t) (k0_pay4 (F := Ideal) (iblk m c 3 t)) y =
    val_main_v9 (F := Ideal) (m ((c : Thread nD τ).loc main_arg0)) (m ((c : Thread nD τ).loc main_arg1)) (m ((c : Thread nD τ).loc main_arg3)) (spot t y) := by
  refine (mean_at shapeCasts_S1x176x1024_S176x1024 shapeCasts_S176x1024_S1x176x1024 (sums m c t) (iblk m c 3 t) y).trans ?_
  refine Eq.trans ?_ (meanRef_at _ Cert.Reference33Ideal.Gen.facts.bcast_S_S2x704x1024 _ (spot t y)).symm
  refine congrArg₂ mean (slabs m c t y) ?_
  blk_point [iblk, V, idx t, spot]

theorem square_point : k0_pay9 (F := Ideal) (sums m c t) (iblk m c 4 t) y =
    val_main_v15 (F := Ideal) (m ((c : Thread nD τ).loc main_arg0)) (m ((c : Thread nD τ).loc main_arg1)) (m ((c : Thread nD τ).loc main_arg4)) (spot t y) := by
  refine (square_at shapeCasts_S1x176x1024_S176x1024 shapeCasts_S176x1024_S1x176x1024 (sums m c t) (iblk m c 4 t) y).trans ?_
  refine Eq.trans ?_ (squareRef_at _ Cert.Reference33Ideal.Gen.facts.bcast_S_S2x704x1024 _ (spot t y)).symm
  refine congrArg₂ square (slabs m c t y) ?_
  blk_point [iblk, V, idx t, spot]

theorem grads : (dats m 0 c).arrAt 5 (cfgs 0).N =
    val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]; unfold out0_5; frame_out
  exact slabs m c t y

theorem means : (dats m 0 c).arrAt 7 (cfgs 0).N =
    val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]; unfold out0_7; frame_out
  rw [moment]
  exact mean_point m c t y

theorem squares : (dats m 0 c).arrAt 8 (cfgs 0).N =
    val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]; unfold out0_8; frame_out
  exact square_point m c t y

theorem deltas : (dats m 0 c).arrAt 6 (cfgs 0).N = val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; unfold out0_6; frame_out
  rw [moment]
  refine (delta_at shapeCasts_S1x176x1024_S176x1024 shapeCasts_S176x1024_S1x176x1024 (sums m c t)
    (iblk m c 2 t) (iblk m c 3 t) (iblk m c 4 t) (κ := κ) rfl rfl y).trans ?_
  refine Eq.trans ?_ (deltaRef_at _ Cert.Reference33Ideal.Gen.facts.bcast_S_S2x704x1024 _ _ (spot t y)).symm
  refine (congrArg₂ (delta _) (mean_point m c t y) (square_point m c t y)).trans (congrArg (fun x => delta x _ _) ?_)
  blk_point [iblk, V, idx t, spot]

theorem algebraic : Cert.algebraic_Kernel33Ideal_Reference33Ideal (hKernel33Ideal := Cert.Kernel33Ideal.Gen.facts)
    (hReference33Ideal := Cert.Reference33Ideal.Gen.facts) := by
  pair_intro
  · run_from Cert.Kernel33Ideal.Value.run_blocks m g
  · refine θ_run_mono (Cert.Reference33Ideal.Value.run m' g') ?_
    intro r hr c
    obtain ⟨h₀, h₁, h₂, h₃, h₄⟩ := hagree c
    refine ⟨(hr c).1.trans ?_, (hr c).2.1.trans ?_, (hr c).2.2.1.trans ?_, (hr c).2.2.2.1.trans ?_, (hr c).2.2.2.2⟩
    · exact (val_main_v4_eq _ _).trans (by rw [h₀, h₁]; exact (grads m c).symm)
    · exact (val_main_v28_eq _ _ _ _ _).trans (by rw [h₀, h₁, h₂, h₃, h₄]; exact (deltas m c).symm)
    · exact (val_main_v9_eq _ _ _).trans (by rw [h₀, h₁, h₃]; exact (means m c).symm)
    · exact (val_main_v15_eq _ _ _).trans (by rw [h₀, h₁, h₄]; exact (squares m c).symm)

end Cert.Adam.FfnWUp
-- ==== Proof.Adam.FfnWDown.lean ====
/- The AdamW step of the down projections of both layers' feed-forward parts: for each layer two blocks of rows. -/
import proofs.«01_k».proof.Defs
import proofs.«01_k».proof.Proof.Adam
import proofs.«01_k».proof.Proof.Product
import proofs.«01_k».proof.Proof.Gen.Kernel34Ideal.Value
import proofs.«01_k».proof.Proof.Gen.Reference34Ideal.Run
import proofs.«01_k».proof.Proof.Gen.Reference34Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel34Ideal Cert.Kernel34Ideal.Gen Cert.Reference34Ideal.Read
namespace Cert.Adam.FfnWDown

/-- The kernel's sum of a block's slabs. -/
abbrev slabSum (g : FVec Ideal S8x176x1024 .bf16) : FVec Ideal S176x1024 .f32 :=
  k0_pay2 (F := Ideal) (View.ld g r0_0) (View.ld g r0_1) (View.ld g r0_2) (View.ld g r0_3) (View.ld g r0_4) (View.ld g r0_5) (View.ld g r0_6) (View.ld g r0_7)

theorem slabSum_at (g : FVec Ideal S8x176x1024 .bf16) (y) : k0_pay7 (F := Ideal) (slabSum g) y = ∑ d : Fin 8, g (ix3 d (y 1) (y 2)) := by
  idx_vars y
  pointwise [k0_pay7, k0_pay2, Fin.sum_univ_eight]

theorem ref_at (g₀ g₁ : FVec Ideal S8x352x1024 .bf16) (j) :
    val_main_v4 (F := Ideal) g₀ g₁ j = ∑ d : Fin 8, if (j 0).val < 1 then g₀ (ix3 d (j 1) (j 2)) else g₁ (ix3 d (j 1) (j 2)) := by
  pointwise [val_main_v4, val_main_v3, val_main_v2, val_main_v1, val_main_v0, val_main_cst]
  rfl

section Layers

variable (i : grid0.Coords) (g₀ g₁ : FVec Ideal S8x176x1024 .bf16) (w m v : FVec Ideal S1x176x1024 .f32)

/-- At the first layer's points the sum is of the first gradient. -/
theorem layer0 (h : Scalar.cmpi .eq (BitVec.ofNat 32 (i 0).val) 1#32 = 0#1) : k0_pay12 (F := Ideal) i g₀ g₁ w m v = slabSum g₀ := by
  show Scalar.select (Scalar.cmpi .eq (BitVec.ofNat 32 (i 0).val) 1#32) (slabSum g₁) (slabSum g₀) = _
  rw [h]
  rfl

/-- At the second layer's it is of the second. -/
theorem layer1 (h : Scalar.cmpi .eq (BitVec.ofNat 32 (i 0).val) 1#32 = 1#1) : k0_pay12 (F := Ideal) i g₀ g₁ w m v = slabSum g₁ := by
  show Scalar.select (Scalar.cmpi .eq (BitVec.ofNat 32 (i 0).val) 1#32) (slabSum g₁) (slabSum g₀) = _
  rw [h]
  rfl

/-- The kernel reads the whole block of first moments. -/
theorem moment : k0_pay13 (F := Ideal) i g₀ g₁ w m v = k0_pay4 (F := Ideal) m :=
  congrArg (k0_pay4 (F := Ideal)) (View.ld_unit_zero (Val := Elt Ideal) (S := S1x176x1024) (e := .f32) zeros inb_S1x176x1024_S1x176x1024_0_0_0 m)

end Layers

theorem first : ∀ t : Fin cfg0.N, t.val < 2 → Scalar.cmpi .eq (BitVec.ofNat 32 (grid0.coords t 0).val) 1#32 = 0#1 ∧ win0_0.index t = ![0, t.val % 2, 0] :=
  (by decide +kernel : ∀ t : Fin grid0.N, _)

theorem second : ∀ t : Fin cfg0.N, ¬t.val < 2 → Scalar.cmpi .eq (BitVec.ofNat 32 (grid0.coords t 0).val) 1#32 = 1#1 ∧ win0_1.index t = ![0, t.val % 2, 0] :=
  (by decide +kernel : ∀ t : Fin grid0.N, _)

theorem idx : ∀ t : Fin cfg0.N, win0_2.index t = ![t.val / 2, t.val % 2, 0] ∧ win0_3.index t = ![t.val / 2, t.val % 2, 0] ∧
    win0_4.index t = ![t.val / 2, t.val % 2, 0] ∧ win0_5.index t = ![t.val / 2, t.val % 2, 0] ∧
    win0_6.index t = ![t.val / 2, t.val % 2, 0] ∧ win0_7.index t = ![t.val / 2, t.val % 2, 0] ∧ win0_8.index t = ![t.val / 2, t.val % 2, 0] :=
  (by decide +kernel : ∀ t : Fin grid0.N, _)

variable (m : (ℓ : Loc nD τ sig) → Buf (Elt Ideal) ℓ) (c : Dev nD) (t : Fin cfg0.N) (y : S1x176x1024.Idx)

/-- The block of the gradient at a point. -/
abbrev sums : FVec Ideal S176x1024 .f32 :=
  k0_pay12 (F := Ideal) (grid0.coords t) (iblk m c 0 t) (iblk m c 1 t) (iblk m c 2 t) (iblk m c 3 t) (iblk m c 4 t)

/-- Where a block's index lies in the arrays. -/
abbrev spot : S2x352x1024.Idx := ((View.whole main_v0_0).slice (win0_5.rect t)).emb y

theorem slabs : k0_pay7 (F := Ideal) (sums m c t) y =
    val_main_v4 (F := Ideal) (m ((c : Thread nD τ).loc main_arg0)) (m ((c : Thread nD τ).loc main_arg1)) (spot t y) := by
  by_cases h : t.val < 2
  · rw [sums, layer0 _ _ _ _ _ _ (first t h).1, slabSum_at, ref_at]
    refine Product.sum_eq fun d => ?_
    rw [if_pos (by blk_simp [idx t, spot]; omega)]
    blk_point [iblk, V, idx t, first t h, spot]
  · rw [sums, layer1 _ _ _ _ _ _ (second t h).1, slabSum_at, ref_at]
    refine Product.sum_eq fun d => ?_
    rw [if_neg (by blk_simp [idx t, spot]; omega)]
    blk_point [iblk, V, idx t, second t h, spot]

theorem mean_point : k0_pay8 (F := Ideal) (sums m c t) (k0_pay4 (F := Ideal) (iblk m c 3 t)) y =
    val_main_v9 (F := Ideal) (m ((c : Thread nD τ).loc main_arg0)) (m ((c : Thread nD τ).loc main_arg1)) (m ((c : Thread nD τ).loc main_arg3)) (spot t y) := by
  refine (mean_at shapeCasts_S1x176x1024_S176x1024 shapeCasts_S176x1024_S1x176x1024 (sums m c t) (iblk m c 3 t) y).trans ?_
  refine Eq.trans ?_ (meanRef_at _ Cert.Reference34Ideal.Gen.facts.bcast_S_S2x352x1024 _ (spot t y)).symm
  refine congrArg₂ mean (slabs m c t y) ?_
  blk_point [iblk, V, idx t, spot]

theorem square_point : k0_pay9 (F := Ideal) (sums m c t) (iblk m c 4 t) y =
    val_main_v15 (F := Ideal) (m ((c : Thread nD τ).loc main_arg0)) (m ((c : Thread nD τ).loc main_arg1)) (m ((c : Thread nD τ).loc main_arg4)) (spot t y) := by
  refine (square_at shapeCasts_S1x176x1024_S176x1024 shapeCasts_S176x1024_S1x176x1024 (sums m c t) (iblk m c 4 t) y).trans ?_
  refine Eq.trans ?_ (squareRef_at _ Cert.Reference34Ideal.Gen.facts.bcast_S_S2x352x1024 _ (spot t y)).symm
  refine congrArg₂ square (slabs m c t y) ?_
  blk_point [iblk, V, idx t, spot]

theorem grads : (dats m 0 c).arrAt 5 (cfgs 0).N =
    val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]; unfold out0_5; frame_out
  exact slabs m c t y

theorem means : (dats m 0 c).arrAt 7 (cfgs 0).N =
    val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]; unfold out0_7; frame_out
  rw [moment]
  exact mean_point m c t y

theorem squares : (dats m 0 c).arrAt 8 (cfgs 0).N =
    val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]; unfold out0_8; frame_out
  exact square_point m c t y

theorem deltas : (dats m 0 c).arrAt 6 (cfgs 0).N = val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; unfold out0_6; frame_out
  rw [moment]
  refine (delta_at shapeCasts_S1x176x1024_S176x1024 shapeCasts_S176x1024_S1x176x1024 (sums m c t)
    (iblk m c 2 t) (iblk m c 3 t) (iblk m c 4 t) (κ := κ) rfl rfl y).trans ?_
  refine Eq.trans ?_ (deltaRef_at _ Cert.Reference34Ideal.Gen.facts.bcast_S_S2x352x1024 _ _ (spot t y)).symm
  refine (congrArg₂ (delta _) (mean_point m c t y) (square_point m c t y)).trans (congrArg (fun x => delta x _ _) ?_)
  blk_point [iblk, V, idx t, spot]

theorem algebraic : Cert.algebraic_Kernel34Ideal_Reference34Ideal (hKernel34Ideal := Cert.Kernel34Ideal.Gen.facts)
    (hReference34Ideal := Cert.Reference34Ideal.Gen.facts) := by
  pair_intro
  · run_from Cert.Kernel34Ideal.Value.run_blocks m g
  · refine θ_run_mono (Cert.Reference34Ideal.Value.run m' g') ?_
    intro r hr c
    obtain ⟨h₀, h₁, h₂, h₃, h₄⟩ := hagree c
    refine ⟨(hr c).1.trans ?_, (hr c).2.1.trans ?_, (hr c).2.2.1.trans ?_, (hr c).2.2.2.1.trans ?_, (hr c).2.2.2.2⟩
    · exact (val_main_v4_eq _ _).trans (by rw [h₀, h₁]; exact (grads m c).symm)
    · exact (val_main_v28_eq _ _ _ _ _).trans (by rw [h₀, h₁, h₂, h₃, h₄]; exact (deltas m c).symm)
    · exact (val_main_v9_eq _ _ _).trans (by rw [h₀, h₁, h₃]; exact (means m c).symm)
    · exact (val_main_v15_eq _ _ _).trans (by rw [h₀, h₁, h₄]; exact (squares m c).symm)

end Cert.Adam.FfnWDown
-- ==== Proof.Adam.Slabs.lean ====
/- The sums over the devices of the heads' gradients and of the loss. -/
import proofs.«01_k».proof.Defs
import proofs.«01_k».proof.Proof.Gen.Kernel35Ideal.Value
import proofs.«01_k».proof.Proof.Gen.Reference35Ideal.Run
import proofs.«01_k».proof.Proof.Gen.Reference35Ideal.Read
import Idealize.ShloMosaic.Lib.Pointwise
import Idealize.ShloMosaic.Lib.Claim
set_option maxRecDepth 16384
noncomputable section
open Idealize.ShloMosaic Idealize.ShloMosaic.TcCoe Idealize.SL.Sem
open Cert.Kernel35Ideal Cert.Kernel35Ideal.Gen Cert.Kernel35Ideal.Value Cert.Reference35Ideal.Read
namespace Cert.Adam.Slabs

variable (a d : FVec Ideal S8x8x128 .f32) (b c e : FVec Ideal S8x1x128 .f32)

theorem sinks : G5 (F := Ideal) a b c d e = val_main_v0 (F := Ideal) a := by
  funext j
  idx_vars j
  pointwise [k0_pay2, val_main_v0, val_main_cst, Fin.sum_univ_eight]

theorem bias : G6 (F := Ideal) a b c d e = val_main_v1 (F := Ideal) b := by
  funext j
  idx_vars j
  pointwise [k0_pay4, k0_pay3, val_main_v1, val_main_cst_0, Fin.sum_univ_eight]

theorem decay : G7 (F := Ideal) a b c d e = val_main_v2 (F := Ideal) c := by
  funext j
  idx_vars j
  pointwise [k0_pay6, k0_pay5, val_main_v2, val_main_cst_1, Fin.sum_univ_eight]

theorem skip : G8 (F := Ideal) a b c d e = val_main_v3 (F := Ideal) d := by
  funext j
  idx_vars j
  pointwise [k0_pay8, k0_pay7, val_main_v3, val_main_cst_2, Fin.sum_univ_eight]

theorem loss : G9 (F := Ideal) a b c d e = val_main_v4 (F := Ideal) e := by
  funext j
  idx_vars j
  pointwise [k0_pay1, k0_pay9, val_main_v4, val_main_cst_3, Fin.sum_univ_eight]

theorem algebraic : Cert.algebraic_Kernel35Ideal_Reference35Ideal (hKernel35Ideal := Cert.Kernel35Ideal.Gen.facts)
    (hReference35Ideal := Cert.Reference35Ideal.Gen.facts) := by
  pair_intro
  · run_from Cert.Kernel35Ideal.Value.run m g
  · refine θ_run_mono (Cert.Reference35Ideal.Value.run m' g') ?_
    intro r hr c
    obtain ⟨h₀, h₁, h₂, h₃, h₄⟩ := hagree c
    refine ⟨(hr c).1.trans ?_, (hr c).2.1.trans ?_, (hr c).2.2.1.trans ?_, (hr c).2.2.2.1.trans ?_, (hr c).2.2.2.2.1.trans ?_, (hr c).2.2.2.2.2⟩
    · exact (val_main_v0_eq _).trans (by rw [h₀]; exact (sinks _ _ _ _ _).symm)
    · exact (val_main_v1_eq _).trans (by rw [h₁]; exact (bias _ _ _ _ _).symm)
    · exact (val_main_v2_eq _).trans (by rw [h₂]; exact (decay _ _ _ _ _).symm)
    · exact (val_main_v3_eq _).trans (by rw [h₃]; exact (skip _ _ _ _ _).symm)
    · exact (val_main_v4_eq _).trans (by rw [h₄]; exact (loss _ _ _ _ _).symm)

end Cert.Adam.Slabs
-- ==== Proof.Prod.MixIn.lean ====
/- The first mixer's input projection: a normalized activation times the transposed weight,
   one block of rows at each point. -/
import proofs.«01_k».proof.Defs
import proofs.«01_k».proof.Proof.Product
import proofs.«01_k».proof.Proof.Gen.Kernel36Ideal.Value
import proofs.«01_k».proof.Proof.Gen.Reference36Ideal.Run
import proofs.«01_k».proof.Proof.Gen.Reference36Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel36Ideal Cert.Kernel36Ideal.Gen
namespace Cert.MixIn

theorem zero_at (j) : k0_pay1 (F := Ideal) j = 0 := by
  pointwise [k0_pay1]

theorem step_at (acc : FVec Ideal S1024x1280 .f32) (x : FVec Ideal S1024x1024 .bf16) (w : FVec Ideal S1280x1024 .bf16) (j) :
    k0_pay2 (F := Ideal) acc x w j = acc j + ∑ k : Fin 1024, x (ix2 (j 0) k) * w (ix2 (j 1) k) := by
  pointwise [k0_pay2]

theorem ref_at (x : FVec Ideal S4096x1024 .bf16) (w : FVec Ideal S1280x1024 .bf16) (j) :
    Cert.Reference36Ideal.Read.val_main_v3 (F := Ideal) x w j = ∑ k : Fin 1024, x (ix2 (j 0) k) * w (ix2 (j 1) k) := by
  pointwise [Cert.Reference36Ideal.Read.val_main_v3, Cert.Reference36Ideal.Read.val_main_v2, Cert.Reference36Ideal.Read.val_main_v1,
    Cert.Reference36Ideal.Read.val_main_v0]

theorem idx : ∀ t : Fin cfg0.N, win0_0.index t = ![t.val, 0] ∧ win0_1.index t = ![0, 0] ∧ win0_2.index t = ![t.val, 0] :=
  (by decide +kernel : ∀ t : Fin grid0.N, _)

/-- The kernel's array is the reference's. -/
theorem final (m : (ℓ : Loc nD τ sig) → Buf (Elt Ideal) ℓ) (c : Dev nD) :
    (dats m 0 c).arrAt 2 (cfgs 0).N = Cert.Reference36Ideal.Read.val_main_v3 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step_at, zero_at, zero_add, ref_at]
  refine Product.sum_eq fun k => ?_
  blk_point [iblk, V, idx t]

theorem algebraic : Cert.algebraic_Kernel36Ideal_Reference36Ideal (hKernel36Ideal := Cert.Kernel36Ideal.Gen.facts)
    (hReference36Ideal := Cert.Reference36Ideal.Gen.facts) := by
  pair_intro
  · run_from Cert.Kernel36Ideal.Gen.run_main m g
  · run_from Cert.Reference36Ideal.Value.run m' g'
    exact (Cert.Reference36Ideal.Read.val_main_v3_eq _ _).trans (final m c).symm

end Cert.MixIn
-- ==== Proof.Prod.MixOut.lean ====
/- The first mixer's output projection with the residual added, one block of rows at each point. -/
import proofs.«01_k».proof.Defs
import proofs.«01_k».proof.Proof.Product
import proofs.«01_k».proof.Proof.Gen.Kernel37Ideal.Value
import proofs.«01_k».proof.Proof.Gen.Reference37Ideal.Run
import proofs.«01_k».proof.Proof.Gen.Reference37Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel37Ideal Cert.Kernel37Ideal.Gen
namespace Cert.MixOut

theorem zero_at (j) : k0_pay1 (F := Ideal) j = 0 := by
  pointwise [k0_pay1]

theorem step_at (acc : FVec Ideal S1024x1024 .f32) (x : FVec Ideal S1024x1024 .bf16) (w : FVec Ideal S1024x1024 .bf16) (j) :
    k0_pay2 (F := Ideal) acc x w j = acc j + ∑ k : Fin 1024, x (ix2 (j 0) k) * w (ix2 k (j 1)) := by
  pointwise [k0_pay2]

theorem out_at (acc res : FVec Ideal S1024x1024 .f32) (j) : k0_pay3 (F := Ideal) acc res j = acc j + res j := by
  pointwise [k0_pay3]

theorem ref_at (x : FVec Ideal S4096x1024 .bf16) (w : FVec Ideal S1024x1024 .bf16) (res : FVec Ideal S4096x1024 .f32) (j) :
    Cert.Reference37Ideal.Read.val_main_v3 (F := Ideal) x w res j = res j + ∑ k : Fin 1024, x (ix2 (j 0) k) * w (ix2 k (j 1)) := by
  pointwise [Cert.Reference37Ideal.Read.val_main_v3, Cert.Reference37Ideal.Read.val_main_v2, Cert.Reference37Ideal.Read.val_main_v1,
    Cert.Reference37Ideal.Read.val_main_v0]

theorem idx : ∀ t : Fin cfg0.N, win0_0.index t = ![t.val, 0] ∧ win0_1.index t = ![0, 0] ∧ win0_2.index t = ![t.val, 0] ∧
    win0_3.index t = ![t.val, 0] :=
  (by decide +kernel : ∀ t : Fin grid0.N, _)

theorem final (m : (ℓ : Loc nD τ sig) → Buf (Elt Ideal) ℓ) (c : Dev nD) :
    (dats m 0 c).arrAt 3 (cfgs 0).N = Cert.Reference37Ideal.Read.val_main_v3 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold outsAt0; frame_out
  rw [out_at, step_at, zero_at, zero_add, ref_at, add_comm]
  refine congrArg₂ (· + ·) ?_ (Product.sum_eq fun k => ?_)
  · blk_ext [iblk, V, idx t]
  · blk_point [iblk, V, idx t]

theorem algebraic : Cert.algebraic_Kernel37Ideal_Reference37Ideal (hKernel37Ideal := Cert.Kernel37Ideal.Gen.facts)
    (hReference37Ideal := Cert.Reference37Ideal.Gen.facts) := by
  pair_intro
  · run_from Cert.Kernel37Ideal.Gen.run_main m g
  · run_from Cert.Reference37Ideal.Value.run m' g'
    rw [Cert.Reference37Ideal.Read.val_main_v3_eq]
    exact (final m c).symm

end Cert.MixOut
-- ==== Proof.Prod.MixOutDx.lean ====
/- The gradient of the first mixer's output projection's input: the gradient of the rows times the transposed weight. -/
import proofs.«01_k».proof.Defs
import proofs.«01_k».proof.Proof.Product
import proofs.«01_k».proof.Proof.Gen.Kernel38Ideal.Value
import proofs.«01_k».proof.Proof.Gen.Reference38Ideal.Run
import proofs.«01_k».proof.Proof.Gen.Reference38Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel38Ideal Cert.Kernel38Ideal.Gen
namespace Cert.MixOutDx

theorem zero_at (j) : k0_pay1 (F := Ideal) j = 0 := by
  pointwise [k0_pay1]

theorem step_at (acc : FVec Ideal S1024x1024 .f32) (d : FVec Ideal S1024x1024 .f32) (w : FVec Ideal S1024x1024 .bf16) (j) :
    k0_pay2 (F := Ideal) acc d w j = acc j + ∑ k : Fin 1024, d (ix2 (j 0) k) * w (ix2 (j 1) k) := by
  pointwise [k0_pay2]

theorem ref_at (d : FVec Ideal S4096x1024 .f32) (w : FVec Ideal S1024x1024 .bf16) (j) :
    Cert.Reference38Ideal.Read.val_main_v3 (F := Ideal) d w j = ∑ k : Fin 1024, d (ix2 (j 0) k) * w (ix2 (j 1) k) := by
  pointwise [Cert.Reference38Ideal.Read.val_main_v3, Cert.Reference38Ideal.Read.val_main_v1]

theorem idx : ∀ t : Fin cfg0.N, win0_0.index t = ![t.val, 0] ∧ win0_1.index t = ![0, 0] ∧ win0_2.index t = ![t.val, 0] :=
  (by decide +kernel : ∀ t : Fin grid0.N, _)

theorem final (m : (ℓ : Loc nD τ sig) → Buf (Elt Ideal) ℓ) (c : Dev nD) :
    (dats m 0 c).arrAt 2 (cfgs 0).N = Cert.Reference38Ideal.Read.val_main_v3 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step_at, zero_at, zero_add, ref_at]
  refine Product.sum_eq fun k => ?_
  blk_point [iblk, V, idx t]

theorem algebraic : Cert.algebraic_Kernel38Ideal_Reference38Ideal (hKernel38Ideal := Cert.Kernel38Ideal.Gen.facts)
    (hReference38Ideal := Cert.Reference38Ideal.Gen.facts) := by
  pair_intro
  · run_from Cert.Kernel38Ideal.Gen.run_main m g
  · run_from Cert.Reference38Ideal.Value.run m' g'
    exact (Cert.Reference38Ideal.Read.val_main_v3_eq _ _).trans (final m c).symm

end Cert.MixOutDx
-- ==== Proof.Prod.MixOutDw.lean ====
/- The gradient of the first mixer's output projection's weight: the transposed activation times the gradient of the rows,
   four points, over the quarters of the rows. -/
import proofs.«01_k».proof.Defs
import proofs.«01_k».proof.Proof.Product
import proofs.«01_k».proof.Proof.Gen.Kernel39Ideal.Value
import proofs.«01_k».proof.Proof.Gen.Reference39Ideal.Run
import proofs.«01_k».proof.Proof.Gen.Reference39Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel39Ideal Cert.Kernel39Ideal.Gen
namespace Cert.MixOutDw

theorem zero_at (j) : k0_pay1 (F := Ideal) j = 0 := by
  pointwise [k0_pay1]

theorem step_at (acc : FVec Ideal S1024x1024 .f32) (x : FVec Ideal S1024x1024 .bf16) (d : FVec Ideal S1024x1024 .f32) (j) :
    k0_pay2 (F := Ideal) acc x d j = acc j + ∑ k : Fin 1024, x (ix2 k (j 0)) * d (ix2 k (j 1)) := by
  pointwise [k0_pay2]

theorem out_at (acc : FVec Ideal S1024x1024 .f32) (j) : k0_pay3 (F := Ideal) acc j = acc j := by
  pointwise [k0_pay3]

theorem ref_at (x : FVec Ideal S4096x1024 .bf16) (d : FVec Ideal S4096x1024 .f32) (j) :
    Cert.Reference39Ideal.Read.val_main_v5 (F := Ideal) x d j = ∑ k : Fin 4096, d (ix2 k (j 1)) * x (ix2 k (j 0)) := by
  pointwise [Cert.Reference39Ideal.Read.val_main_v5, Cert.Reference39Ideal.Read.val_main_v4, Cert.Reference39Ideal.Read.val_main_v3,
    Cert.Reference39Ideal.Read.val_main_v1]

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

theorem final (m : (ℓ : Loc nD τ sig) → Buf (Elt Ideal) ℓ) (c : Dev nD) :
    (dats m 0 c).arrAt 2 (cfgs 0).N = Cert.Reference39Ideal.Read.val_main_v5 (F := Ideal)
      (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 y = (outsAt0 m c t.val t.isLt).2 y := by
    rw [outsAt0_C m c t (by omega) ht]; frame_out; rw [out_at]
  rw [after0_2]
  refine e.trans ?_
  rw [ref_at]
  refine Product.run_sum (J := 4) (B := 1024) (fun n h => (outsAt0 m c n h).2) _ (fun t h j => ?_)
    (fun t h j => (next_at m c t h j).trans (step_at _ _ _ j)) rfl t ht y _ (fun s k hl => ?_)
  · rw [outsAt0_A m c t h (by omega)]; frame_out; rw [step_at, zero_at]
  · rw [mul_comm]
    blk_point [iblk, V, idx t, idx ⟨_, Pipeline.run_point_lt_of_flush t ht s⟩]

theorem algebraic : Cert.algebraic_Kernel39Ideal_Reference39Ideal (hKernel39Ideal := Cert.Kernel39Ideal.Gen.facts)
    (hReference39Ideal := Cert.Reference39Ideal.Gen.facts) := by
  pair_intro
  · run_from Cert.Kernel39Ideal.Gen.run_main m g
  · run_from Cert.Reference39Ideal.Value.run m' g'
    rw [Cert.Reference39Ideal.Read.val_main_v5_eq]
    exact (final m c).symm

end Cert.MixOutDw
-- ==== Proof.Prod.MixInDw.lean ====
/- The gradient of the first mixer's input projection's weight: the transposed gradient of the projection times the normalized
   activation, four points, over the quarters of the rows. -/
import proofs.«01_k».proof.Defs
import proofs.«01_k».proof.Proof.Product
import proofs.«01_k».proof.Proof.Gen.Kernel40Ideal.Value
import proofs.«01_k».proof.Proof.Gen.Reference40Ideal.Run
import proofs.«01_k».proof.Proof.Gen.Reference40Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel40Ideal Cert.Kernel40Ideal.Gen
namespace Cert.MixInDw

theorem zero_at (j) : k0_pay1 (F := Ideal) j = 0 := by
  pointwise [k0_pay1]

theorem step_at (acc : FVec Ideal S1280x1024 .f32) (d : FVec Ideal S1024x1280 .f32) (x : FVec Ideal S1024x1024 .bf16) (j) :
    k0_pay2 (F := Ideal) acc d x j = acc j + ∑ k : Fin 1024, d (ix2 k (j 0)) * x (ix2 k (j 1)) := by
  pointwise [k0_pay2]

theorem out_at (acc : FVec Ideal S1280x1024 .f32) (j) : k0_pay3 (F := Ideal) acc j = acc j := by
  pointwise [k0_pay3]

theorem ref_at (d : FVec Ideal S4096x1280 .f32) (x : FVec Ideal S4096x1024 .bf16) (j) :
    Cert.Reference40Ideal.Read.val_main_v7 (F := Ideal) d x j = ∑ k : Fin 4096, d (ix2 k (j 0)) * x (ix2 k (j 1)) := by
  pointwise [Cert.Reference40Ideal.Read.val_main_v7, Cert.Reference40Ideal.Read.val_main_v6, Cert.Reference40Ideal.Read.val_main_v5,
    Cert.Reference40Ideal.Read.val_main_v4, Cert.Reference40Ideal.Read.val_main_v1]

theorem idx : ∀ t : Fin cfg0.N, win0_0.index t = ![t.val % 4, t.val / 4] ∧ win0_1.index t = ![t.val % 4, 0] ∧
    win0_2.index t = ![t.val / 4, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

theorem final (m : (ℓ : Loc nD τ sig) → Buf (Elt Ideal) ℓ) (c : Dev nD) :
    (dats m 0 c).arrAt 2 (cfgs 0).N = Cert.Reference40Ideal.Read.val_main_v7 (F := Ideal)
      (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  have e : (outsAt0 m c t.val t.isLt).1 y = (outsAt0 m c t.val t.isLt).2 y := by
    rw [outsAt0_C m c t (by omega) ht]; frame_out; rw [out_at]
  rw [after0_2]
  refine e.trans ?_
  rw [ref_at]
  refine Product.run_sum (J := 4) (B := 1024) (fun n h => (outsAt0 m c n h).2) _ (fun t h j => ?_)
    (fun t h j => (next_at m c t h j).trans (step_at _ _ _ j)) rfl t ht y _ (fun s k hl => ?_)
  · rw [outsAt0_A m c t h (by omega)]; frame_out; rw [step_at, zero_at]
  · blk_point [iblk, V, idx t, idx ⟨_, Pipeline.run_point_lt_of_flush t ht s⟩]

theorem algebraic : Cert.algebraic_Kernel40Ideal_Reference40Ideal (hKernel40Ideal := Cert.Kernel40Ideal.Gen.facts)
    (hReference40Ideal := Cert.Reference40Ideal.Gen.facts) := by
  pair_intro
  · run_from Cert.Kernel40Ideal.Gen.run_main m g
  · run_from Cert.Reference40Ideal.Value.run m' g'
    rw [Cert.Reference40Ideal.Read.val_main_v7_eq]
    exact (final m c).symm

end Cert.MixInDw
-- ==== Proof.Prod.InDt.lean ====
/- The part of the input projection that gives the step sizes, padded to 128 columns: a normalized activation times the transposed weight,
   one block of rows at each point. -/
import proofs.«01_k».proof.Defs
import proofs.«01_k».proof.Proof.Product
import proofs.«01_k».proof.Proof.Gen.Kernel41Ideal.Value
import proofs.«01_k».proof.Proof.Gen.Reference41Ideal.Run
import proofs.«01_k».proof.Proof.Gen.Reference41Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel41Ideal Cert.Kernel41Ideal.Gen
namespace Cert.InDt

theorem zero_at (j) : k0_pay1 (F := Ideal) j = 0 := by
  pointwise [k0_pay1]

theorem step_at (acc : FVec Ideal S1024x128 .f32) (x : FVec Ideal S1024x1024 .bf16) (w : FVec Ideal S128x1024 .bf16) (j) :
    k0_pay2 (F := Ideal) acc x w j = acc j + ∑ k : Fin 1024, x (ix2 (j 0) k) * w (ix2 (j 1) k) := by
  pointwise [k0_pay2]

theorem ref_at (x : FVec Ideal S4096x1024 .bf16) (w : FVec Ideal S128x1024 .bf16) (j) :
    Cert.Reference41Ideal.Read.val_main_v3 (F := Ideal) x w j = ∑ k : Fin 1024, x (ix2 (j 0) k) * w (ix2 (j 1) k) := by
  pointwise [Cert.Reference41Ideal.Read.val_main_v3, Cert.Reference41Ideal.Read.val_main_v2, Cert.Reference41Ideal.Read.val_main_v1,
    Cert.Reference41Ideal.Read.val_main_v0]

theorem idx : ∀ t : Fin cfg0.N, win0_0.index t = ![t.val, 0] ∧ win0_1.index t = ![0, 0] ∧ win0_2.index t = ![t.val, 0] :=
  (by decide +kernel : ∀ t : Fin grid0.N, _)

/-- The kernel's array is the reference's. -/
theorem final (m : (ℓ : Loc nD τ sig) → Buf (Elt Ideal) ℓ) (c : Dev nD) :
    (dats m 0 c).arrAt 2 (cfgs 0).N = Cert.Reference41Ideal.Read.val_main_v3 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold outsAt0; frame_out
  rw [step_at, zero_at, zero_add, ref_at]
  refine Product.sum_eq fun k => ?_
  blk_point [iblk, V, idx t]

theorem algebraic : Cert.algebraic_Kernel41Ideal_Reference41Ideal (hKernel41Ideal := Cert.Kernel41Ideal.Gen.facts)
    (hReference41Ideal := Cert.Reference41Ideal.Gen.facts) := by
  pair_intro
  · run_from Cert.Kernel41Ideal.Gen.run_main m g
  · run_from Cert.Reference41Ideal.Value.run m' g'
    exact (Cert.Reference41Ideal.Read.val_main_v3_eq _ _).trans (final m c).symm

end Cert.InDt
-- ==== Proof.Prod.InDtDw.lean ====
/- The gradient of the last 32 rows of the input projection's weight, in an array whose other rows are kept. -/
import proofs.«01_k».proof.Defs
import proofs.«01_k».proof.Proof.Product
import proofs.«01_k».proof.Proof.Gen.Kernel42Ideal.Value
import proofs.«01_k».proof.Proof.Gen.Reference42Ideal.Run
import proofs.«01_k».proof.Proof.Gen.Reference42Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel42Ideal Cert.Kernel42Ideal.Gen
namespace Cert.InDtDw

theorem zero_at (j) : k0_pay1 (F := Ideal) j = 0 := by
  pointwise [k0_pay1]

theorem step_at (acc : FVec Ideal S32x1024 .f32) (x : FVec Ideal S1024x32 .f32) (d : FVec Ideal S1024x1024 .bf16) (j) :
    k0_pay2 (F := Ideal) acc x d j = acc j + ∑ k : Fin 1024, x (ix2 k (j 0)) * d (ix2 k (j 1)) := by
  pointwise [k0_pay2]

theorem out_at (acc : FVec Ideal S32x1024 .f32) (j) : k0_pay3 (F := Ideal) acc j = acc j := by
  pointwise [k0_pay3]

theorem ref_at (x : FVec Ideal S4096x32 .f32) (d : FVec Ideal S4096x1024 .bf16) (prev : FVec Ideal S6176x1024 .bf16) (j) :
    Cert.Reference42Ideal.Read.val_main_v9 (F := Ideal) x d prev j =
      if h : (j 0 : Fin 6176).val < 6144 then prev j
      else ∑ k : Fin 4096, x (ix2 k (⟨(j 0 : Fin 6176).val - 6144, by have h : (j 0 : Fin 6176).val < 6176 := (j 0 : Fin 6176).isLt; omega⟩ : Fin 32)) * d (ix2 k (j 1)) := by
  pointwise [Cert.Reference42Ideal.Read.val_main_v9, Cert.Reference42Ideal.Read.val_main_v8, Cert.Reference42Ideal.Read.val_main_v7,
    Cert.Reference42Ideal.Read.val_main_v6, Cert.Reference42Ideal.Read.val_main_v5, Cert.Reference42Ideal.Read.val_main_v4,
    Cert.Reference42Ideal.Read.val_main_v1]

theorem idx : ∀ t : Fin cfg0.N, win0_0.index t = ![t.val % 4, 0] ∧ win0_1.index t = ![t.val % 4, 0] ∧ win0_2.index t = ![192, 0] :=
  (by decide +kernel : ∀ t : Fin grid0.N, _)

/-- A point that is not a block's first adds its part to what the point before left. -/
theorem next_at (m : (ℓ : Loc nD τ sig) → Buf (Elt Ideal) ℓ) (c : Dev nD) (t : Fin cfg0.N) (h : ¬t.val % 4 = 0) (j) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h1 : t.val % 4 = 3
  · rw [outsAt0_C m c t h h1]; frame_out
    rw [step_at, step_at]; exact congrArg (· + _) (congrFun (Memref.IsWhole.read_unread _ _) _)
  · rw [outsAt0_B m c t h h1]; frame_out
    rw [step_at, step_at]; exact congrArg (· + _) (congrFun (Memref.IsWhole.read_unread _ _) _)

/-- The array the rows are written over. -/
theorem V_prev (m : (ℓ : Loc nD τ sig) → Buf (Elt Ideal) ℓ) (c : Dev nD) : V m c main_v0 = m ((c : Thread nD τ).loc main_arg2) := by
  entry_read
  rfl

theorem final (m : (ℓ : Loc nD τ sig) → Buf (Elt Ideal) ℓ) (c : Dev nD) :
    (dats m 0 c).arrAt 2 (cfgs 0).N = Cert.Reference42Ideal.Read.val_main_v9 (F := Ideal)
      (m ((c : Thread nD τ).loc main_arg0)) (m ((c : Thread nD τ).loc main_arg1)) (m ((c : Thread nD τ).loc main_arg2)) := by
  refine (dats m 0 c).arrAt_eq_of_coversWhere_of_agree 2 _ (fun β => β 0 = 192) (by decide +kernel) (fun t hf y => ?_)
    (fun j hj => ?_)
  · have ht := (flush0_2 t).mp hf
    blk_simp
    have e : ∀ y, (outsAt0 m c t.val t.isLt).1 y = (outsAt0 m c t.val t.isLt).2 y := fun y => by
      rw [outsAt0_C m c t (by omega) ht]; frame_out; rw [out_at]
    rw [after0_2]
    refine (e _).trans ?_
    rw [ref_at, dif_neg (by blk_simp [idx t]; omega)]
    refine Product.run_sum (J := 4) (B := 1024) (fun n h => (outsAt0 m c n h).2) _ (fun t h j => ?_)
      (fun t h j => (next_at m c t h j).trans (step_at _ _ _ j)) rfl t ht _ _ (fun s k hl => ?_)
    · rw [outsAt0_A m c t h (by omega)]; frame_out; rw [step_at, zero_at]
    · blk_point [iblk, V, idx t, idx ⟨_, Pipeline.run_point_lt_of_flush t ht s⟩]
  · blk_simp [Pipeline.Window.cell_apply] at hj
    rw [A_eq, ref_at]
    have hp := congrFun (V_prev m c) ((win0_2.arr.view).emb j)
    have h : (j 0 : Fin 6176).val < 6176 := (j 0 : Fin 6176).isLt
    rw [dif_pos (by blk_simp; omega)]
    exact hp

theorem algebraic : Cert.algebraic_Kernel42Ideal_Reference42Ideal (hKernel42Ideal := Cert.Kernel42Ideal.Gen.facts)
    (hReference42Ideal := Cert.Reference42Ideal.Gen.facts) := by
  pair_intro
  · run_from Cert.Kernel42Ideal.Gen.run_main m g
  · run_from Cert.Reference42Ideal.Value.run m' g'
    rw [Cert.Reference42Ideal.Read.val_main_v9_eq, (hagree c).2.2]
    exact (final m c).symm

end Cert.InDtDw
-- ==== Proof.Prod.InDtDx.lean ====
/- The last part of the gradient of the SSD mixer's input, added to the others, and the gradient of the norm before it. -/
import proofs.«01_k».proof.Defs
import proofs.«01_k».proof.Proof.Product
import proofs.«01_k».proof.Proof.Norm
import proofs.«01_k».proof.Proof.Gen.Kernel43Ideal.Value
import proofs.«01_k».proof.Proof.Gen.Reference43Ideal.Run
import proofs.«01_k».proof.Proof.Gen.Reference43Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel43Ideal Cert.Kernel43Ideal.Gen
namespace Cert.InDtDx

theorem zero_at (j) : k0_pay1 (F := Ideal) j = 0 := by
  pointwise [k0_pay1]

theorem zero_dw_at (j) : k0_pay2 (F := Ideal) j = 0 := by
  pointwise [k0_pay2]

theorem step_at (acc : FVec Ideal S1024x1024 .f32) (d : FVec Ideal S1024x128 .f32) (w : FVec Ideal S128x1024 .bf16) (j) :
    k0_pay3 (F := Ideal) acc d w j = acc j + ∑ k : Fin 128, d (ix2 (j 0) k) * w (ix2 k (j 1)) := by
  pointwise [k0_pay3]

theorem dx_at (acc res x : FVec Ideal S1024x1024 .f32) (w : FVec Ideal S1x1024 .f32) (dres : FVec Ideal S1024x1024 .f32) (j) :
    k0_pay7 (F := Ideal) acc res x w dres j = dres j + Norm.dx (fun k => x (ix2 (j 0) k))
      (fun k => (acc (ix2 (j 0) k) + res (ix2 (j 0) k)) * w (ix2 0 k)) (j 1) := by
  idx_vars j
  pointwise [k0_pay7, k0_pay4, k0_pay5, k0_pay6, Norm.dx, Norm.rs]

/-- What a row `r` of a block adds to the weight's gradient in column `q`. -/
def row (acc res x : FVec Ideal S1024x1024 .f32) (q r : Fin 1024) : EReal :=
  (acc (ix2 r q) + res (ix2 r q)) * (x (ix2 r q) * Norm.rs (fun k => x (ix2 r k)))

theorem dw_at (acc res x : FVec Ideal S1024x1024 .f32) (dw : FVec Ideal S1x1024 .f32) (j) :
    k0_pay8 (F := Ideal) acc res x dw j = dw j + ∑ r, row acc res x (j 1) r := by
  pointwise [row, k0_pay8, k0_pay4, k0_pay5, k0_pay6, Norm.rs]

theorem dh_at (d : FVec Ideal S4096x128 .f32) (wt : FVec Ideal S128x1024 .bf16) (res : FVec Ideal S4096x1024 .f32) (j) :
    Cert.Reference43Ideal.Read.val_main_v5 (F := Ideal) d wt res j = res j + ∑ k : Fin 128, d (ix2 (j 0) k) * wt (ix2 k (j 1)) := by
  pointwise [Cert.Reference43Ideal.Read.val_main_v5, Cert.Reference43Ideal.Read.val_main_v4,
    Cert.Reference43Ideal.Read.val_main_v2, Cert.Reference43Ideal.Read.val_main_v1]

open Cert.Reference43Ideal.Read in
theorem ref_dx_at (d : FVec Ideal S4096x128 .f32) (wt : FVec Ideal S128x1024 .bf16) (x : FVec Ideal S4096x1024 .f32)
    (w : FVec Ideal S1x1024 .f32) (dres res : FVec Ideal S4096x1024 .f32) (j) :
    val_main_v40 (F := Ideal) d wt x w dres res j = dres j + Norm.dx (fun k => x (ix2 (j 0) k))
      (fun k => val_main_v5 (F := Ideal) d wt res (ix2 (j 0) k) * w (ix2 0 k)) (j 1) := by
  refine Eq.trans ?_ (congrArg (dres j + ·) (Norm.dx_eq _ _ _).symm)
  pointwise [val_main_v40, val_main_v39, val_main_v38, val_main_v37, val_main_v36,
    val_main_v35, val_main_v34, val_main_v33, val_main_v32, val_main_v31, val_main_v30, val_main_v29, val_main_v28, val_main_v27,
    val_main_v26, val_main_v25, val_main_v24, val_main_v17, val_main_v16, val_main_v15, val_main_v14, val_main_v13, val_main_v12,
    val_main_v11, val_main_v10, val_main_v9, val_main_v8, val_main_v7, val_main_v6, val_main_cst_0, val_main_cst_1, val_main_cst_2,
    val_main_cst_3, val_main_cst_5, val_main_cst_6, val_main_cst_7, Norm.through, Norm.rs]
  simp only [Fin.sum_univ_one]

/-- What a row `r` adds to the weight's gradient in column `q`, in the reference. -/
def ref_row (d : FVec Ideal S4096x128 .f32) (wt : FVec Ideal S128x1024 .bf16) (x res : FVec Ideal S4096x1024 .f32) (q : Fin 1024) (r : Fin 4096) : EReal :=
  x (ix2 r q) * Norm.rs (fun k => x (ix2 r k)) * Cert.Reference43Ideal.Read.val_main_v5 (F := Ideal) d wt res (ix2 r q)

open Cert.Reference43Ideal.Read in
theorem ref_dw_at (d : FVec Ideal S4096x128 .f32) (wt : FVec Ideal S128x1024 .bf16) (x res : FVec Ideal S4096x1024 .f32) (j) :
    val_main_v23 (F := Ideal) d wt x res j = ∑ r, ref_row d wt x res (j 1) r := by
  pointwise [ref_row, val_main_v23, val_main_v22, val_main_v21, val_main_v18, val_main_v17, val_main_v13,
    val_main_v12, val_main_v11, val_main_v10, val_main_v9, val_main_v8, val_main_v7, val_main_v6, val_main_cst_0, val_main_cst_1,
    val_main_cst_2, val_main_cst_4, Norm.rs]

theorem idx : ∀ t : Fin cfg0.N, win0_0.index t = ![t.val, 0] ∧ win0_1.index t = ![0, 0] ∧
    win0_2.index t = ![t.val, 0] ∧ win0_3.index t = ![0, 0] ∧ win0_4.index t = ![t.val, 0] ∧
    win0_5.index t = ![t.val, 0] ∧ win0_6.index t = ![t.val, 0] ∧ win0_7.index t = ![0, 0] :=
  (by decide +kernel : ∀ t : Fin grid0.N, _)

/-- The product of a block's rows. -/
def dh (m : (ℓ : Loc nD τ sig) → Buf (Elt Ideal) ℓ) (c : Dev nD) (t : Fin cfg0.N) : FVec Ideal S1024x1024 .f32 :=
  k0_pay3 (F := Ideal) (k0_pay1 (F := Ideal)) (iblk m c 0 t) (iblk m c 1 t)

theorem whole_at (m : (ℓ : Loc nD τ sig) → Buf (Elt Ideal) ℓ) (c : Dev nD) (t : Fin cfg0.N) (j : S1024x1024.Idx)
    (r : Fin 4096) (hr : r.val = t.val * 1024 + (j 0 : Fin 1024).val) :
    dh m c t j + iblk m c 5 t j = Cert.Reference43Ideal.Read.val_main_v5 (F := Ideal)
      (m ((c : Thread nD τ).loc main_arg0)) (m ((c : Thread nD τ).loc main_arg1)) (m ((c : Thread nD τ).loc main_arg5)) (ix2 r (j 1 : Fin 1024)) := by
  unfold dh
  rw [step_at, zero_at, zero_add, dh_at, add_comm]
  refine congrArg₂ (· + ·) ?_ (Product.sum_eq fun k => ?_)
  · blk_ext [iblk, V, idx t, hr]
  · blk_point [iblk, V, idx t, hr]

theorem dx_point (m : (ℓ : Loc nD τ sig) → Buf (Elt Ideal) ℓ) (c : Dev nD) (t : Fin cfg0.N) (j) :
    (outsAt0 m c t.val t.isLt).1 j = k0_pay7 (F := Ideal) (dh m c t) (iblk m c 5 t) (iblk m c 2 t) (iblk m c 3 t) (iblk m c 4 t) j := by
  by_cases h : t.val % 4 = 0
  · rw [outsAt0_A m c t h]; frame_out; rfl
  · rw [outsAt0_B m c t h]; frame_out; rfl

theorem final_dx (m : (ℓ : Loc nD τ sig) → Buf (Elt Ideal) ℓ) (c : Dev nD) :
    (dats m 0 c).arrAt 6 (cfgs 0).N = Cert.Reference43Ideal.Read.val_main_v40 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine (dx_point m c t y).trans ?_
  rw [dx_at, ref_dx_at]
  refine congrArg₂ (· + ·) ?_ (Norm.dx_congr (fun k => ?_) (fun k => congrArg₂ (· * ·) ?_ ?_) ?_)
  · blk_ext [iblk, V, idx t]
  · blk_ext [iblk, V, idx t]
  · exact whole_at m c t (ix2 (y 0) k) _ (by blk_simp [idx t])
  · blk_ext [iblk, V, idx t]
  · exact Fin.ext (by blk_simp [idx t])

/-- The rows of a point's block. -/
def rows (m : (ℓ : Loc nD τ sig) → Buf (Elt Ideal) ℓ) (c : Dev nD) (t : Fin cfg0.N) (j : S1x1024.Idx) : Fin 1024 → EReal :=
  row (dh m c t) (iblk m c 5 t) (iblk m c 2 t) (j 1)

theorem rows_at (m : (ℓ : Loc nD τ sig) → Buf (Elt Ideal) ℓ) (c : Dev nD) (t : Fin cfg0.N) (j : S1x1024.Idx)
    (k : Fin 1024) (r : Fin 4096) (hr : r.val = t.val * 1024 + k.val) :
    rows m c t j k = ref_row (m ((c : Thread nD τ).loc main_arg0)) (m ((c : Thread nD τ).loc main_arg1)) (m ((c : Thread nD τ).loc main_arg2)) (m ((c : Thread nD τ).loc main_arg5)) (j 1) r := by
  unfold rows row ref_row
  rw [mul_comm]
  refine congrArg₂ (· * ·) (congrArg₂ (· * ·) ?_ (Norm.rs_congr fun q => ?_)) (whole_at m c t (ix2 k (j 1)) r hr)
  · blk_ext [iblk, V, idx t, hr]
  · blk_ext [iblk, V, idx t, hr]

theorem dw_first (m : (ℓ : Loc nD τ sig) → Buf (Elt Ideal) ℓ) (c : Dev nD) (t : Fin cfg0.N) (h : t.val % 4 = 0) (j) :
    (outsAt0 m c t.val t.isLt).2 j = k0_pay8 (F := Ideal) (dh m c t) (iblk m c 5 t) (iblk m c 2 t) (k0_pay2 (F := Ideal)) j := by
  rw [outsAt0_A m c t h]; frame_out; rfl

theorem dw_next (m : (ℓ : Loc nD τ sig) → Buf (Elt Ideal) ℓ) (c : Dev nD) (t : Fin cfg0.N) (h : ¬t.val % 4 = 0) (j) :
    (outsAt0 m c t.val t.isLt).2 j = k0_pay8 (F := Ideal) (dh m c t) (iblk m c 5 t) (iblk m c 2 t)
      (outsAt0 m c (t.val - 1) (Nat.lt_of_le_of_lt (Nat.sub_le _ _) t.isLt)).2 j := by
  rw [outsAt0_B m c t h]; frame_out; rfl

theorem final_dw (m : (ℓ : Loc nD τ sig) → Buf (Elt Ideal) ℓ) (c : Dev nD) :
    (dats m 0 c).arrAt 7 (cfgs 0).N = Cert.Reference43Ideal.Read.val_main_v23 (F := Ideal)
      (m ((c : Thread nD τ).loc main_arg0)) (m ((c : Thread nD τ).loc main_arg1)) (m ((c : Thread nD τ).loc main_arg2)) (m ((c : Thread nD τ).loc main_arg5)) := by
  refine (dats m 0 c).arrAt_eq_of_covers 7 _ (by decide +kernel) fun t hf y => ?_
  have ht := (flush0_7 t).mp hf
  blk_simp
  have hy : ((win0_7.blk t).view.emb y) 1 = y 1 := Fin.ext (by blk_simp [idx t])
  rw [after0_7, ref_dw_at, hy]
  refine Product.run_sum (J := 4) (B := 1024) (K := 4096) (fun n h => (outsAt0 m c n h).2) (rows m c)
    (fun t h j => (dw_first m c t h j).trans ((dw_at _ _ _ _ j).trans (congrArg (· + _) (zero_dw_at j))))
    (fun t h j => (dw_next m c t h j).trans (dw_at _ _ _ _ j)) rfl t ht y _ (fun s k hl => ?_)
  have hd : t.val / 4 = 0 := Nat.div_eq_of_lt (Nat.lt_of_lt_of_eq t.isLt N_0)
  exact rows_at m c ⟨4 * (t.val / 4) + s.val, Pipeline.run_point_lt_of_flush t ht s⟩ y k ⟨s.val * 1024 + k.val, hl⟩
    (show s.val * 1024 + k.val = (4 * (t.val / 4) + s.val) * 1024 + k.val by omega)

theorem algebraic : Cert.algebraic_Kernel43Ideal_Reference43Ideal (hKernel43Ideal := Cert.Kernel43Ideal.Gen.facts)
    (hReference43Ideal := Cert.Reference43Ideal.Gen.facts) := by
  pair_intro
  · run_from Cert.Kernel43Ideal.Gen.run_main m g
  · refine θ_run_mono (Cert.Reference43Ideal.Value.run m' g') ?_
    intro r hr c
    refine ⟨(hr c).1.trans ?_, (hr c).2.1.trans ?_, (hr c).2.2⟩
    · rw [Cert.Reference43Ideal.Read.val_main_v40_eq, (hagree c).1, (hagree c).2.1, (hagree c).2.2.1, (hagree c).2.2.2.1, (hagree c).2.2.2.2.1, (hagree c).2.2.2.2.2]
      exact (final_dx m c).symm
    · refine (Cert.Reference43Ideal.Read.val_main_v23_eq _ _ _ _).trans ?_
      rw [(hagree c).1, (hagree c).2.1, (hagree c).2.2.1, (hagree c).2.2.2.2.2]
      exact (final_dw m c).symm

end Cert.InDtDx
-- ==== Proof.Rows.NormFwd.lean ====
/- The norm alone, a block of rows at each point. -/
import proofs.«01_k».proof.Defs
import proofs.«01_k».proof.Proof.Product
import proofs.«01_k».proof.Proof.Norm
import proofs.«01_k».proof.Proof.Gen.Kernel44Ideal.Value
import proofs.«01_k».proof.Proof.Gen.Reference44Ideal.Run
import proofs.«01_k».proof.Proof.Gen.Reference44Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel44Ideal Cert.Kernel44Ideal.Gen
namespace Cert.NormFwd

theorem norm_at (x : FVec Ideal S512x1024 .f32) (w : FVec Ideal S1x1024 .f32) (j) :
    k0_pay1 (F := Ideal) x w j = x j * Norm.rs (fun k => x (ix2 (j 0) k)) * w (ix2 0 (j 1)) := by
  idx_vars j
  pointwise [k0_pay1, Norm.rs]

open Cert.Reference44Ideal.Read in
theorem ref_at (x : FVec Ideal S4096x1024 .f32) (w : FVec Ideal S1x1024 .f32) (j) :
    val_main_v12 (F := Ideal) x w j = x j * Norm.rs (fun k => x (ix2 (j 0) k)) * w (ix2 0 (j 1)) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, Norm.rs]

theorem idx : ∀ t : Fin cfg0.N, win0_0.index t = ![t.val, 0] ∧ win0_1.index t = ![0, 0] ∧ win0_2.index t = ![t.val, 0] :=
  (by decide +kernel : ∀ t : Fin grid0.N, _)

theorem final (m : (ℓ : Loc nD τ sig) → Buf (Elt Ideal) ℓ) (c : Dev nD) :
    (dats m 0 c).arrAt 2 (cfgs 0).N = Cert.Reference44Ideal.Read.val_main_v12 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]; unfold out0_2; frame_out
  rw [norm_at, ref_at]
  refine congrArg₂ (· * ·) (congrArg₂ (· * ·) ?_ (Norm.rs_congr fun k => ?_)) ?_
  · blk_ext [iblk, V, idx t]
  · blk_ext [iblk, V, idx t]
  · blk_ext [iblk, V, idx t]

theorem algebraic : Cert.algebraic_Kernel44Ideal_Reference44Ideal (hKernel44Ideal := Cert.Kernel44Ideal.Gen.facts)
    (hReference44Ideal := Cert.Reference44Ideal.Gen.facts) := by
  pair_intro
  · run_from Cert.Kernel44Ideal.Gen.run_main m g
  · run_from Cert.Reference44Ideal.Value.run m' g'
    exact (Cert.Reference44Ideal.Read.val_main_v12_eq _ _).trans (final m c).symm

end Cert.NormFwd
-- ==== Proof.Rows.FinalLoss.lean ====
/- Each device's loss of the final norm's output and the gradients of the norm's input and weight. -/
import proofs.«01_k».proof.Defs
import proofs.«01_k».proof.Proof.Product
import proofs.«01_k».proof.Proof.Norm
import proofs.«01_k».proof.Proof.Gen.Kernel45Ideal.Value
import proofs.«01_k».proof.Proof.Gen.Reference45Ideal.Run
import proofs.«01_k».proof.Proof.Gen.Reference45Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel45Ideal Cert.Kernel45Ideal.Gen
namespace Cert.FinalLoss

/-- A row's difference from its target in column `q`. -/
def err (x w t : Fin 1024 → EReal) (q : Fin 1024) : EReal := x q * Norm.rs x * w q - t q

/-- The gradient of the loss with respect to the norm's output, as the kernel computes it. -/
def dh (x w t : Fin 1024 → EReal) (q : Fin 1024) : EReal := err x w t q * Ideal.ofBits .f32 0x3A800000#32

/-- The mean square of a row's differences. -/
def mean (x w t : Fin 1024 → EReal) : EReal :=
  Ideal.div (∑ k, err x w t k * err x w t k) (Ideal.ofBits .f32 1149239296#32)

theorem err_congr {x x' w w' t t' : Fin 1024 → EReal} {q q' : Fin 1024} (hx : ∀ k, x k = x' k) (hw : ∀ k, w k = w' k)
    (ht : ∀ k, t k = t' k) (hq : q = q') : err x w t q = err x' w' t' q' := by
  rw [funext hx, funext hw, funext ht, hq]

theorem mean_congr {x x' w w' t t' : Fin 1024 → EReal} (hx : ∀ k, x k = x' k) (hw : ∀ k, w k = w' k)
    (ht : ∀ k, t k = t' k) : mean x w t = mean x' w' t' := by
  rw [funext hx, funext hw, funext ht]

theorem half : Ideal.ofBits .f32 0x3F000000#32 = ((1 / 2 : ℝ) : EReal) := by
  simp [Ideal.ofBits, Ideal.ieee]
  norm_num
  rw [← EReal.coe_mul]
  norm_num

theorem one : Ideal.ofBits .f32 0x3F800000#32 = ((1 : ℝ) : EReal) := by
  simp [Ideal.ofBits, Ideal.ieee]
  norm_num
  rw [← EReal.coe_mul]
  norm_num

theorem two : Ideal.ofBits .f32 0x40000000#32 = ((2 : ℝ) : EReal) := by
  simp [Ideal.ofBits, Ideal.ieee]
  norm_num
  rw [← EReal.coe_mul]
  norm_num

theorem scale : Ideal.ofBits .f32 0x3A800000#32 = ((1 / 1024 : ℝ) : EReal) := by
  simp [Ideal.ofBits, Ideal.ieee]
  norm_num
  rw [← EReal.coe_mul]
  norm_num

/-- The gradient of half the mean square, as `jax.value_and_grad` gives it. -/
theorem scaled (e : EReal) : Ideal.div (Ideal.ofBits .f32 0x3F000000#32 * Ideal.ofBits .f32 0x3F800000#32) (Ideal.ofBits .f32 1149239296#32)
    * (Ideal.ofBits .f32 0x40000000#32 * e) = e * Ideal.ofBits .f32 0x3A800000#32 := by
  rw [half, one, two, scale, Norm.width, Ideal.div_coe (by norm_num), ← EReal.coe_mul, ← EReal.coe_mul, ← mul_assoc, ← EReal.coe_mul, mul_comm]
  congr 2
  norm_num

theorem zero_dw_at (j) : k0_pay2 (F := Ideal) j = 0 := by
  pointwise [k0_pay2]

theorem zero_loss_at (j) : k0_pay3 (F := Ideal) j = 0 := by
  pointwise [k0_pay3]

theorem err_at (x : FVec Ideal S512x1024 .f32) (w : FVec Ideal S1x1024 .f32) (t : FVec Ideal S512x1024 .f32) (j) :
    k0_pay6 (F := Ideal) x w t j = err (fun k => x (ix2 (j 0) k)) (fun k => w (ix2 0 k)) (fun k => t (ix2 (j 0) k)) (j 1) := by
  idx_vars j
  pointwise [k0_pay6, k0_pay10, k0_pay9, err, Norm.rs]

theorem loss_at (x : FVec Ideal S512x1024 .f32) (w : FVec Ideal S1x1024 .f32) (t : FVec Ideal S512x1024 .f32) (acc : FVec Ideal S1x128 .f32) (j) :
    k0_pay5 (F := Ideal) (k0_pay7 (F := Ideal) x w t) acc j = acc j + Ideal.ofBits .f32 0x3F000000#32
      * ∑ r : Fin 512, mean (fun k => x (ix2 r k)) (fun k => w (ix2 0 k)) (fun k => t (ix2 r k)) := by
  idx_vars j
  pointwise [k0_pay5, k0_pay7, k0_pay6, k0_pay10, k0_pay9, mean, err, Norm.rs]

theorem dx_at (x : FVec Ideal S512x1024 .f32) (w : FVec Ideal S1x1024 .f32) (t : FVec Ideal S512x1024 .f32) (j) :
    k0_pay1 (F := Ideal) (k0_pay9 (F := Ideal) x) (k0_pay10 (F := Ideal) x) (k0_pay11 (F := Ideal) x w t) (k0_pay12 (F := Ideal) x w t) j
      = Norm.dx (fun k => x (ix2 (j 0) k)) (fun q => dh (fun k => x (ix2 (j 0) k)) (fun k => w (ix2 0 k)) (fun k => t (ix2 (j 0) k)) q * w (ix2 0 q)) (j 1) := by
  idx_vars j
  pointwise [k0_pay1, k0_pay12, k0_pay11, k0_pay8, k0_pay6, k0_pay10, k0_pay9, Norm.dx, dh, err, Norm.rs]

/-- What a row `r` of a block adds to the weight's gradient in column `q`. -/
def row (x : FVec Ideal S512x1024 .f32) (w : FVec Ideal S1x1024 .f32) (t : FVec Ideal S512x1024 .f32) (q : Fin 1024) (r : Fin 512) : EReal :=
  dh (fun k => x (ix2 r k)) (fun k => w (ix2 0 k)) (fun k => t (ix2 r k)) q * (x (ix2 r q) * Norm.rs (fun k => x (ix2 r k)))

theorem dw_at (x : FVec Ideal S512x1024 .f32) (w : FVec Ideal S1x1024 .f32) (t : FVec Ideal S512x1024 .f32) (acc : FVec Ideal S1x1024 .f32) (j) :
    k0_pay4 (F := Ideal) (k0_pay8 (F := Ideal) x w t) (k0_pay10 (F := Ideal) x) acc j = acc j + ∑ r, row x w t (j 1) r := by
  idx_vars j
  pointwise [k0_pay4, k0_pay8, k0_pay6, k0_pay10, k0_pay9, row, dh, err, Norm.rs]

section Reference
open Cert.Reference45Ideal.Read

theorem ref_err_at (x : FVec Ideal S4096x1024 .f32) (w : FVec Ideal S1x1024 .f32) (t : FVec Ideal S4096x1024 .f32) (j) :
    val_main_v15 (F := Ideal) x w t j = err (fun k => x (ix2 (j 0) k)) (fun k => w (ix2 0 k)) (fun k => t (ix2 (j 0) k)) (j 1) := by
  idx_vars j
  pointwise [val_main_v15, val_main_v14, val_main_v13, val_main_v12, val_main_v11, val_main_v9, val_main_v7, val_main_v6,
    val_main_v5, val_main_v4, val_main_v3, val_main_v2, val_main_v1, val_main_v0, val_main_cst, val_main_cst_0, val_main_cst_1, err, Norm.rs]

theorem ref_dh_at (x : FVec Ideal S4096x1024 .f32) (w : FVec Ideal S1x1024 .f32) (t : FVec Ideal S4096x1024 .f32) (j) :
    val_main_v29 (F := Ideal) x w t j = dh (fun k => x (ix2 (j 0) k)) (fun k => w (ix2 0 k)) (fun k => t (ix2 (j 0) k)) (j 1) := by
  unfold dh
  rw [← ref_err_at, ← scaled]
  pointwise [val_main_v29, val_main_v28, val_main_v27, val_main_v26, val_main_v25, val_main_v24, val_main_v18, val_main_v17,
    val_main_cst_3, val_main_cst_8, val_main_cst_9, val_main_cst_10]

theorem ref_loss_at (x : FVec Ideal S4096x1024 .f32) (w : FVec Ideal S1x1024 .f32) (t : FVec Ideal S4096x1024 .f32) (j) :
    val_main_v49 (F := Ideal) x w t j = Ideal.ofBits .f32 0x3F000000#32
      * ∑ r : Fin 4096, mean (fun k => x (ix2 r k)) (fun k => w (ix2 0 k)) (fun k => t (ix2 r k)) := by
  have h : ∀ r : Fin 4096, mean (fun k => x (ix2 r k)) (fun k => w (ix2 0 k)) (fun k => t (ix2 r k))
      = Ideal.div (∑ q : Fin 1024, val_main_v15 (F := Ideal) x w t (ix2 r q) * val_main_v15 (F := Ideal) x w t (ix2 r q)) (Ideal.ofBits .f32 1149239296#32) := fun r => by
    unfold mean
    exact congrArg (Ideal.div · _) (Product.sum_eq fun q => by rw [ref_err_at]; rfl)
  rw [Product.sum_eq h]
  pointwise [val_main_v49, val_main_v23, val_main_v22, val_main_v21, val_main_v20, val_main_v19, val_main_v16,
    val_main_cst_4, val_main_cst_5, val_main_cst_6, val_main_cst_7]

theorem ref_dx_at (x : FVec Ideal S4096x1024 .f32) (w : FVec Ideal S1x1024 .f32) (t : FVec Ideal S4096x1024 .f32) (j) :
    val_main_v48 (F := Ideal) x w t j
      = Norm.dx (fun k => x (ix2 (j 0) k)) (fun q => val_main_v29 (F := Ideal) x w t (ix2 (j 0) q) * w (ix2 0 q)) (j 1) := by
  refine Eq.trans ?_ (Norm.dx_eq _ _ _).symm
  pointwise [val_main_v48, val_main_v47, val_main_v46, val_main_v45, val_main_v44, val_main_v43, val_main_v42, val_main_v41,
    val_main_v40, val_main_v39, val_main_v38, val_main_v37, val_main_v36, val_main_v35, val_main_v34, val_main_v33,
    val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_12, val_main_cst_13, val_main_cst_14, Norm.through, Norm.rs]
  simp only [Fin.sum_univ_one]

/-- What a row `r` adds to the weight's gradient in column `q`, in the reference. -/
def ref_row (x : FVec Ideal S4096x1024 .f32) (w : FVec Ideal S1x1024 .f32) (t : FVec Ideal S4096x1024 .f32) (q : Fin 1024) (r : Fin 4096) : EReal :=
  x (ix2 r q) * Norm.rs (fun k => x (ix2 r k)) * val_main_v29 (F := Ideal) x w t (ix2 r q)

theorem ref_dw_at (x : FVec Ideal S4096x1024 .f32) (w : FVec Ideal S1x1024 .f32) (t : FVec Ideal S4096x1024 .f32) (j) :
    val_main_v32 (F := Ideal) x w t j = ∑ r, ref_row x w t (j 1) r := by
  pointwise [ref_row, val_main_v32, val_main_v31, val_main_v30, val_main_v12, val_main_v11, val_main_v9, val_main_v7, val_main_v6,
    val_main_v5, val_main_v4, val_main_v3, val_main_v2, val_main_v1, val_main_v0, val_main_cst, val_main_cst_0, val_main_cst_1,
    val_main_cst_11, Norm.rs]

end Reference

theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![0, 0] :=
  (by decide +kernel : ∀ t : Fin grid0.N, _)

/-- A row of a point's block is a row of the array. -/
theorem row_at (m : (ℓ : Loc nD τ sig) → Buf (Elt Ideal) ℓ) (c : Dev nD) (t : Fin cfg0.N) (r : Fin 512)
    (l : Fin 4096) (hl : l.val = t.val * 512 + r.val) (k : Fin 1024) :
    iblk m c 0 t (ix2 r k) = m ((c : Thread nD τ).loc main_arg0) (ix2 l k) := by
  blk_ext [iblk, V, idx t, hl]

theorem weight_at (m : (ℓ : Loc nD τ sig) → Buf (Elt Ideal) ℓ) (c : Dev nD) (t : Fin cfg0.N) (k : Fin 1024) :
    iblk m c 1 t (ix2 0 k) = m ((c : Thread nD τ).loc main_arg1) (ix2 0 k) := by
  blk_ext [iblk, V, idx t]

theorem target_at (m : (ℓ : Loc nD τ sig) → Buf (Elt Ideal) ℓ) (c : Dev nD) (t : Fin cfg0.N) (r : Fin 512)
    (l : Fin 4096) (hl : l.val = t.val * 512 + r.val) (k : Fin 1024) :
    iblk m c 2 t (ix2 r k) = m ((c : Thread nD τ).loc main_arg2) (ix2 l k) := by
  blk_ext [iblk, V, idx t, hl]

theorem dh_row (m : (ℓ : Loc nD τ sig) → Buf (Elt Ideal) ℓ) (c : Dev nD) (t : Fin cfg0.N) (r : Fin 512)
    (l : Fin 4096) (hl : l.val = t.val * 512 + r.val) (q : Fin 1024) :
    dh (fun k => iblk m c 0 t (ix2 r k)) (fun k => iblk m c 1 t (ix2 0 k)) (fun k => iblk m c 2 t (ix2 r k)) q
      = Cert.Reference45Ideal.Read.val_main_v29 (F := Ideal) (m ((c : Thread nD τ).loc main_arg0))
        (m ((c : Thread nD τ).loc main_arg1)) (m ((c : Thread nD τ).loc main_arg2)) (ix2 l q) := by
  rw [ref_dh_at]
  exact congrArg (· * _) (err_congr (row_at m c t r l hl) (weight_at m c t) (target_at m c t r l hl) rfl)

theorem dx_point (m : (ℓ : Loc nD τ sig) → Buf (Elt Ideal) ℓ) (c : Dev nD) (t : Fin cfg0.N) (j) :
    (outsAt0 m c t.val t.isLt).2.1 j = k0_pay1 (F := Ideal) (k0_pay9 (F := Ideal) (iblk m c 0 t)) (k0_pay10 (F := Ideal) (iblk m c 0 t))
      (k0_pay11 (F := Ideal) (iblk m c 0 t) (iblk m c 1 t) (iblk m c 2 t)) (k0_pay12 (F := Ideal) (iblk m c 0 t) (iblk m c 1 t) (iblk m c 2 t)) j := by
  by_cases h : t.val % 8 = 0
  · rw [outsAt0_A m c t h]; frame_out
  · rw [outsAt0_B m c t h]; frame_out

theorem final_dx (m : (ℓ : Loc nD τ sig) → Buf (Elt Ideal) ℓ) (c : Dev nD) :
    (dats m 0 c).arrAt 4 (cfgs 0).N = Cert.Reference45Ideal.Read.val_main_v48 (F := Ideal)
      (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (dx_point m c t y).trans ?_
  rw [dx_at, ref_dx_at]
  refine Norm.dx_congr (fun k => ?_) (fun k => congrArg₂ (· * ·) ?_ ?_) ?_
  · exact row_at m c t (y 0) _ (by blk_simp [idx t]) k
  · exact dh_row m c t (y 0) _ (by blk_simp [idx t]) k
  · exact weight_at m c t k
  · exact Fin.ext (by blk_simp [idx t])

/-- What the rows of a point's block add to the weight's gradient. -/
def rows (m : (ℓ : Loc nD τ sig) → Buf (Elt Ideal) ℓ) (c : Dev nD) (t : Fin cfg0.N) (j : S1x1024.Idx) (r : Fin 512) : EReal :=
  row (iblk m c 0 t) (iblk m c 1 t) (iblk m c 2 t) (j 1) r

theorem rows_at (m : (ℓ : Loc nD τ sig) → Buf (Elt Ideal) ℓ) (c : Dev nD) (t : Fin cfg0.N) (j : S1x1024.Idx) (r : Fin 512)
    (l : Fin 4096) (hl : l.val = t.val * 512 + r.val) :
    rows m c t j r = ref_row (m ((c : Thread nD τ).loc main_arg0)) (m ((c : Thread nD τ).loc main_arg1))
      (m ((c : Thread nD τ).loc main_arg2)) (j 1) l := by
  unfold rows row ref_row
  rw [mul_comm]
  exact congrArg₂ (· * ·) (congrArg₂ (· * ·) (row_at m c t r l hl (j 1)) (Norm.rs_congr (row_at m c t r l hl))) (dh_row m c t r l hl (j 1))

theorem dw_first (m : (ℓ : Loc nD τ sig) → Buf (Elt Ideal) ℓ) (c : Dev nD) (t : Fin cfg0.N) (h : t.val % 8 = 0) (j) :
    (outsAt0 m c t.val t.isLt).2.2 j = k0_pay4 (F := Ideal) (k0_pay8 (F := Ideal) (iblk m c 0 t) (iblk m c 1 t) (iblk m c 2 t))
      (k0_pay10 (F := Ideal) (iblk m c 0 t)) (k0_pay2 (F := Ideal)) j := by
  rw [outsAt0_A m c t h]; frame_out

theorem dw_next (m : (ℓ : Loc nD τ sig) → Buf (Elt Ideal) ℓ) (c : Dev nD) (t : Fin cfg0.N) (h : ¬t.val % 8 = 0) (j) :
    (outsAt0 m c t.val t.isLt).2.2 j = k0_pay4 (F := Ideal) (k0_pay8 (F := Ideal) (iblk m c 0 t) (iblk m c 1 t) (iblk m c 2 t))
      (k0_pay10 (F := Ideal) (iblk m c 0 t)) (outsAt0 m c (t.val - 1) (Nat.lt_of_le_of_lt (Nat.sub_le _ _) t.isLt)).2.2 j := by
  rw [outsAt0_B m c t h]; frame_out

theorem final_dw (m : (ℓ : Loc nD τ sig) → Buf (Elt Ideal) ℓ) (c : Dev nD) :
    (dats m 0 c).arrAt 5 (cfgs 0).N = Cert.Reference45Ideal.Read.val_main_v32 (F := Ideal)
      (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := (flush0_5 t).mp hf
  blk_simp
  have hy : ((win0_5.blk t).view.emb y) 1 = y 1 := Fin.ext (by blk_simp [idx t])
  rw [after0_5, ref_dw_at, hy]
  refine Product.run_sum (J := 8) (B := 512) (K := 4096) (fun n h => (outsAt0 m c n h).2.2) (rows m c)
    (fun t h j => (dw_first m c t h j).trans ((dw_at _ _ _ _ j).trans (congrArg (· + _) (zero_dw_at j))))
    (fun t h j => (dw_next m c t h j).trans (dw_at _ _ _ _ j)) rfl t ht y _ (fun s k hl => ?_)
  have hd : t.val / 8 = 0 := Nat.div_eq_of_lt (Nat.lt_of_lt_of_eq t.isLt N_0)
  exact rows_at m c ⟨8 * (t.val / 8) + s.val, Pipeline.run_point_lt_of_flush t ht s⟩ y k ⟨s.val * 512 + k.val, hl⟩
    (show s.val * 512 + k.val = (8 * (t.val / 8) + s.val) * 512 + k.val by omega)

/-- What the rows of a point's block add to the loss. -/
def losses (m : (ℓ : Loc nD τ sig) → Buf (Elt Ideal) ℓ) (c : Dev nD) (t : Fin cfg0.N) (j : S1x128.Idx) (r : Fin 512) : EReal :=
  mean (fun k => iblk m c 0 t (ix2 r k)) (fun k => iblk m c 1 t (ix2 0 k)) (fun k => iblk m c 2 t (ix2 r k)) * ((1 / 2 : ℝ) : EReal)

/-- The half goes into the sum. -/
theorem half_sum {K : ℕ} (f : Fin K → EReal) : Ideal.ofBits .f32 0x3F000000#32 * ∑ r, f r = ∑ r, f r * ((1 / 2 : ℝ) : EReal) := by
  rw [half, mul_comm, Norm.sum_mul_real f (by norm_num)]

theorem loss_first (m : (ℓ : Loc nD τ sig) → Buf (Elt Ideal) ℓ) (c : Dev nD) (t : Fin cfg0.N) (h : t.val % 8 = 0) (j) :
    (outsAt0 m c t.val t.isLt).1 j = 0 + ∑ r, losses m c t j r := by
  refine Eq.trans (b := k0_pay5 (F := Ideal) (k0_pay7 (F := Ideal) (iblk m c 0 t) (iblk m c 1 t) (iblk m c 2 t)) (k0_pay3 (F := Ideal)) j) ?_ ?_
  · rw [outsAt0_A m c t h]; frame_out
  · rw [loss_at, zero_loss_at, half_sum]; rfl

theorem loss_next (m : (ℓ : Loc nD τ sig) → Buf (Elt Ideal) ℓ) (c : Dev nD) (t : Fin cfg0.N) (h : ¬t.val % 8 = 0) (j) :
    (outsAt0 m c t.val t.isLt).1 j = (outsAt0 m c (t.val - 1) (Nat.lt_of_le_of_lt (Nat.sub_le _ _) t.isLt)).1 j + ∑ r, losses m c t j r := by
  refine Eq.trans (b := k0_pay5 (F := Ideal) (k0_pay7 (F := Ideal) (iblk m c 0 t) (iblk m c 1 t) (iblk m c 2 t))
    (outsAt0 m c (t.val - 1) (Nat.lt_of_le_of_lt (Nat.sub_le _ _) t.isLt)).1 j) ?_ ?_
  · rw [outsAt0_B m c t h]; frame_out
  · rw [loss_at, half_sum]; rfl

theorem final_loss (m : (ℓ : Loc nD τ sig) → Buf (Elt Ideal) ℓ) (c : Dev nD) :
    (dats m 0 c).arrAt 3 (cfgs 0).N = Cert.Reference45Ideal.Read.val_main_v49 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  rw [after0_3, ref_loss_at, half_sum]
  refine Product.run_sum (J := 8) (B := 512) (K := 4096) (fun n h => (outsAt0 m c n h).1) (losses m c)
    (loss_first m c) (loss_next m c) rfl t ht y _ (fun s k hl => ?_)
  have hd : t.val / 8 = 0 := Nat.div_eq_of_lt (Nat.lt_of_lt_of_eq t.isLt N_0)
  have hr : s.val * 512 + k.val = (8 * (t.val / 8) + s.val) * 512 + k.val := by omega
  exact congrArg (· * _) (mean_congr (row_at m c ⟨8 * (t.val / 8) + s.val, Pipeline.run_point_lt_of_flush t ht s⟩ k ⟨s.val * 512 + k.val, hl⟩ hr)
    (weight_at m c _) (target_at m c ⟨8 * (t.val / 8) + s.val, Pipeline.run_point_lt_of_flush t ht s⟩ k ⟨s.val * 512 + k.val, hl⟩ hr))

theorem algebraic : Cert.algebraic_Kernel45Ideal_Reference45Ideal (hKernel45Ideal := Cert.Kernel45Ideal.Gen.facts)
    (hReference45Ideal := Cert.Reference45Ideal.Gen.facts) := by
  pair_intro
  · run_from Cert.Kernel45Ideal.Gen.run_main m g
  · refine θ_run_mono (Cert.Reference45Ideal.Value.run m' g') ?_
    intro r hr c
    refine ⟨(hr c).1.trans ?_, (hr c).2.1.trans ?_, (hr c).2.2.1.trans ?_, (hr c).2.2.2⟩
    · refine (Cert.Reference45Ideal.Read.val_main_v49_eq _ _ _).trans ?_
      rw [(hagree c).1, (hagree c).2.1, (hagree c).2.2]
      exact (final_loss m c).symm
    · rw [Cert.Reference45Ideal.Read.val_main_v48_eq, (hagree c).1, (hagree c).2.1, (hagree c).2.2]
      exact (final_dx m c).symm
    · refine (Cert.Reference45Ideal.Read.val_main_v32_eq _ _ _).trans ?_
      rw [(hagree c).1, (hagree c).2.1, (hagree c).2.2]
      exact (final_dw m c).symm

end Cert.FinalLoss
-- ==== Proof.Rows.GateNorm.lean ====
/- The SSD mixer's gate and the norm after it, a block of rows at each point. -/
import proofs.«01_k».proof.Defs
import proofs.«01_k».proof.Proof.Product
import proofs.«01_k».proof.Proof.Gen.Kernel46Ideal.Value
import proofs.«01_k».proof.Proof.Gen.Reference46Ideal.Run
import proofs.«01_k».proof.Proof.Gen.Reference46Ideal.Read
import Idealize.ShloMosaic.Lib.Claim
set_option maxRecDepth 16384
noncomputable section
open Idealize.ShloMosaic Idealize.ShloMosaic.TcCoe Idealize.SL.Sem
open Idealize.ShloMosaic.Pipeline (Dat)
open Cert.Kernel46Ideal Cert.Kernel46Ideal.Gen
namespace Cert.GateNorm

/-- A number times its logistic function. -/
def silu (z : EReal) : EReal := z * Ideal.div (Ideal.ofBits .f32 0x3F800000#32) (Ideal.ofBits .f32 0x3F800000#32 + Ideal.exp (-z))

/-- A gated entry of a row. -/
def gated (y z : Fin 2048 → EReal) (q : Fin 2048) : EReal := y q * silu (z q)

/-- One over the root of a gated row's mean square, the epsilon added. -/
def rs (y z : Fin 2048 → EReal) : EReal :=
  Ideal.rsqrt (Ideal.div (∑ k, gated y z k * gated y z k) (Ideal.ofBits .f32 0x45000000#32) + Ideal.ofBits .f32 0x3727C5AC#32)

theorem gate_at (z y : FVec Ideal S256x2048 .f32) (w : FVec Ideal S1x2048 .f32) (j) :
    k0_pay1 (F := Ideal) z y w j = gated (fun k => y (ix2 (j 0) k)) (fun k => z (ix2 (j 0) k)) (j 1)
      * rs (fun k => y (ix2 (j 0) k)) (fun k => z (ix2 (j 0) k)) * w (ix2 0 (j 1)) := by
  idx_vars j
  pointwise [k0_pay1, rs, gated, silu]
  simp only [zero_sub]

open Cert.Reference46Ideal.Read in
theorem ref_at (y z : FVec Ideal S4096x2048 .f32) (w : FVec Ideal S1x2048 .f32) (j) :
    val_main_v20 (F := Ideal) y z w j = gated (fun k => y (ix2 (j 0) k)) (fun k => z (ix2 (j 0) k)) (j 1)
      * rs (fun k => y (ix2 (j 0) k)) (fun k => z (ix2 (j 0) k)) * w (ix2 0 (j 1)) := by
  idx_vars j
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2,
    val_main_cst_3, rs, gated, silu]

theorem idx : ∀ t : Fin cfg0.N, win0_0.index t = ![t.val, 0] ∧ win0_1.index t = ![t.val, 0] ∧ win0_2.index t = ![0, 0] ∧
    win0_3.index t = ![t.val, 0] :=
  (by decide +kernel : ∀ t : Fin grid0.N, _)

theorem final (m : (ℓ : Loc nD τ sig) → Buf (Elt Ideal) ℓ) (c : Dev nD) :
    (dats m 0 c).arrAt 3 (cfgs 0).N = Cert.Reference46Ideal.Read.val_main_v20 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold out0_3; frame_out
  rw [gate_at, ref_at]
  have hy : ∀ (a a' b b' : Fin 2048 → EReal) (q q' : Fin 2048) (v v' : EReal), (∀ k, a k = a' k) → (∀ k, b k = b' k) → q = q' → v = v' →
      gated a b q * rs a b * v = gated a' b' q' * rs a' b' * v' := fun a a' b b' q q' v v' ha hb hq hv => by
    rw [funext ha, funext hb, hq, hv]
  refine hy _ _ _ _ _ _ _ _ (fun k => ?_) (fun k => ?_) ?_ ?_
  · blk_ext [iblk, V, idx t]
  · blk_ext [iblk, V, idx t]
  · exact Fin.ext (by blk_simp [idx t])
  · blk_ext [iblk, V, idx t]

theorem algebraic : Cert.algebraic_Kernel46Ideal_Reference46Ideal (hKernel46Ideal := Cert.Kernel46Ideal.Gen.facts)
    (hReference46Ideal := Cert.Reference46Ideal.Gen.facts) := by
  pair_intro
  · run_from Cert.Kernel46Ideal.Gen.run_main m g
  · run_from Cert.Reference46Ideal.Value.run m' g'
    exact (Cert.Reference46Ideal.Read.val_main_v20_eq _ _ _).trans (final m c).symm

end Cert.GateNorm
-- ==== Proof.Rows.ConvSilu.lean ====
/- The SSD mixer's causal convolution over four rows and the function after it, a block of columns at each point. -/
import proofs.«01_k».proof.Defs
import proofs.«01_k».proof.Proof.Product
import proofs.«01_k».proof.Proof.Gen.Kernel47Ideal.Value
import proofs.«01_k».proof.Proof.Gen.Reference47Ideal.Run
import proofs.«01_k».proof.Proof.Gen.Reference47Ideal.Read
import Idealize.ShloMosaic.Lib.Claim
import Idealize.ShloMosaic.Lib.KernelVsHost
import Idealize.ShloMosaic.Lib.WordCmp
set_option maxRecDepth 16384
noncomputable section
open Idealize.ShloMosaic Idealize.ShloMosaic.TcCoe Idealize.SL.Sem
open Idealize.ShloMosaic.Pipeline (Dat)
open Cert.Kernel47Ideal Cert.Kernel47Ideal.Gen
namespace Cert.ConvSilu

/-- A number times its logistic function. -/
def silu (z : EReal) : EReal := z * Ideal.div 1 (1 + Ideal.exp (-z))

/-- A column shifted down by `d` rows, zeros coming in. -/
def shifted (x : Fin 4096 → EReal) (d : ℕ) (t : Fin 4096) : EReal :=
  if d ≤ t.val then x ⟨t.val - d, Nat.lt_of_le_of_lt (Nat.sub_le _ _) t.isLt⟩ else 0

/-- The convolution of a column, from the bias on. -/
def conv (x : Fin 4096 → EReal) (w : Fin 4 → EReal) (b : EReal) (t : Fin 4096) : EReal :=
  b + w 0 * shifted x 3 t + w 1 * shifted x 2 t + w 2 * shifted x 1 t + w 3 * x t

/-! ## The kernel -/

/-- A block turned by `n` rows. -/
theorem rot_at (n : BitVec 32) (y : FVec Ideal S4096x128 .f32) (h : S4096x128.Rotates 0 none) (t t' : Fin 4096) (c : Fin 128)
    (ht : t'.val = (t.val + 4096 - n.toNat % 4096) % 4096) :
    dynamicRotate 0 n none y h (ix2 t c) = y (ix2 t' c) :=
  dynamicRotate_apply 0 n y h _ _ fun b => by
    match b with
    | ⟨0, _⟩ => exact ht
    | ⟨1, _⟩ => rfl

/-- Rows from `n` on take the row `n` before; the first `n` rows take zero. -/
theorem shift_at (n : ℕ) (hn : n < 4096) (y : FVec Ideal S4096x128 .f32) (h : S4096x128.Rotates 0 none)
    (hi : S4096x128.Iotas .tc 32 [0]) (t : Fin 4096) (c : Fin 128) :
    select (cmpi .sge (iota .tc S4096x128 32 [0] hi) (broadcast S4096x128 (BitVec.ofNat 32 n)))
        (dynamicRotate 0 (BitVec.ofNat 32 n) none y h) (broadcast S4096x128 (Scalar.ofBits (F := Ideal) .f32 0x00000000#32)) (ix2 t c)
      = shifted (fun k => y (ix2 k c)) n t := by
  have hm : cmpi .sge (iota .tc S4096x128 32 [0] hi) (broadcast S4096x128 (BitVec.ofNat 32 n)) (ix2 t c) = if n ≤ t.val then 1#1 else 0#1 := by
    have ht := t.isLt
    pointwise
    word_cmp
    by_cases h : n ≤ t.val <;> simp [h]
  have hz : broadcast S4096x128 (Scalar.ofBits (F := Ideal) .f32 0x00000000#32) (ix2 t c) = (0 : EReal) := Ideal.ofBits_zero_f32
  show Scalar.select (cmpi .sge (iota .tc S4096x128 32 [0] hi) (broadcast S4096x128 (BitVec.ofNat 32 n)) (ix2 t c)) (dynamicRotate 0 (BitVec.ofNat 32 n) none y h (ix2 t c)) (broadcast S4096x128 (Scalar.ofBits (F := Ideal) .f32 0x00000000#32) (ix2 t c)) = _
  rw [hm, hz]
  have hN : (BitVec.ofNat 32 n).toNat = n := by rw [BitVec.toNat_ofNat]; omega
  unfold shifted
  split_ifs with hle
  · rw [rot_at _ y h t ⟨t.val - n, by omega⟩ c (by rw [hN]; show t.val - n = _; omega)]
    rfl
  · rfl

/-- The sum of the bias and four products, at an entry. -/
theorem sum_at (b w₀ w₁ w₂ w₃ : FVec Ideal S1x128 .f32) (x₀ x₁ x₂ x₃ : FVec Ideal S4096x128 .f32) (h : S1x128.Broadcasts S4096x128) (t : Fin 4096) (c : Fin 128) :
    addf (addf (addf (addf (addf (broadcastTo S4096x128 b h) (broadcast S4096x128 (Scalar.ofBits (F := Ideal) .f32 0x00000000#32)))
      (mulf (broadcastTo S4096x128 w₀ h) x₀)) (mulf (broadcastTo S4096x128 w₁ h) x₁)) (mulf (broadcastTo S4096x128 w₂ h) x₂))
      (mulf (broadcastTo S4096x128 w₃ h) x₃) (ix2 t c)
      = b (ix2 0 c) + w₀ (ix2 0 c) * x₀ (ix2 t c) + w₁ (ix2 0 c) * x₁ (ix2 t c) + w₂ (ix2 0 c) * x₂ (ix2 t c) + w₃ (ix2 0 c) * x₃ (ix2 t c) := by
  pointwise

theorem conv_at (x : FVec Ideal S4096x128 .f32) (w : FVec Ideal S4x128 .f32) (b : FVec Ideal S1x128 .f32) (j) :
    k0_pay2 (F := Ideal) x b (View.ld w r0_2) (View.ld w r0_3) (View.ld w r0_4) (View.ld w r0_5) j
      = conv (fun k => x (ix2 k (j 1))) (fun k => w (ix2 k (j 1))) (b (ix2 0 (j 1))) (j 0) := by
  idx_vars j
  refine (sum_at _ _ _ _ _ _ _ _ _ broadcasts_S1x128_S4096x128 j0 j1).trans ?_
  rw [shift_at 3 (by omega), shift_at 2 (by omega), shift_at 1 (by omega)]
  unfold conv
  pointwise

theorem block_at (x : FVec Ideal S4096x128 .f32) (w : FVec Ideal S4x128 .f32) (b : FVec Ideal S1x128 .f32) (j) :
    k0_pay1 (F := Ideal) (k0_pay2 (F := Ideal) x b (View.ld w r0_2) (View.ld w r0_3) (View.ld w r0_4) (View.ld w r0_5)) j
      = silu (conv (fun k => x (ix2 k (j 1))) (fun k => w (ix2 k (j 1))) (b (ix2 0 (j 1))) (j 0)) := by
  rw [← conv_at]
  generalize k0_pay2 (F := Ideal) x b (View.ld w r0_2) (View.ld w r0_3) (View.ld w r0_4) (View.ld w r0_5) = y
  pointwise [k0_pay1, silu]
  simp only [zero_sub]

/-! ## The reference -/

section Reference
open Cert.Reference47Ideal.Read

/-- The array under three rows of zeros, read `d` rows above. -/
theorem padded_at (x : FVec Ideal S4096x4096 .f32) (d : ℕ) (hd : d ≤ 3) (t c : Fin 4096) (r : Fin 4099) (hr : r.val + d = t.val + 3) :
    val_main_v1 (F := Ideal) x (ix2 r c) = shifted (fun k => x (ix2 k c)) d t := by
  have h : val_main_v1 (F := Ideal) x (ix2 r c) = if h : r.val < 3 then 0 else x (ix2 (⟨r.val - 3, by omega⟩ : Fin 4096) c) := by
    pointwise [val_main_v1, val_main_v0, val_main_cst]
  rw [h]
  unfold shifted
  by_cases h3 : r.val < 3
  · rw [dif_pos h3, if_neg (by omega)]
  · rw [dif_neg h3, if_pos (by omega)]
    exact congrArg (fun k : Fin 4096 => x (ix2 k c)) (Fin.ext (show r.val - 3 = t.val - d by omega))

theorem ref_conv_at (x : FVec Ideal S4096x4096 .f32) (w : FVec Ideal S4x4096 .f32) (b : FVec Ideal S1x4096 .f32) (j) :
    val_main_v32 (F := Ideal) x w b j
      = conv (fun k => x (ix2 k (j 1))) (fun k => w (ix2 k (j 1))) (b (ix2 0 (j 1))) (j 0) := by
  idx_vars j
  have h0 : j0.val < 4096 := j0.isLt
  unfold conv
  rw [← padded_at x 3 (by omega) j0 j1 ⟨j0.val, by omega⟩ rfl, ← padded_at x 2 (by omega) j0 j1 ⟨1 + j0.val, by omega⟩ (by show 1 + j0.val + 2 = j0.val + 3; omega),
    ← padded_at x 1 (by omega) j0 j1 ⟨2 + j0.val, by omega⟩ (by show 2 + j0.val + 1 = j0.val + 3; omega),
    show (fun k => x (ix2 k j1)) j0 = val_main_v1 (F := Ideal) x (ix2 ⟨3 + j0.val, by omega⟩ j1) from (padded_at x 0 (by omega) j0 j1 ⟨3 + j0.val, by omega⟩ (by show 3 + j0.val + 0 = j0.val + 3; omega)).symm]
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_cst_0]
  rw [add_comm]
  simp only [add_assoc]

theorem ref_at (x : FVec Ideal S4096x4096 .f32) (w : FVec Ideal S4x4096 .f32) (b : FVec Ideal S1x4096 .f32) (j) :
    val_main_v39 (F := Ideal) x w b j
      = silu (conv (fun k => x (ix2 k (j 1))) (fun k => w (ix2 k (j 1))) (b (ix2 0 (j 1))) (j 0)) := by
  rw [← ref_conv_at]
  pointwise [val_main_v39, val_main_v38, val_main_v37, val_main_v36, val_main_v35, val_main_v34, val_main_v33,
    val_main_cst_1, val_main_cst_2, silu]

end Reference

theorem idx : ∀ t : Fin cfg0.N, win0_0.index t = ![0, t.val] ∧ win0_1.index t = ![0, t.val] ∧ win0_2.index t = ![0, t.val] ∧
    win0_3.index t = ![0, t.val] :=
  (by decide +kernel : ∀ t : Fin grid0.N, _)

theorem silu_conv_congr {x x' : Fin 4096 → EReal} {w w' : Fin 4 → EReal} {b b' : EReal} {t t' : Fin 4096} (hx : ∀ k, x k = x' k)
    (hw : ∀ k, w k = w' k) (hb : b = b') (ht : t = t') : silu (conv x w b t) = silu (conv x' w' b' t') := by
  rw [funext hx, funext hw, hb, ht]

theorem final (m : (ℓ : Loc nD τ sig) → Buf (Elt Ideal) ℓ) (c : Dev nD) :
    (dats m 0 c).arrAt 3 (cfgs 0).N = Cert.Reference47Ideal.Read.val_main_v39 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold out0_3; frame_out
  rw [block_at, ref_at]
  refine silu_conv_congr (fun k => ?_) (fun k => ?_) ?_ ?_
  · blk_ext [iblk, V, idx t]
  · blk_ext [iblk, V, idx t]
  · blk_ext [iblk, V, idx t]
  · exact Fin.ext (by blk_simp [idx t])

theorem algebraic : Cert.algebraic_Kernel47Ideal_Reference47Ideal (hKernel47Ideal := Cert.Kernel47Ideal.Gen.facts)
    (hReference47Ideal := Cert.Reference47Ideal.Gen.facts) := by
  pair_intro
  · run_from Cert.Kernel47Ideal.Gen.run_main m g
  · refine θ_run_mono (Cert.Reference47Ideal.Value.run m' g') ?_
    intro r hr c
    refine ⟨(hr c).1.trans ?_, (hr c).2⟩
    rw [Cert.Reference47Ideal.Read.val_main_v39_eq, (hagree c).1, (hagree c).2.1, (hagree c).2.2]
    exact (final m c).symm

end Cert.ConvSilu
-- ==== Proof.lean ====
/- The certificate: the frames of every program and the value claims, put together. -/
import proofs.«01_k».proof.Defs
import Idealize.ShloMosaic.Lib.Quiescent
import Idealize.ShloMosaic.Lib.StableHlo.RunHlo
import proofs.«01_k».proof.Proof.Gen.Kernel.Frame
import proofs.«01_k».proof.Proof.Pool.Claim
import proofs.«01_k».proof.Proof.Gen.Kernel3.Frame
import proofs.«01_k».proof.Proof.Prod.Up
import proofs.«01_k».proof.Proof.Gen.Kernel4.Frame
import proofs.«01_k».proof.Proof.Prod.Down
import proofs.«01_k».proof.Proof.Gen.Kernel5.Frame
import proofs.«01_k».proof.Proof.Prod.DownDx
import proofs.«01_k».proof.Proof.Gen.Kernel6.Frame
import proofs.«01_k».proof.Proof.Prod.DownDw
import proofs.«01_k».proof.Proof.Gen.Kernel7.Frame
import proofs.«01_k».proof.Proof.Prod.UpUDx
import proofs.«01_k».proof.Proof.Gen.Kernel8.Frame
import proofs.«01_k».proof.Proof.Prod.UpGDx
import proofs.«01_k».proof.Proof.Gen.Kernel9.Frame
import proofs.«01_k».proof.Proof.Prod.UpGDw
import proofs.«01_k».proof.Proof.Gen.Kernel10.Frame
import proofs.«01_k».proof.Proof.Prod.InZ
import proofs.«01_k».proof.Proof.Gen.Kernel11.Frame
import proofs.«01_k».proof.Proof.Prod.InXbc
import proofs.«01_k».proof.Proof.Gen.Kernel12.Frame
import proofs.«01_k».proof.Proof.Prod.Out
import proofs.«01_k».proof.Proof.Gen.Kernel13.Frame
import proofs.«01_k».proof.Proof.Prod.OutDx
import proofs.«01_k».proof.Proof.Gen.Kernel14.Frame
import proofs.«01_k».proof.Proof.Prod.OutDw
import proofs.«01_k».proof.Proof.Gen.Kernel15.Frame
import proofs.«01_k».proof.Proof.Prod.InZDx
import proofs.«01_k».proof.Proof.Gen.Kernel16.Frame
import proofs.«01_k».proof.Proof.Prod.InXbcDx
import proofs.«01_k».proof.Proof.Gen.Kernel17.Frame
import proofs.«01_k».proof.Proof.Prod.InXbcDw
import proofs.«01_k».proof.Proof.Gen.Kernel18.Frame
import proofs.«01_k».proof.Proof.Prod.MixInDx
import proofs.«01_k».proof.Proof.Gen.Kernel19.Frame
import proofs.«01_k».proof.Proof.Adam.SsmWIn
import proofs.«01_k».proof.Proof.Gen.Kernel20.Frame
import proofs.«01_k».proof.Proof.Adam.SsmWOut
import proofs.«01_k».proof.Proof.Gen.Kernel21.Frame
import proofs.«01_k».proof.Proof.Adam.MixWIn
import proofs.«01_k».proof.Proof.Gen.Kernel22.Frame
import proofs.«01_k».proof.Proof.Adam.MixWOut
import proofs.«01_k».proof.Proof.Gen.Kernel23.Frame
import proofs.«01_k».proof.Proof.Adam.PoolW
import proofs.«01_k».proof.Proof.Gen.Kernel24.Frame
import proofs.«01_k».proof.Proof.Adam.SsmConvW
import proofs.«01_k».proof.Proof.Gen.Kernel25.Frame
import proofs.«01_k».proof.Proof.Adam.SsmConvB
import proofs.«01_k».proof.Proof.Gen.Kernel26.Frame
import proofs.«01_k».proof.Proof.Adam.SsmNorm
import proofs.«01_k».proof.Proof.Gen.Kernel27.Frame
import proofs.«01_k».proof.Proof.Adam.Norms
import proofs.«01_k».proof.Proof.Gen.Kernel28.Frame
import proofs.«01_k».proof.Proof.Adam.NormFinal
import proofs.«01_k».proof.Proof.Gen.Kernel29.Frame
import proofs.«01_k».proof.Proof.Adam.FfnConvW
import proofs.«01_k».proof.Proof.Gen.Kernel30.Frame
import proofs.«01_k».proof.Proof.Adam.FfnConvB
import proofs.«01_k».proof.Proof.Gen.Kernel31.Frame
import proofs.«01_k».proof.Proof.Adam.Sinks
import proofs.«01_k».proof.Proof.Gen.Kernel32.Frame
import proofs.«01_k».proof.Proof.Adam.Heads
import proofs.«01_k».proof.Proof.Gen.Kernel33.Frame
import proofs.«01_k».proof.Proof.Adam.FfnWUp
import proofs.«01_k».proof.Proof.Gen.Kernel34.Frame
import proofs.«01_k».proof.Proof.Adam.FfnWDown
import proofs.«01_k».proof.Proof.Gen.Kernel35.Frame
import proofs.«01_k».proof.Proof.Adam.Slabs
import proofs.«01_k».proof.Proof.Gen.Kernel36.Frame
import proofs.«01_k».proof.Proof.Prod.MixIn
import proofs.«01_k».proof.Proof.Gen.Kernel37.Frame
import proofs.«01_k».proof.Proof.Prod.MixOut
import proofs.«01_k».proof.Proof.Gen.Kernel38.Frame
import proofs.«01_k».proof.Proof.Prod.MixOutDx
import proofs.«01_k».proof.Proof.Gen.Kernel39.Frame
import proofs.«01_k».proof.Proof.Prod.MixOutDw
import proofs.«01_k».proof.Proof.Gen.Kernel40.Frame
import proofs.«01_k».proof.Proof.Prod.MixInDw
import proofs.«01_k».proof.Proof.Gen.Kernel41.Frame
import proofs.«01_k».proof.Proof.Prod.InDt
import proofs.«01_k».proof.Proof.Gen.Kernel42.Frame
import proofs.«01_k».proof.Proof.Prod.InDtDw
import proofs.«01_k».proof.Proof.Gen.Kernel43.Frame
import proofs.«01_k».proof.Proof.Prod.InDtDx
import proofs.«01_k».proof.Proof.Gen.Kernel44.Frame
import proofs.«01_k».proof.Proof.Rows.NormFwd
import proofs.«01_k».proof.Proof.Gen.Kernel45.Frame
import proofs.«01_k».proof.Proof.Rows.FinalLoss
import proofs.«01_k».proof.Proof.Gen.Kernel46.Frame
import proofs.«01_k».proof.Proof.Rows.GateNorm
import proofs.«01_k».proof.Proof.Gen.Kernel47.Frame
import proofs.«01_k».proof.Proof.Rows.ConvSilu
import proofs.«01_k».proof.Proof.Gen.Pre_pool_finite

set_option maxRecDepth 16384

noncomputable section

namespace Cert.Proof

open Idealize.ShloMosaic Idealize.SL.Sem

variable {nD : ℕ} {τ : Topo} {sig : RefSig} {Val : EltTy → Type} {Λ : Labels}

/-- A program without semaphores leaves no counter raised, so what its run says of the arguments is its frame. -/
theorem quiet {defs : Defs nD τ sig Val Λ} {p : (c : Thread nD τ) → Prog (TpuEff nD τ sig Val Λ c.2) PUnit} {s : MemSt nD τ sig Val}
    {Q A : PUnit × MemSt nD τ sig Val → Prop} (h : θ_run defs p s Q) (h0 : sig.nSem + sig.nDmaSem = 0) (hQ : ∀ r, Q r → A r) :
    θ_run defs p s fun r => A r ∧ r.2.sem = fun _ => 0 :=
  θ_run_mono h fun r hr => ⟨hQ r hr, sem_eq_zero_of_no_sems h0 _⟩

/-- Every claim of the statement. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Cert.Kernel45.Gen.facts, Cert.Kernel45Ideal.Gen.facts, Cert.Reference45Ideal.Gen.facts,
    Cert.Kernel46.Gen.facts, Cert.Kernel46Ideal.Gen.facts, Cert.Reference46Ideal.Gen.facts,
    Cert.Kernel47.Gen.facts, Cert.Kernel47Ideal.Gen.facts, Cert.Reference47Ideal.Gen.facts,
    Cert.Pre_pool_finite.Gen.facts,
    fun m g _ => Kernel.Gen.frame m g, fun m g _ => KernelIdeal.Gen.frame m g, fun m g _ => KernelIdeal.Gen.frame m g,
    fun m g _ => quiet (ReferenceIdeal.Value.run m g) rfl fun _ h c => (h c).2.2.2, fun m g _ => quiet (ReferenceIdeal.Value.run m g) rfl fun _ h c => (h c).2.2.2,
    fun m g _ => Kernel3.Gen.frame m g, fun m g _ => Kernel3Ideal.Gen.frame m g,
    fun m g _ => quiet (Reference3Ideal.Value.run m g) rfl fun _ h c => (h c).2,
    fun m g _ => Kernel4.Gen.frame m g, fun m g _ => Kernel4Ideal.Gen.frame m g,
    fun m g _ => quiet (Reference4Ideal.Value.run m g) rfl fun _ h c => (h c).2,
    fun m g _ => Kernel5.Gen.frame m g, fun m g _ => Kernel5Ideal.Gen.frame m g,
    fun m g _ => quiet (Reference5Ideal.Value.run m g) rfl fun _ h c => (h c).2,
    fun m g _ => Kernel6.Gen.frame m g, fun m g _ => Kernel6Ideal.Gen.frame m g,
    fun m g _ => quiet (Reference6Ideal.Value.run m g) rfl fun _ h c => (h c).2,
    fun m g _ => Kernel7.Gen.frame m g, fun m g _ => Kernel7Ideal.Gen.frame m g,
    fun m g _ => quiet (Reference7Ideal.Value.run m g) rfl fun _ h c => (h c).2,
    fun m g _ => Kernel8.Gen.frame m g, fun m g _ => Kernel8Ideal.Gen.frame m g,
    fun m g _ => quiet (Reference8Ideal.Value.run m g) rfl fun _ h c => (h c).2.2,
    fun m g _ => Kernel9.Gen.frame m g, fun m g _ => Kernel9Ideal.Gen.frame m g,
    fun m g _ => quiet (Reference9Ideal.Value.run m g) rfl fun _ h c => (h c).2,
    fun m g _ => Kernel10.Gen.frame m g, fun m g _ => Kernel10Ideal.Gen.frame m g,
    fun m g _ => quiet (Reference10Ideal.Value.run m g) rfl fun _ h c => (h c).2,
    fun m g _ => Kernel11.Gen.frame m g, fun m g _ => Kernel11Ideal.Gen.frame m g,
    fun m g _ => quiet (Reference11Ideal.Value.run m g) rfl fun _ h c => (h c).2,
    fun m g _ => Kernel12.Gen.frame m g, fun m g _ => Kernel12Ideal.Gen.frame m g,
    fun m g _ => quiet (Reference12Ideal.Value.run m g) rfl fun _ h c => (h c).2,
    fun m g _ => Kernel13.Gen.frame m g, fun m g _ => Kernel13Ideal.Gen.frame m g,
    fun m g _ => quiet (Reference13Ideal.Value.run m g) rfl fun _ h c => (h c).2,
    fun m g _ => Kernel14.Gen.frame m g, fun m g _ => Kernel14Ideal.Gen.frame m g,
    fun m g _ => quiet (Reference14Ideal.Value.run m g) rfl fun _ h c => (h c).2,
    fun m g _ => Kernel15.Gen.frame m g, fun m g _ => Kernel15Ideal.Gen.frame m g,
    fun m g _ => quiet (Reference15Ideal.Value.run m g) rfl fun _ h c => (h c).2,
    fun m g _ => Kernel16.Gen.frame m g, fun m g _ => Kernel16Ideal.Gen.frame m g,
    fun m g _ => quiet (Reference16Ideal.Value.run m g) rfl fun _ h c => (h c).2,
    fun m g _ => Kernel17.Gen.frame m g, fun m g _ => Kernel17Ideal.Gen.frame m g,
    fun m g _ => quiet (Reference17Ideal.Value.run m g) rfl fun _ h c => (h c).2,
    fun m g _ => Kernel18.Gen.frame m g, fun m g _ => Kernel18Ideal.Gen.frame m g,
    fun m g _ => quiet (Reference18Ideal.Value.run m g) rfl fun _ h c => (h c).2.2,
    fun m g _ => Kernel19.Gen.frame m g, fun m g _ => Kernel19Ideal.Gen.frame m g,
    fun m g _ => quiet (Reference19Ideal.Value.run m g) rfl fun _ h c => (h c).2.2.2.2,
    fun m g _ => Kernel20.Gen.frame m g, fun m g _ => Kernel20Ideal.Gen.frame m g,
    fun m g _ => quiet (Reference20Ideal.Value.run m g) rfl fun _ h c => (h c).2.2.2.2,
    fun m g _ => Kernel21.Gen.frame m g, fun m g _ => Kernel21Ideal.Gen.frame m g,
    fun m g _ => quiet (Reference21Ideal.Value.run m g) rfl fun _ h c => (h c).2.2.2.2,
    fun m g _ => Kernel22.Gen.frame m g, fun m g _ => Kernel22Ideal.Gen.frame m g,
    fun m g _ => quiet (Reference22Ideal.Value.run m g) rfl fun _ h c => (h c).2.2.2.2,
    fun m g _ => Kernel23.Gen.frame m g, fun m g _ => Kernel23Ideal.Gen.frame m g,
    fun m g _ => quiet (Reference23Ideal.Value.run m g) rfl fun _ h c => (h c).2.2.2.2,
    fun m g _ => Kernel24.Gen.frame m g, fun m g _ => Kernel24Ideal.Gen.frame m g,
    fun m g _ => quiet (Reference24Ideal.Value.run m g) rfl fun _ h c => (h c).2.2.2.2,
    fun m g _ => Kernel25.Gen.frame m g, fun m g _ => Kernel25Ideal.Gen.frame m g,
    fun m g _ => quiet (Reference25Ideal.Value.run m g) rfl fun _ h c => (h c).2.2.2.2,
    fun m g _ => Kernel26.Gen.frame m g, fun m g _ => Kernel26Ideal.Gen.frame m g,
    fun m g _ => quiet (Reference26Ideal.Value.run m g) rfl fun _ h c => (h c).2.2.2.2,
    fun m g _ => Kernel27.Gen.frame m g, fun m g _ => Kernel27Ideal.Gen.frame m g,
    fun m g _ => quiet (Reference27Ideal.Value.run m g) rfl fun _ h c => (h c).2.2.2.2,
    fun m g _ => Kernel28.Gen.frame m g, fun m g _ => Kernel28Ideal.Gen.frame m g,
    fun m g _ => quiet (Reference28Ideal.Value.run m g) rfl fun _ h c => (h c).2.2.2.2,
    fun m g _ => Kernel29.Gen.frame m g, fun m g _ => Kernel29Ideal.Gen.frame m g,
    fun m g _ => quiet (Reference29Ideal.Value.run m g) rfl fun _ h c => (h c).2.2.2.2,
    fun m g _ => Kernel30.Gen.frame m g, fun m g _ => Kernel30Ideal.Gen.frame m g,
    fun m g _ => quiet (Reference30Ideal.Value.run m g) rfl fun _ h c => (h c).2.2.2.2,
    fun m g _ => Kernel31.Gen.frame m g, fun m g _ => Kernel31Ideal.Gen.frame m g,
    fun m g _ => quiet (Reference31Ideal.Value.run m g) rfl fun _ h c => (h c).2.2.2.2,
    fun m g _ => Kernel32.Gen.frame m g, fun m g _ => Kernel32Ideal.Gen.frame m g,
    fun m g _ => quiet (Reference32Ideal.Value.run m g) rfl fun _ h c => (h c).2.2.2.2,
    fun m g _ => Kernel33.Gen.frame m g, fun m g _ => Kernel33Ideal.Gen.frame m g,
    fun m g _ => quiet (Reference33Ideal.Value.run m g) rfl fun _ h c => (h c).2.2.2.2,
    fun m g _ => Kernel34.Gen.frame m g, fun m g _ => Kernel34Ideal.Gen.frame m g,
    fun m g _ => quiet (Reference34Ideal.Value.run m g) rfl fun _ h c => (h c).2.2.2.2,
    fun m g _ => Kernel35.Gen.frame m g, fun m g _ => Kernel35Ideal.Gen.frame m g,
    fun m g _ => quiet (Reference35Ideal.Value.run m g) rfl fun _ h c => (h c).2.2.2.2.2,
    fun m g _ => Kernel36.Gen.frame m g, fun m g _ => Kernel36Ideal.Gen.frame m g,
    fun m g _ => quiet (Reference36Ideal.Value.run m g) rfl fun _ h c => (h c).2,
    fun m g _ => Kernel37.Gen.frame m g, fun m g _ => Kernel37Ideal.Gen.frame m g,
    fun m g _ => quiet (Reference37Ideal.Value.run m g) rfl fun _ h c => (h c).2,
    fun m g _ => Kernel38.Gen.frame m g, fun m g _ => Kernel38Ideal.Gen.frame m g,
    fun m g _ => quiet (Reference38Ideal.Value.run m g) rfl fun _ h c => (h c).2,
    fun m g _ => Kernel39.Gen.frame m g, fun m g _ => Kernel39Ideal.Gen.frame m g,
    fun m g _ => quiet (Reference39Ideal.Value.run m g) rfl fun _ h c => (h c).2,
    fun m g _ => Kernel40.Gen.frame m g, fun m g _ => Kernel40Ideal.Gen.frame m g,
    fun m g _ => quiet (Reference40Ideal.Value.run m g) rfl fun _ h c => (h c).2,
    fun m g _ => Kernel41.Gen.frame m g, fun m g _ => Kernel41Ideal.Gen.frame m g,
    fun m g _ => quiet (Reference41Ideal.Value.run m g) rfl fun _ h c => (h c).2,
    fun m g _ => Kernel42.Gen.frame m g, fun m g _ => Kernel42Ideal.Gen.frame m g,
    fun m g _ => quiet (Reference42Ideal.Value.run m g) rfl fun _ h c => (h c).2,
    fun m g _ => Kernel43.Gen.frame m g, fun m g _ => Kernel43Ideal.Gen.frame m g,
    fun m g _ => quiet (Reference43Ideal.Value.run m g) rfl fun _ h c => (h c).2.2,
    fun m g _ => Kernel44.Gen.frame m g, fun m g _ => Kernel44Ideal.Gen.frame m g,
    fun m g _ => quiet (Reference44Ideal.Value.run m g) rfl fun _ h c => (h c).2,
    fun m g _ => Kernel45.Gen.frame m g, fun m g _ => Kernel45Ideal.Gen.frame m g,
    fun m g _ => quiet (Reference45Ideal.Value.run m g) rfl fun _ h c => (h c).2.2.2,
    fun m g _ => Kernel46.Gen.frame m g, fun m g _ => Kernel46Ideal.Gen.frame m g,
    fun m g _ => quiet (Reference46Ideal.Value.run m g) rfl fun _ h c => (h c).2,
    fun m g _ => Kernel47.Gen.frame m g, fun m g _ => Kernel47Ideal.Gen.frame m g,
    fun m g _ => quiet (Reference47Ideal.Value.run m g) rfl fun _ h c => (h c).2,
    trivial, Cert.Pool.algebraic,
    trivial, Cert.Up.algebraic,
    trivial, Cert.Down.algebraic,
    trivial, Cert.DownDx.algebraic,
    trivial, Cert.DownDw.algebraic,
    trivial, Cert.UpUDx.algebraic,
    trivial, Cert.UpGDx.algebraic,
    trivial, Cert.UpGDw.algebraic,
    trivial, Cert.InZ.algebraic,
    trivial, Cert.InXbc.algebraic,
    trivial, Cert.Out.algebraic,
    trivial, Cert.OutDx.algebraic,
    trivial, Cert.OutDw.algebraic,
    trivial, Cert.InZDx.algebraic,
    trivial, Cert.InXbcDx.algebraic,
    trivial, Cert.InXbcDw.algebraic,
    trivial, Cert.MixInDx.algebraic,
    Cert.Adam.constants rfl rfl, Cert.Adam.SsmWIn.algebraic,
    Cert.Adam.constants rfl rfl, Cert.Adam.SsmWOut.algebraic,
    Cert.Adam.constants rfl rfl, Cert.Adam.MixWIn.algebraic,
    Cert.Adam.constants rfl rfl, Cert.Adam.MixWOut.algebraic,
    Cert.Adam.constants rfl rfl, Cert.Adam.PoolW.algebraic,
    Cert.Adam.constants rfl rfl, Cert.Adam.SsmConvW.algebraic,
    Cert.Adam.constants rfl rfl, Cert.Adam.SsmConvB.algebraic,
    Cert.Adam.constants rfl rfl, Cert.Adam.SsmNorm.algebraic,
    Cert.Adam.constants rfl rfl, Cert.Adam.Norms.algebraic,
    Cert.Adam.constants rfl rfl, Cert.Adam.NormFinal.algebraic,
    Cert.Adam.constants rfl rfl, Cert.Adam.FfnConvW.algebraic,
    Cert.Adam.constants rfl rfl, Cert.Adam.FfnConvB.algebraic,
    Cert.Adam.constants rfl rfl, Cert.Adam.Sinks.algebraic,
    Cert.Adam.constants rfl rfl, Cert.Adam.Heads.algebraic,
    Cert.Adam.constants rfl rfl, Cert.Adam.FfnWUp.algebraic,
    Cert.Adam.constants rfl rfl, Cert.Adam.FfnWDown.algebraic,
    trivial, Cert.Adam.Slabs.algebraic,
    trivial, Cert.MixIn.algebraic,
    trivial, Cert.MixOut.algebraic,
    trivial, Cert.MixOutDx.algebraic,
    trivial, Cert.MixOutDw.algebraic,
    trivial, Cert.MixInDw.algebraic,
    trivial, Cert.InDt.algebraic,
    trivial, Cert.InDtDw.algebraic,
    trivial, Cert.InDtDx.algebraic,
    trivial, Cert.NormFwd.algebraic,
    trivial, Cert.FinalLoss.algebraic,
    trivial, Cert.GateNorm.algebraic,
    trivial, Cert.ConvSilu.algebraic⟩

end Cert.Proof

end
